-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v164) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v170) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v112) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x4096 : Shape := ⟨2, ![16384, 4096]⟩
abbrev S32x8x256x64 : Shape := ⟨4, ![32, 8, 256, 64]⟩
abbrev S8192x1024 : Shape := ⟨2, ![8192, 1024]⟩
abbrev S_ : Shape := ⟨0, ![]⟩

class Facts : Prop where
  slices_S16384x4096_S8192x1024_0_2560 : S16384x4096.Slices ![0, 2560] S8192x1024
  bcast_S_S8192x1024 : S_.BroadcastsInDim S8192x1024 (![] : Fin 0 → Fin S8192x1024.rank)

variable [Facts]

def fn {F : FTy → Type} [FloatOps F] (main_arg0 : FVec F S16384x4096 .f32) (main_arg1 : FVec F S32x8x256x64 .f32) (main_arg2 : FVec F S32x8x256x64 .f32) : IVec S8192x1024 1 :=
  let main_v0 : FVec F S8192x1024 .f32 := (extractStridedSlice S8192x1024 ![0, 2560] · slices_S16384x4096_S8192x1024_0_2560) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Kernel.lean ====
abbrev S16384x4096 : Shape := ⟨2, ![16384, 4096]⟩
abbrev S32x8x256x64 : Shape := ⟨4, ![32, 8, 256, 64]⟩
abbrev S8192x512 : Shape := ⟨2, ![8192, 512]⟩
abbrev S32x2x8x256x64 : Shape := ⟨5, ![32, 2, 8, 256, 64]⟩
abbrev S256x512 : Shape := ⟨2, ![256, 512]⟩
abbrev S1x8x256x64 : Shape := ⟨4, ![1, 8, 256, 64]⟩
abbrev S1x2x8x256x64 : Shape := ⟨5, ![1, 2, 8, 256, 64]⟩
abbrev S8x256x64 : Shape := ⟨3, ![8, 256, 64]⟩
abbrev S1x1x8x256x64 : Shape := ⟨5, ![1, 1, 8, 256, 64]⟩
abbrev S256x128 : Shape := ⟨2, ![256, 128]⟩
abbrev S256x64 : Shape := ⟨2, ![256, 64]⟩
abbrev S1x256x64 : Shape := ⟨3, ![1, 256, 64]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S32x8x256x64, .f32⟩
  | .hbm, ⟨2, _⟩ => ⟨S32x8x256x64, .f32⟩
  | .hbm, ⟨3, _⟩ => ⟨S8192x512, .f32⟩
  | .hbm, ⟨4, _⟩ => ⟨S32x2x8x256x64, .f32⟩
  | .hbm, ⟨5, _⟩ => ⟨S32x2x8x256x64, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x8x256x64, .f32⟩
  | .local _ .vmem, ⟨7, _⟩ => ⟨S1x8x256x64, .f32⟩
  | .local _ .vmem, ⟨8, _⟩ => ⟨S1x8x256x64, .f32⟩
  | .local _ .vmem, ⟨9, _⟩ => ⟨S1x8x256x64, .f32⟩
  | .local _ .vmem, ⟨10, _⟩ => ⟨S256x512, .f32⟩
  | .local _ .vmem, ⟨11, _⟩ => ⟨S256x512, .f32⟩
  | .local _ .vmem, ⟨12, _⟩ => ⟨S1x2x8x256x64, .f32⟩
  | .local _ .vmem, ⟨13, _⟩ => ⟨S1x2x8x256x64, .f32⟩
  | .local _ .vmem, ⟨14, _⟩ => ⟨S1x2x8x256x64, .f32⟩
  | .local _ .vmem, ⟨15, _⟩ => ⟨S1x2x8x256x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x4096 : Shape := ⟨2, ![16384, 4096]⟩
abbrev S32x8x256x64 : Shape := ⟨4, ![32, 8, 256, 64]⟩
abbrev S8192x4096 : Shape := ⟨2, ![8192, 4096]⟩
abbrev S32x256x4096 : Shape := ⟨3, ![32, 256, 4096]⟩
abbrev S32x256x512 : Shape := ⟨3, ![32, 256, 512]⟩
abbrev S32x256x8x64 : Shape := ⟨4, ![32, 256, 8, 64]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S8192x512 : Shape := ⟨2, ![8192, 512]⟩
abbrev S32x1x8x256x64 : Shape := ⟨5, ![32, 1, 8, 256, 64]⟩
abbrev S32x2x8x256x64 : Shape := ⟨5, ![32, 2, 8, 256, 64]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S32x8x256x64, .f32⟩
  | .hbm, ⟨2, _⟩ => ⟨S32x8x256x64, .f32⟩
  | .hbm, ⟨3, _⟩ => ⟨S8192x4096, .f32⟩
  | .hbm, ⟨4, _⟩ => ⟨S32x256x4096, .f32⟩
  | .hbm, ⟨5, _⟩ => ⟨S32x256x512, .f32⟩
  | .hbm, ⟨6, _⟩ => ⟨S32x256x8x64, .f32⟩
  | .hbm, ⟨7, _⟩ => ⟨S32x8x256x64, .f32⟩
  | .hbm, ⟨8, _⟩ => ⟨S32x256x512, .f32⟩
  | .hbm, ⟨9, _⟩ => ⟨S32x256x8x64, .f32⟩
  | .hbm, ⟨10, _⟩ => ⟨S32x8x256x64, .f32⟩
  | .hbm, ⟨11, _⟩ => ⟨S32x256x512, .f32⟩
  | .hbm, ⟨12, _⟩ => ⟨S32x256x8x64, .f32⟩
  | .hbm, ⟨13, _⟩ => ⟨S32x8x256x64, .f32⟩
  | .hbm, ⟨14, _⟩ => ⟨S32x8x256x256, .f32⟩
  | .hbm, ⟨15, _⟩ => ⟨S_, .f32⟩
  | .hbm, ⟨16, _⟩ => ⟨S32x8x256x256, .f32⟩
  | .hbm, ⟨17, _⟩ => ⟨S32x8x256x256, .f32⟩
  | .hbm, ⟨18, _⟩ => ⟨S_, .f32⟩
  | .hbm, ⟨19, _⟩ => ⟨S32x8x256, .f32⟩
  | .hbm, ⟨20, _⟩ => ⟨S_, .f32⟩
  | .hbm, ⟨21, _⟩ => ⟨S32x8x256, .f32⟩
  | .hbm, ⟨22, _⟩ => ⟨S32x8x256, .f32⟩
  | .hbm, ⟨23, _⟩ => ⟨S32x8x256x1, .f32⟩
  | .hbm, ⟨24, _⟩ => ⟨S32x8x256x256, .f32⟩
  | .hbm, ⟨25, _⟩ => ⟨S32x8x256x256, .f32⟩
  | .hbm, ⟨26, _⟩ => ⟨S32x8x256x256, .f32⟩
  | .hbm, ⟨27, _⟩ => ⟨S_, .f32⟩
  | .hbm, ⟨28, _⟩ => ⟨S32x8x256, .f32⟩
  | .hbm, ⟨29, _⟩ => ⟨S32x8x256x1, .f32⟩
  | .hbm, ⟨30, _⟩ => ⟨S32x8x256x256, .f32⟩
  | .hbm, ⟨31, _⟩ => ⟨S32x8x256x256, .f32⟩
  | .hbm, ⟨32, _⟩ => ⟨S32x8x256x64, .f32⟩
  | .hbm, ⟨33, _⟩ => ⟨S32x256x8x64, .f32⟩
  | .hbm, ⟨34, _⟩ => ⟨S8192x512, .f32⟩
  | .hbm, ⟨35, _⟩ => ⟨S32x1x8x256x64, .f32⟩
  | .hbm, ⟨36, _⟩ => ⟨S32x1x8x256x64, .f32⟩
  | .hbm, ⟨37, _⟩ => ⟨S32x2x8x256x64, .f32⟩
  | .hbm, ⟨38, _⟩ => ⟨S32x1x8x256x64, .f32⟩
  | .hbm, ⟨39, _⟩ => ⟨S32x1x8x256x64, .f32⟩
  | .hbm, ⟨40, _⟩ => ⟨S32x2x8x256x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel2.lean ====
abbrev S16384x1024 : Shape := ⟨2, ![16384, 1024]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S512x2816 : Shape := ⟨2, ![512, 2816]⟩
abbrev S1x9216 : Shape := ⟨2, ![1, 9216]⟩
abbrev S256x1024 : Shape := ⟨2, ![256, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 14
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x1x9216, .f32⟩
  | .hbm, ⟨2, _⟩ => ⟨S4x3x1024, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S4x2x2816x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1x1024, .f32⟩
  | .local _ .vmem, ⟨6, _⟩ => ⟨S1x1x1024x5632, .f32⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S8192x1024 : Shape := ⟨2, ![8192, 1024]⟩
abbrev S32x256x1024 : Shape := ⟨3, ![32, 256, 1024]⟩
abbrev S4x2048x1024 : Shape := ⟨3, ![4, 2048, 1024]⟩
abbrev S1x1x9216 : Shape := ⟨3, ![1, 1, 9216]⟩
abbrev S4x1x9216 : Shape := ⟨3, ![4, 1, 9216]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32x256x5632 : Shape := ⟨3, ![32, 256, 5632]⟩
abbrev S32x256x2816 : Shape := ⟨3, ![32, 256, 2816]⟩
abbrev S4x2048 : Shape := ⟨2, ![4, 2048]⟩
abbrev S4x2048x1 : Shape := ⟨3, ![4, 2048, 1]⟩
abbrev S4x1x1024 : Shape := ⟨3, ![4, 1, 1024]⟩
abbrev S4x2048x5632 : Shape := ⟨3, ![4, 2048, 5632]⟩
abbrev S4x2048x2816 : Shape := ⟨3, ![4, 2048, 2816]⟩

abbrev nBuf : Space → Nat
  | .hbm => 155
  | .vmem => 0
  | .smem => 0
  | _ => 0

abbrev hbmTy0_0 (i : Nat) : BufTy := match i % 128 with
  | 0 => ⟨S16384x1024, .f32⟩
  | 1 => ⟨S8x1x9216, .f32⟩
  | 2 => ⟨S4x3x1024, .f32⟩
  | 3 => ⟨S4x3x1024, .f32⟩
  | 4 => ⟨S4x2x1024x5632, .f32⟩
  | 5 => ⟨S4x2x2816x1024, .f32⟩
  | 6 => ⟨S8192x1024, .f32⟩
  | 7 => ⟨S32x256x1024, .f32⟩
  | 8 => ⟨S8192x1024, .f32⟩
  | 9 => ⟨S4x2048x1024, .f32⟩
  | 10 => ⟨S1x1x9216, .f32⟩
  | 11 => ⟨S4x1x9216, .f32⟩
  | 12 => ⟨S1x1x1024, .f32⟩
  | 13 => ⟨S1024, .f32⟩
  | 14 => ⟨S32x256x1024, .f32⟩
  | 15 => ⟨S_, .f32⟩
  | 16 => ⟨S32x256, .f32⟩
  | 17 => ⟨S32x256x1, .f32⟩
  | 18 => ⟨S_, .f32⟩
  | 19 => ⟨S32x256x1, .f32⟩
  | 20 => ⟨S32x256x1, .f32⟩
  | 21 => ⟨S_, .f32⟩
  | 22 => ⟨S32x256x1, .f32⟩
  | 23 => ⟨S32x256x1, .f32⟩
  | 24 => ⟨S32x256x1, .f32⟩
  | 25 => ⟨S32x256x1024, .f32⟩
  | 26 => ⟨S32x256x1024, .f32⟩
  | 27 => ⟨S1x1x1024, .f32⟩
  | 28 => ⟨S32x256x1024, .f32⟩
  | 29 => ⟨S32x256x1024, .f32⟩
  | 30 => ⟨S1x1x1024, .f32⟩
  | 31 => ⟨S_, .f32⟩
  | 32 => ⟨S1x1x1024, .f32⟩
  | 33 => ⟨S1x1x1024, .f32⟩
  | 34 => ⟨S32x256x1024, .f32⟩
  | 35 => ⟨S32x256x1024, .f32⟩
  | 36 => ⟨S1x1x1024, .f32⟩
  | 37 => ⟨S32x256x1024, .f32⟩
  | 38 => ⟨S32x256x1024, .f32⟩
  | 39 => ⟨S1x1x1024x5632, .f32⟩
  | 40 => ⟨S1024x5632, .f32⟩
  | 41 => ⟨S1x1x2816x1024, .f32⟩
  | 42 => ⟨S2816x1024, .f32⟩
  | 43 => ⟨S32x256x5632, .f32⟩
  | 44 => ⟨S32x256x2816, .f32⟩
  | 45 => ⟨S32x256x2816, .f32⟩
  | 46 => ⟨S32x256x2816, .f32⟩
  | 47 => ⟨S32x256x2816, .f32⟩
  | 48 => ⟨S_, .f32⟩
  | 49 => ⟨S32x256x2816, .f32⟩
  | 50 => ⟨S32x256x2816, .f32⟩
  | 51 => ⟨S_, .f32⟩
  | 52 => ⟨S32x256x2816, .f32⟩
  | 53 => ⟨S32x256x2816, .f32⟩
  | 54 => ⟨S32x256x2816, .f32⟩
  | 55 => ⟨S32x256x2816, .f32⟩
  | 56 => ⟨S32x256x1024, .f32⟩
  | 57 => ⟨S1x1x1024, .f32⟩
  | 58 => ⟨S1024, .f32⟩
  | 59 => ⟨S1x1x1024, .f32⟩
  | 60 => ⟨S_, .f32⟩
  | 61 => ⟨S1x1x1024, .f32⟩
  | 62 => ⟨S1x1x1024, .f32⟩
  | 63 => ⟨S32x256x1024, .f32⟩
  | 64 => ⟨S_, .f32⟩
  | 65 => ⟨S32x256, .f32⟩
  | 66 => ⟨S32x256x1, .f32⟩
  | 67 => ⟨S_, .f32⟩
  | 68 => ⟨S32x256x1, .f32⟩
  | 69 => ⟨S32x256x1, .f32⟩
  | 70 => ⟨S_, .f32⟩
  | 71 => ⟨S32x256x1, .f32⟩
  | 72 => ⟨S32x256x1, .f32⟩
  | 73 => ⟨S32x256x1, .f32⟩
  | 74 => ⟨S32x256x1024, .f32⟩
  | 75 => ⟨S32x256x1024, .f32⟩
  | 76 => ⟨S1x1x1024, .f32⟩
  | 77 => ⟨S32x256x1024, .f32⟩
  | 78 => ⟨S32x256x1024, .f32⟩
  | 79 => ⟨S32x256x1024, .f32⟩
  | 80 => ⟨S32x256x1024, .f32⟩
  | 81 => ⟨S32x256x1024, .f32⟩
  | 82 => ⟨S1x1x1024, .f32⟩
  | 83 => ⟨S1024, .f32⟩
  | 84 => ⟨S4x2048x1024, .f32⟩
  | 85 => ⟨S_, .f32⟩
  | 86 => ⟨S4x2048, .f32⟩
  | 87 => ⟨S4x2048x1, .f32⟩
  | 88 => ⟨S_, .f32⟩
  | 89 => ⟨S4x2048x1, .f32⟩
  | 90 => ⟨S4x2048x1, .f32⟩
  | 91 => ⟨S_, .f32⟩
  | 92 => ⟨S4x2048x1, .f32⟩
  | 93 => ⟨S4x2048x1, .f32⟩
  | 94 => ⟨S4x2048x1, .f32⟩
  | 95 => ⟨S4x2048x1024, .f32⟩
  | 96 => ⟨S4x2048x1024, .f32⟩
  | 97 => ⟨S1x1x1024, .f32⟩
  | 98 => ⟨S4x2048x1024, .f32⟩
  | 99 => ⟨S4x2048x1024, .f32⟩
  | 100 => ⟨S4x1x1024, .f32⟩
  | 101 => ⟨S_, .f32⟩
  | 102 => ⟨S4x1x1024, .f32⟩
  | 103 => ⟨S4x1x1024, .f32⟩
  | 104 => ⟨S4x2048x1024, .f32⟩
  | 105 => ⟨S4x2048x1024, .f32⟩
  | 106 => ⟨S4x1x1024, .f32⟩
  | 107 => ⟨S4x2048x1024, .f32⟩
  | 108 => ⟨S4x2048x1024, .f32⟩
  | 109 => ⟨S1x1x1024x5632, .f32⟩
  | 110 => ⟨S1024x5632, .f32⟩
  | 111 => ⟨S1x1x2816x1024, .f32⟩
  | 112 => ⟨S2816x1024, .f32⟩
  | 113 => ⟨S4x2048x5632, .f32⟩
  | 114 => ⟨S4x2048x2816, .f32⟩
  | 115 => ⟨S4x2048x2816, .f32⟩
  | 116 => ⟨S4x2048x2816, .f32⟩
  | 117 => ⟨S4x2048x2816, .f32⟩
  | 118 => ⟨S_, .f32⟩
  | 119 => ⟨S4x2048x2816, .f32⟩
  | 120 => ⟨S4x2048x2816, .f32⟩
  | 121 => ⟨S_, .f32⟩
  | 122 => ⟨S4x2048x2816, .f32⟩
  | 123 => ⟨S4x2048x2816, .f32⟩
  | 124 => ⟨S4x2048x2816, .f32⟩
  | 125 => ⟨S4x2048x2816, .f32⟩
  | 126 => ⟨S4x2048x1024, .f32⟩
  | 127 => ⟨S1x1x1024, .f32⟩
  | _ => ⟨S16384x1024, .f32⟩

abbrev hbmTy0_1 (i : Nat) : BufTy := match i % 128 with
  | 0 => ⟨S1024, .f32⟩
  | 1 => ⟨S4x1x1024, .f32⟩
  | 2 => ⟨S_, .f32⟩
  | 3 => ⟨S4x1x1024, .f32⟩
  | 4 => ⟨S4x1x1024, .f32⟩
  | 5 => ⟨S4x2048x1024, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x1, .f32⟩
  | 16 => ⟨S4x2048x1024, .f32⟩
  | 17 => ⟨S4x2048x1024, .f32⟩
  | 18 => ⟨S1x1x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S8192x1024, .f32⟩
  | 25 => ⟨S8192x1024, .f32⟩
  | 26 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_cst_13 : Ref sig .tc := ⟨.hbm, 137, rfl⟩
abbrev main_v101 : Ref sig .tc := ⟨.hbm, 138, rfl⟩
abbrev main_v102 : Ref sig .tc := ⟨.hbm, 139, rfl⟩
abbrev main_cst_14 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]
-- ==== Kernel3.lean ====
abbrev S16384x1024 : Shape := ⟨2, ![16384, 1024]⟩
abbrev S8x1x9216 : Shape := ⟨3, ![8, 1, 9216]⟩
abbrev S4x3x1024 : Shape := ⟨3, ![4, 3, 1024]⟩
abbrev S2x1024x4096 : Shape := ⟨3, ![2, 1024, 4096]⟩
abbrev S1x1x1024 : Shape := ⟨3, ![1, 1, 1024]⟩
abbrev S1024 : Shape := ⟨1, ![1024]⟩
abbrev S1x1024 : Shape := ⟨2, ![1, 1024]⟩
abbrev S16384x4096 : Shape := ⟨2, ![16384, 4096]⟩
abbrev S512x1024 : Shape := ⟨2, ![512, 1024]⟩
abbrev S1x1x9216 : Shape := ⟨3, ![1, 1, 9216]⟩
abbrev S1x1024x4096 : Shape := ⟨3, ![1, 1024, 4096]⟩
abbrev S512x4096 : Shape := ⟨2, ![512, 4096]⟩
abbrev S1x9216 : Shape := ⟨2, ![1, 9216]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8x1x9216, .f32⟩
  | .hbm, ⟨2, _⟩ => ⟨S4x3x1024, .f32⟩
  | .hbm, ⟨3, _⟩ => ⟨S2x1024x4096, .f32⟩
  | .hbm, ⟨4, _⟩ => ⟨S1x1x1024, .f32⟩
  | .hbm, ⟨5, _⟩ => ⟨S1024, .f32⟩
  | .hbm, ⟨6, _⟩ => ⟨S1x1024, .f32⟩
  | .hbm, ⟨7, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1x1024x4096, .f32⟩
  | .local _ .vmem, ⟨6, _⟩ => ⟨S512x4096, .f32⟩
  | .local _ .vmem, ⟨7, _⟩ => ⟨S512x4096, .f32⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S8x1x9216 : Shape := ⟨3, ![8, 1, 9216]⟩
abbrev S4x3x1024 : Shape := ⟨3, ![4, 3, 1024]⟩
abbrev S2x1024x4096 : Shape := ⟨3, ![2, 1024, 4096]⟩
abbrev S8192x1024 : Shape := ⟨2, ![8192, 1024]⟩
abbrev S32x256x1024 : Shape := ⟨3, ![32, 256, 1024]⟩
abbrev S4x2048x1024 : Shape := ⟨3, ![4, 2048, 1024]⟩
abbrev S1x1x9216 : Shape := ⟨3, ![1, 1, 9216]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1024x4096 : Shape := ⟨3, ![1, 1024, 4096]⟩
abbrev S1024x4096 : Shape := ⟨2, ![1024, 4096]⟩
abbrev S32x256x4096 : Shape := ⟨3, ![32, 256, 4096]⟩
abbrev S4x1x9216 : Shape := ⟨3, ![4, 1, 9216]⟩
abbrev S4x2048 : Shape := ⟨2, ![4, 2048]⟩
abbrev S4x2048x1 : Shape := ⟨3, ![4, 2048, 1]⟩
abbrev S4x1x1024 : Shape := ⟨3, ![4, 1, 1024]⟩
abbrev S4x2048x4096 : Shape := ⟨3, ![4, 2048, 4096]⟩
abbrev S8192x4096 : Shape := ⟨2, ![8192, 4096]⟩
abbrev S16384x4096 : Shape := ⟨2, ![16384, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x9216, .f32⟩
  | .hbm, ⟨2, _⟩ => ⟨S4x3x1024, .f32⟩
  | .hbm, ⟨3, _⟩ => ⟨S2x1024x4096, .f32⟩
  | .hbm, ⟨4, _⟩ => ⟨S8192x1024, .f32⟩
  | .hbm, ⟨5, _⟩ => ⟨S32x256x1024, .f32⟩
  | .hbm, ⟨6, _⟩ => ⟨S8192x1024, .f32⟩
  | .hbm, ⟨7, _⟩ => ⟨S4x2048x1024, .f32⟩
  | .hbm, ⟨8, _⟩ => ⟨S1x1x9216, .f32⟩
  | .hbm, ⟨9, _⟩ => ⟨S1x1x1024, .f32⟩
  | .hbm, ⟨10, _⟩ => ⟨S1024, .f32⟩
  | .hbm, ⟨11, _⟩ => ⟨S32x256x1024, .f32⟩
  | .hbm, ⟨12, _⟩ => ⟨S_, .f32⟩
  | .hbm, ⟨13, _⟩ => ⟨S32x256, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S32x256x1, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S1x1024x4096, .f32⟩
  | .hbm, ⟨37, _⟩ => ⟨S1024x4096, .f32⟩
  | .hbm, ⟨38, _⟩ => ⟨S32x256x4096, .f32⟩
  | .hbm, ⟨39, _⟩ => ⟨S4x1x9216, .f32⟩
  | .hbm, ⟨40, _⟩ => ⟨S1x1x1024, .f32⟩
  | .hbm, ⟨41, _⟩ => ⟨S1024, .f32⟩
  | .hbm, ⟨42, _⟩ => ⟨S4x2048x1024, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x1024, .f32⟩
  | .hbm, ⟨54, _⟩ => ⟨S4x2048x1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S4x1x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x2048x1024, .f32⟩
  | .hbm, ⟨63, _⟩ => ⟨S4x2048x1024, .f32⟩
  | .hbm, ⟨64, _⟩ => ⟨S4x1x1024, .f32⟩
  | .hbm, ⟨65, _⟩ => ⟨S4x2048x1024, .f32⟩
  | .hbm, ⟨66, _⟩ => ⟨S4x2048x1024, .f32⟩
  | .hbm, ⟨67, _⟩ => ⟨S1x1024x4096, .f32⟩
  | .hbm, ⟨68, _⟩ => ⟨S1024x4096, .f32⟩
  | .hbm, ⟨69, _⟩ => ⟨S4x2048x4096, .f32⟩
  | .hbm, ⟨70, _⟩ => ⟨S8192x4096, .f32⟩
  | .hbm, ⟨71, _⟩ => ⟨S8192x4096, .f32⟩
  | .hbm, ⟨72, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel4.lean ====
abbrev S16384x1024 : Shape := ⟨2, ![16384, 1024]⟩
abbrev S8x1x9216 : Shape := ⟨3, ![8, 1, 9216]⟩
abbrev S4x3x1024 : Shape := ⟨3, ![4, 3, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1x1024 : Shape := ⟨3, ![1, 1, 1024]⟩
abbrev S1024 : Shape := ⟨1, ![1024]⟩
abbrev S1x1024 : Shape := ⟨2, ![1, 1024]⟩
abbrev S1x3x1024 : Shape := ⟨3, ![1, 3, 1024]⟩
abbrev S3x1024 : Shape := ⟨2, ![3, 1024]⟩
abbrev S512x1024 : Shape := ⟨2, ![512, 1024]⟩
abbrev S16x1024 : Shape := ⟨2, ![16, 1024]⟩
abbrev S1x1x9216 : Shape := ⟨3, ![1, 1, 9216]⟩
abbrev S1x1024x3072 : Shape := ⟨3, ![1, 1024, 3072]⟩
abbrev S1x1024x1024 : Shape := ⟨3, ![1, 1024, 1024]⟩
abbrev S544x1024 : Shape := ⟨2, ![544, 1024]⟩
abbrev S544x256 : Shape := ⟨2, ![544, 256]⟩
abbrev S1x9216 : Shape := ⟨2, ![1, 9216]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S3x256 : Shape := ⟨2, ![3, 256]⟩
abbrev S1x256 : Shape := ⟨2, ![1, 256]⟩
abbrev S1024x1024 : Shape := ⟨2, ![1024, 1024]⟩

abbrev nBuf : Space → Nat
  | .hbm => 17
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S8x1x9216, .f32⟩
  | .hbm, ⟨2, _⟩ => ⟨S4x3x1024, .f32⟩
  | .hbm, ⟨3, _⟩ => ⟨S4x3x1024, .f32⟩
  | .hbm, ⟨4, _⟩ => ⟨S2x1024x3072, .f32⟩
  | .hbm, ⟨5, _⟩ => ⟨S2x3x1024, .f32⟩
  | .hbm, ⟨6, _⟩ => ⟨S2x1024x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x3x1024, .f32⟩
  | .hbm, ⟨14, _⟩ => ⟨S3x1024, .f32⟩
  | .hbm, ⟨15, _⟩ => ⟨S2x1024x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1x9216, .f32⟩
  | .local _ .vmem, ⟨7, _⟩ => ⟨S1x1x9216, .f32⟩
  | .local _ .vmem, ⟨8, _⟩ => ⟨S1x1024, .f32⟩
  | .local _ .vmem, ⟨9, _⟩ => ⟨S1x1024, .f32⟩
  | .local _ .vmem, ⟨10, _⟩ => ⟨S1x1024x3072, .f32⟩
  | .local _ .vmem, ⟨11, _⟩ => ⟨S3x1024, .f32⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S544x1024, .bf16⟩
  | .local _ .vmem, ⟨16, _⟩ => ⟨S544x256, .f32⟩
  | .local _ .vmem, ⟨17, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S8x1x9216 : Shape := ⟨3, ![8, 1, 9216]⟩
abbrev S4x3x1024 : Shape := ⟨3, ![4, 3, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S8192x1024 : Shape := ⟨2, ![8192, 1024]⟩
abbrev S32x256x1024 : Shape := ⟨3, ![32, 256, 1024]⟩
abbrev S4x2048x1024 : Shape := ⟨3, ![4, 2048, 1024]⟩
abbrev S1x1x9216 : Shape := ⟨3, ![1, 1, 9216]⟩
abbrev S4x1x9216 : Shape := ⟨3, ![4, 1, 9216]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S32x256x3072 : Shape := ⟨3, ![32, 256, 3072]⟩
abbrev S32x258x1024 : Shape := ⟨3, ![32, 258, 1024]⟩
abbrev S1x1024 : Shape := ⟨2, ![1, 1024]⟩
abbrev S4x2048 : Shape := ⟨2, ![4, 2048]⟩
abbrev S4x2048x1 : Shape := ⟨3, ![4, 2048, 1]⟩
abbrev S4x1x1024 : Shape := ⟨3, ![4, 1, 1024]⟩
abbrev S4x2048x3072 : Shape := ⟨3, ![4, 2048, 3072]⟩
abbrev S4x2050x1024 : Shape := ⟨3, ![4, 2050, 1024]⟩

abbrev nBuf : Space → Nat
  | .hbm => 192
  | .vmem => 0
  | .smem => 0
  | _ => 0

abbrev hbmTy0_0 (i : Nat) : BufTy := match i % 128 with
  | 0 => ⟨S16384x1024, .f32⟩
  | 1 => ⟨S8x1x9216, .f32⟩
  | 2 => ⟨S4x3x1024, .f32⟩
  | 3 => ⟨S4x3x1024, .f32⟩
  | 4 => ⟨S2x1024x3072, .f32⟩
  | 5 => ⟨S2x3x1024, .f32⟩
  | 6 => ⟨S2x1024x1024, .f32⟩
  | 7 => ⟨S8192x1024, .f32⟩
  | 8 => ⟨S32x256x1024, .f32⟩
  | 9 => ⟨S8192x1024, .f32⟩
  | 10 => ⟨S4x2048x1024, .f32⟩
  | 11 => ⟨S1x1x9216, .f32⟩
  | 12 => ⟨S4x1x9216, .f32⟩
  | 13 => ⟨S1x1x1024, .f32⟩
  | 14 => ⟨S1024, .f32⟩
  | 15 => ⟨S32x256x1024, .f32⟩
  | 16 => ⟨S_, .f32⟩
  | 17 => ⟨S32x256, .f32⟩
  | 18 => ⟨S32x256x1, .f32⟩
  | 19 => ⟨S_, .f32⟩
  | 20 => ⟨S32x256x1, .f32⟩
  | 21 => ⟨S32x256x1, .f32⟩
  | 22 => ⟨S_, .f32⟩
  | 23 => ⟨S32x256x1, .f32⟩
  | 24 => ⟨S32x256x1, .f32⟩
  | 25 => ⟨S32x256x1, .f32⟩
  | 26 => ⟨S32x256x1024, .f32⟩
  | 27 => ⟨S32x256x1024, .f32⟩
  | 28 => ⟨S1x1x1024, .f32⟩
  | 29 => ⟨S32x256x1024, .f32⟩
  | 30 => ⟨S32x256x1024, .f32⟩
  | 31 => ⟨S1x1x1024, .f32⟩
  | 32 => ⟨S_, .f32⟩
  | 33 => ⟨S1x1x1024, .f32⟩
  | 34 => ⟨S1x1x1024, .f32⟩
  | 35 => ⟨S32x256x1024, .f32⟩
  | 36 => ⟨S32x256x1024, .f32⟩
  | 37 => ⟨S1x1x1024, .f32⟩
  | 38 => ⟨S32x256x1024, .f32⟩
  | 39 => ⟨S32x256x1024, .f32⟩
  | 40 => ⟨S1x1024x3072, .f32⟩
  | 41 => ⟨S1024x3072, .f32⟩
  | 42 => ⟨S1x3x1024, .f32⟩
  | 43 => ⟨S3x1024, .f32⟩
  | 44 => ⟨S1x1024x1024, .f32⟩
  | 45 => ⟨S1024x1024, .f32⟩
  | 46 => ⟨S32x256x3072, .f32⟩
  | 47 => ⟨S32x256x1024, .f32⟩
  | 48 => ⟨S32x256x1024, .f32⟩
  | 49 => ⟨S32x256x1024, .f32⟩
  | 50 => ⟨S32x256x1024, .f32⟩
  | 51 => ⟨S_, .i32⟩
  | 52 => ⟨S_, .f32⟩
  | 53 => ⟨S32x258x1024, .f32⟩
  | 54 => ⟨S1x1024, .f32⟩
  | 55 => ⟨S1024, .f32⟩
  | 56 => ⟨S32x256x1024, .f32⟩
  | 57 => ⟨S1x1x1024, .f32⟩
  | 58 => ⟨S32x256x1024, .f32⟩
  | 59 => ⟨S32x256x1024, .f32⟩
  | 60 => ⟨S1x1024, .f32⟩
  | 61 => ⟨S1024, .f32⟩
  | 62 => ⟨S32x256x1024, .f32⟩
  | 63 => ⟨S1x1x1024, .f32⟩
  | 64 => ⟨S32x256x1024, .f32⟩
  | 65 => ⟨S32x256x1024, .f32⟩
  | 66 => ⟨S32x256x1024, .f32⟩
  | 67 => ⟨S1x1024, .f32⟩
  | 68 => ⟨S1024, .f32⟩
  | 69 => ⟨S32x256x1024, .f32⟩
  | 70 => ⟨S1x1x1024, .f32⟩
  | 71 => ⟨S32x256x1024, .f32⟩
  | 72 => ⟨S32x256x1024, .f32⟩
  | 73 => ⟨S32x256x1024, .f32⟩
  | 74 => ⟨S32x256x1024, .f32⟩
  | 75 => ⟨S32x256x1024, .f32⟩
  | 76 => ⟨S1x1x1024, .f32⟩
  | 77 => ⟨S1024, .f32⟩
  | 78 => ⟨S1x1x1024, .f32⟩
  | 79 => ⟨S_, .f32⟩
  | 80 => ⟨S1x1x1024, .f32⟩
  | 81 => ⟨S1x1x1024, .f32⟩
  | 82 => ⟨S32x256x1024, .f32⟩
  | 83 => ⟨S_, .f32⟩
  | 84 => ⟨S32x256, .f32⟩
  | 85 => ⟨S32x256x1, .f32⟩
  | 86 => ⟨S_, .f32⟩
  | 87 => ⟨S32x256x1, .f32⟩
  | 88 => ⟨S32x256x1, .f32⟩
  | 89 => ⟨S_, .f32⟩
  | 90 => ⟨S32x256x1, .f32⟩
  | 91 => ⟨S32x256x1, .f32⟩
  | 92 => ⟨S32x256x1, .f32⟩
  | 93 => ⟨S32x256x1024, .f32⟩
  | 94 => ⟨S32x256x1024, .f32⟩
  | 95 => ⟨S1x1x1024, .f32⟩
  | 96 => ⟨S32x256x1024, .f32⟩
  | 97 => ⟨S32x256x1024, .f32⟩
  | 98 => ⟨S32x256x1024, .f32⟩
  | 99 => ⟨S32x256x1024, .f32⟩
  | 100 => ⟨S32x256x1024, .f32⟩
  | 101 => ⟨S1x1x1024, .f32⟩
  | 102 => ⟨S1024, .f32⟩
  | 103 => ⟨S4x2048x1024, .f32⟩
  | 104 => ⟨S_, .f32⟩
  | 105 => ⟨S4x2048, .f32⟩
  | 106 => ⟨S4x2048x1, .f32⟩
  | 107 => ⟨S_, .f32⟩
  | 108 => ⟨S4x2048x1, .f32⟩
  | 109 => ⟨S4x2048x1, .f32⟩
  | 110 => ⟨S_, .f32⟩
  | 111 => ⟨S4x2048x1, .f32⟩
  | 112 => ⟨S4x2048x1, .f32⟩
  | 113 => ⟨S4x2048x1, .f32⟩
  | 114 => ⟨S4x2048x1024, .f32⟩
  | 115 => ⟨S4x2048x1024, .f32⟩
  | 116 => ⟨S1x1x1024, .f32⟩
  | 117 => ⟨S4x2048x1024, .f32⟩
  | 118 => ⟨S4x2048x1024, .f32⟩
  | 119 => ⟨S4x1x1024, .f32⟩
  | 120 => ⟨S_, .f32⟩
  | 121 => ⟨S4x1x1024, .f32⟩
  | 122 => ⟨S4x1x1024, .f32⟩
  | 123 => ⟨S4x2048x1024, .f32⟩
  | 124 => ⟨S4x2048x1024, .f32⟩
  | 125 => ⟨S4x1x1024, .f32⟩
  | 126 => ⟨S4x2048x1024, .f32⟩
  | 127 => ⟨S4x2048x1024, .f32⟩
  | _ => ⟨S16384x1024, .f32⟩

abbrev hbmTy0_1 (i : Nat) : BufTy := match i % 128 with
  | 0 => ⟨S1x1024x3072, .f32⟩
  | 1 => ⟨S1024x3072, .f32⟩
  | 2 => ⟨S1x3x1024, .f32⟩
  | 3 => ⟨S3x1024, .f32⟩
  | 4 => ⟨S1x1024x1024, .f32⟩
  | 5 => ⟨S1024x1024, .f32⟩
  | 6 => ⟨S4x2048x3072, .f32⟩
  | 7 => ⟨S4x2048x1024, .f32⟩
  | 8 => ⟨S4x2048x1024, .f32⟩
  | 9 => ⟨S4x2048x1024, .f32⟩
  | 10 => ⟨S4x2048x1024, .f32⟩
  | 11 => ⟨S_, .i32⟩
  | 12 => ⟨S_, .f32⟩
  | 13 => ⟨S4x2050x1024, .f32⟩
  | 14 => ⟨S1x1024, .f32⟩
  | 15 => ⟨S1024, .f32⟩
  | 16 => ⟨S4x2048x1024, .f32⟩
  | 17 => ⟨S1x1x1024, .f32⟩
  | 18 => ⟨S4x2048x1024, .f32⟩
  | 19 => ⟨S4x2048x1024, .f32⟩
  | 20 => ⟨S1x1024, .f32⟩
  | 21 => ⟨S1024, .f32⟩
  | 22 => ⟨S4x2048x1024, .f32⟩
  | 23 => ⟨S1x1x1024, .f32⟩
  | 24 => ⟨S4x2048x1024, .f32⟩
  | 25 => ⟨S4x2048x1024, .f32⟩
  | 26 => ⟨S4x2048x1024, .f32⟩
  | 27 => ⟨S1x1024, .f32⟩
  | 28 => ⟨S1024, .f32⟩
  | 29 => ⟨S4x2048x1024, .f32⟩
  | 30 => ⟨S1x1x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S1x1x1024, .f32⟩
  | 37 => ⟨S1024, .f32⟩
  | 38 => ⟨S4x1x1024, .f32⟩
  | 39 => ⟨S_, .f32⟩
  | 40 => ⟨S4x1x1024, .f32⟩
  | 41 => ⟨S4x1x1024, .f32⟩
  | 42 => ⟨S4x2048x1024, .f32⟩
  | 43 => ⟨S_, .f32⟩
  | 44 => ⟨S4x2048, .f32⟩
  | 45 => ⟨S4x2048x1, .f32⟩
  | 46 => ⟨S_, .f32⟩
  | 47 => ⟨S4x2048x1, .f32⟩
  | 48 => ⟨S4x2048x1, .f32⟩
  | 49 => ⟨S_, .f32⟩
  | 50 => ⟨S4x2048x1, .f32⟩
  | 51 => ⟨S4x2048x1, .f32⟩
  | 52 => ⟨S4x2048x1, .f32⟩
  | 53 => ⟨S4x2048x1024, .f32⟩
  | 54 => ⟨S4x2048x1024, .f32⟩
  | 55 => ⟨S1x1x1024, .f32⟩
  | 56 => ⟨S4x2048x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S8192x1024, .f32⟩
  | 62 => ⟨S8192x1024, .f32⟩
  | 63 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_call0_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_3 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_4 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_7 : Ref sig .tc := ⟨.hbm, 104, rfl⟩
abbrev main_v87 : Ref sig .tc := ⟨.hbm, 105, rfl⟩
abbrev main_v88 : Ref sig .tc := ⟨.hbm, 106, rfl⟩
abbrev main_cst_8 : Ref sig .tc := ⟨.hbm, 107, rfl⟩
abbrev main_v89 : Ref sig .tc := ⟨.hbm, 108, rfl⟩
abbrev main_v90 : Ref sig .tc := ⟨.hbm, 109, rfl⟩
abbrev main_cst_9 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_10 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_11 : Ref sig .tc := ⟨.hbm, 139, rfl⟩
abbrev main_call1_v0 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_12 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_13 : Ref sig .tc := ⟨.hbm, 171, rfl⟩
abbrev main_v147 : Ref sig .tc := ⟨.hbm, 172, rfl⟩
abbrev main_v148 : Ref sig .tc := ⟨.hbm, 173, rfl⟩
abbrev main_cst_14 : Ref sig .tc := ⟨.hbm, 174, rfl⟩
abbrev main_v149 : Ref sig .tc := ⟨.hbm, 175, rfl⟩
abbrev main_v150 : Ref sig .tc := ⟨.hbm, 176, rfl⟩
abbrev main_cst_15 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩

abbrev nD : Nat := 1
abbrev τ : Topo := Topo.v7x

variable {F : FTy → Type} [FloatOps F]
-- ==== Kernel5.lean ====
abbrev S16384x1024 : Shape := ⟨2, ![16384, 1024]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S512x2816 : Shape := ⟨2, ![512, 2816]⟩
abbrev S1x9216 : Shape := ⟨2, ![1, 9216]⟩
abbrev S256x1024 : Shape := ⟨2, ![256, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩
abbrev S32x256x1024 : Shape := ⟨3, ![32, 256, 1024]⟩
abbrev S4x2048x1024 : Shape := ⟨3, ![4, 2048, 1024]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x1x9216, .f32⟩
  | .hbm, ⟨2, _⟩ => ⟨S4x3x1024, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S4x2x2816x1024, .bf16⟩
  | .hbm, ⟨13, _⟩ => ⟨S8192x1024, .f32⟩
  | .hbm, ⟨14, _⟩ => ⟨S8192x1024, .f32⟩
  | .hbm, ⟨15, _⟩ => ⟨S32x256x1024, .f32⟩
  | .hbm, ⟨16, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1x1024, .f32⟩
  | .local _ .vmem, ⟨6, _⟩ => ⟨S1x1x1024x5632, .f32⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v388 : BitVec 32 := Scalar.extui v0
  let c0_i32 : BitVec 32 := 0#32
  let v389 : BitVec 1 := Scalar.cmpi .ne v388 c0_i32
  v389

def k0_cond3 (i : grid0.Coords) : BitVec 1 :=
  let arg0 : BitVec 32 := BitVec.ofNat 32 (i 0).val
  let c16_i32 : BitVec 32 := 16#32
  let v0 : BitVec 1 := Scalar.cmpi .slt arg0 c16_i32
  let v417 : BitVec 32 := Scalar.extui v0
  let c0_i32_295 : BitVec 32 := 0#32
  let v418 : BitVec 1 := Scalar.cmpi .ne v417 c0_i32_295
  v418

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v390 : BitVec 1 := Scalar.xori v0 v_true
  let v391 : BitVec 32 := Scalar.extui v390
  let c0_i32_279 : BitVec 32 := 0#32
  let v392 : BitVec 1 := Scalar.cmpi .ne v391 c0_i32_279
  v392

def k0_cond4 (i : grid0.Coords) : BitVec 1 :=
  let arg0 : BitVec 32 := BitVec.ofNat 32 (i 0).val
  let c16_i32 : BitVec 32 := 16#32
  let v0 : BitVec 1 := Scalar.cmpi .slt arg0 c16_i32
  let true_296 : BitVec 1 := 1#1
  let v419 : BitVec 1 := Scalar.xori v0 true_296
  let v420 : BitVec 32 := Scalar.extui v419
  let c0_i32_297 : BitVec 32 := 0#32
  let v421 : BitVec 1 := Scalar.cmpi .ne v420 c0_i32_297
  v421

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S8192x1024 : Shape := ⟨2, ![8192, 1024]⟩
abbrev S32x256x1024 : Shape := ⟨3, ![32, 256, 1024]⟩
abbrev S4x2048x1024 : Shape := ⟨3, ![4, 2048, 1024]⟩
abbrev S1x1x9216 : Shape := ⟨3, ![1, 1, 9216]⟩
abbrev S4x1x9216 : Shape := ⟨3, ![4, 1, 9216]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32x256x5632 : Shape := ⟨3, ![32, 256, 5632]⟩
abbrev S32x256x2816 : Shape := ⟨3, ![32, 256, 2816]⟩
abbrev S4x2048 : Shape := ⟨2, ![4, 2048]⟩
abbrev S4x2048x1 : Shape := ⟨3, ![4, 2048, 1]⟩
abbrev S4x1x1024 : Shape := ⟨3, ![4, 1, 1024]⟩
abbrev S4x2048x5632 : Shape := ⟨3, ![4, 2048, 5632]⟩
abbrev S4x2048x2816 : Shape := ⟨3, ![4, 2048, 2816]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S8x1x9216, .f32⟩
  | 2 => ⟨S4x3x1024, .f32⟩
  | 3 => ⟨S4x3x1024, .f32⟩
  | 4 => ⟨S4x2x1024x5632, .f32⟩
  | 5 => ⟨S4x2x2816x1024, .f32⟩
  | 6 => ⟨S8192x1024, .f32⟩
  | 7 => ⟨S32x256x1024, .f32⟩
  | 8 => ⟨S8192x1024, .f32⟩
  | 9 => ⟨S4x2048x1024, .f32⟩
  | 10 => ⟨S1x1x9216, .f32⟩
  | 11 => ⟨S4x1x9216, .f32⟩
  | 12 => ⟨S1x1x1024, .f32⟩
  | 13 => ⟨S1024, .f32⟩
  | 14 => ⟨S32x256x1024, .f32⟩
  | 15 => ⟨S_, .f32⟩
  | 16 => ⟨S32x256, .f32⟩
  | 17 => ⟨S32x256x1, .f32⟩
  | 18 => ⟨S_, .f32⟩
  | 19 => ⟨S32x256x1, .f32⟩
  | 20 => ⟨S32x256x1, .f32⟩
  | 21 => ⟨S_, .f32⟩
  | 22 => ⟨S32x256x1, .f32⟩
  | 23 => ⟨S32x256x1, .f32⟩
  | 24 => ⟨S32x256x1, .f32⟩
  | 25 => ⟨S32x256x1024, .f32⟩
  | 26 => ⟨S32x256x1024, .f32⟩
  | 27 => ⟨S1x1x1024, .f32⟩
  | 28 => ⟨S32x256x1024, .f32⟩
  | 29 => ⟨S32x256x1024, .f32⟩
  | 30 => ⟨S1x1x1024, .f32⟩
  | 31 => ⟨S_, .f32⟩
  | 32 => ⟨S1x1x1024, .f32⟩
  | 33 => ⟨S1x1x1024, .f32⟩
  | 34 => ⟨S32x256x1024, .f32⟩
  | 35 => ⟨S32x256x1024, .f32⟩
  | 36 => ⟨S1x1x1024, .f32⟩
  | 37 => ⟨S32x256x1024, .f32⟩
  | 38 => ⟨S32x256x1024, .f32⟩
  | 39 => ⟨S1x1x1024x5632, .f32⟩
  | 40 => ⟨S1024x5632, .f32⟩
  | 41 => ⟨S1x1x2816x1024, .f32⟩
  | 42 => ⟨S2816x1024, .f32⟩
  | 43 => ⟨S32x256x5632, .f32⟩
  | 44 => ⟨S32x256x2816, .f32⟩
  | 45 => ⟨S32x256x2816, .f32⟩
  | 46 => ⟨S32x256x2816, .f32⟩
  | 47 => ⟨S32x256x2816, .f32⟩
  | 48 => ⟨S_, .f32⟩
  | 49 => ⟨S32x256x2816, .f32⟩
  | 50 => ⟨S32x256x2816, .f32⟩
  | 51 => ⟨S_, .f32⟩
  | 52 => ⟨S32x256x2816, .f32⟩
  | 53 => ⟨S32x256x2816, .f32⟩
  | 54 => ⟨S32x256x2816, .f32⟩
  | 55 => ⟨S32x256x2816, .f32⟩
  | 56 => ⟨S32x256x1024, .f32⟩
  | 57 => ⟨S1x1x1024, .f32⟩
  | 58 => ⟨S1024, .f32⟩
  | 59 => ⟨S1x1x1024, .f32⟩
  | 60 => ⟨S_, .f32⟩
  | 61 => ⟨S1x1x1024, .f32⟩
  | 62 => ⟨S1x1x1024, .f32⟩
  | 63 => ⟨S32x256x1024, .f32⟩
  | 64 => ⟨S_, .f32⟩
  | 65 => ⟨S32x256, .f32⟩
  | 66 => ⟨S32x256x1, .f32⟩
  | 67 => ⟨S_, .f32⟩
  | 68 => ⟨S32x256x1, .f32⟩
  | 69 => ⟨S32x256x1, .f32⟩
  | 70 => ⟨S_, .f32⟩
  | 71 => ⟨S32x256x1, .f32⟩
  | 72 => ⟨S32x256x1, .f32⟩
  | 73 => ⟨S32x256x1, .f32⟩
  | 74 => ⟨S32x256x1024, .f32⟩
  | 75 => ⟨S32x256x1024, .f32⟩
  | 76 => ⟨S1x1x1024, .f32⟩
  | 77 => ⟨S32x256x1024, .f32⟩
  | 78 => ⟨S32x256x1024, .f32⟩
  | 79 => ⟨S32x256x1024, .f32⟩
  | 80 => ⟨S32x256x1024, .f32⟩
  | 81 => ⟨S32x256x1024, .f32⟩
  | 82 => ⟨S1x1x1024, .f32⟩
  | 83 => ⟨S1024, .f32⟩
  | 84 => ⟨S4x2048x1024, .f32⟩
  | 85 => ⟨S_, .f32⟩
  | 86 => ⟨S4x2048, .f32⟩
  | 87 => ⟨S4x2048x1, .f32⟩
  | 88 => ⟨S_, .f32⟩
  | 89 => ⟨S4x2048x1, .f32⟩
  | 90 => ⟨S4x2048x1, .f32⟩
  | 91 => ⟨S_, .f32⟩
  | 92 => ⟨S4x2048x1, .f32⟩
  | 93 => ⟨S4x2048x1, .f32⟩
  | 94 => ⟨S4x2048x1, .f32⟩
  | 95 => ⟨S4x2048x1024, .f32⟩
  | 96 => ⟨S4x2048x1024, .f32⟩
  | 97 => ⟨S1x1x1024, .f32⟩
  | 98 => ⟨S4x2048x1024, .f32⟩
  | 99 => ⟨S4x2048x1024, .f32⟩
  | 100 => ⟨S4x1x1024, .f32⟩
  | 101 => ⟨S_, .f32⟩
  | 102 => ⟨S4x1x1024, .f32⟩
  | 103 => ⟨S4x1x1024, .f32⟩
  | 104 => ⟨S4x2048x1024, .f32⟩
  | 105 => ⟨S4x2048x1024, .f32⟩
  | 106 => ⟨S4x1x1024, .f32⟩
  | 107 => ⟨S4x2048x1024, .f32⟩
  | 108 => ⟨S4x2048x1024, .f32⟩
  | 109 => ⟨S1x1x1024x5632, .f32⟩
  | 110 => ⟨S1024x5632, .f32⟩
  | 111 => ⟨S1x1x2816x1024, .f32⟩
  | 112 => ⟨S2816x1024, .f32⟩
  | 113 => ⟨S4x2048x5632, .f32⟩
  | 114 => ⟨S4x2048x2816, .f32⟩
  | 115 => ⟨S4x2048x2816, .f32⟩
  | 116 => ⟨S4x2048x2816, .f32⟩
  | 117 => ⟨S4x2048x2816, .f32⟩
  | 118 => ⟨S_, .f32⟩
  | 119 => ⟨S4x2048x2816, .f32⟩
  | 120 => ⟨S4x2048x2816, .f32⟩
  | 121 => ⟨S_, .f32⟩
  | 122 => ⟨S4x2048x2816, .f32⟩
  | 123 => ⟨S4x2048x2816, .f32⟩
  | 124 => ⟨S4x2048x2816, .f32⟩
  | 125 => ⟨S4x2048x2816, .f32⟩
  | 126 => ⟨S4x2048x1024, .f32⟩
  | 127 => ⟨S1x1x1024, .f32⟩
  | _ => ⟨S16384x1024, .f32⟩

abbrev hbmTy0_1 (i : Nat) : BufTy := match i % 128 with
  | 0 => ⟨S1024, .f32⟩
  | 1 => ⟨S4x1x1024, .f32⟩
  | 2 => ⟨S_, .f32⟩
  | 3 => ⟨S4x1x1024, .f32⟩
  | 4 => ⟨S4x1x1024, .f32⟩
  | 5 => ⟨S4x2048x1024, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x1, .f32⟩
  | 16 => ⟨S4x2048x1024, .f32⟩
  | 17 => ⟨S4x2048x1024, .f32⟩
  | 18 => ⟨S1x1x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_cst_13 : Ref sig .tc := ⟨.hbm, 137, rfl⟩
abbrev main_v101 : Ref sig .tc := ⟨.hbm, 138, rfl⟩
abbrev main_v102 : Ref sig .tc := ⟨.hbm, 139, rfl⟩
abbrev main_cst_14 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩

abbrev nD : Nat := 1
abbrev τ : Topo := Topo.v7x

variable {F : FTy → Type} [FloatOps F]
-- ==== Kernel6.lean ====
abbrev S16384x1024 : Shape := ⟨2, ![16384, 1024]⟩
abbrev S8192x512 : Shape := ⟨2, ![8192, 512]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S1x1024x1024 : Shape := ⟨3, ![1, 1024, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S512x2816 : Shape := ⟨2, ![512, 2816]⟩
abbrev S1x9216 : Shape := ⟨2, ![1, 9216]⟩
abbrev S256x1024 : Shape := ⟨2, ![256, 1024]⟩
abbrev S256x512 : Shape := ⟨2, ![256, 512]⟩
abbrev S1x512x1024 : Shape := ⟨3, ![1, 512, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 23
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8x1x9216, .f32⟩
  | .hbm, ⟨6, _⟩ => ⟨S4x3x1024, .f32⟩
  | .hbm, ⟨7, _⟩ => ⟨S4x3x1024, .f32⟩
  | .hbm, ⟨8, _⟩ => ⟨S4x2x1024x5632, .f32⟩
  | .hbm, ⟨9, _⟩ => ⟨S4x2x2816x1024, .f32⟩
  | .hbm, ⟨10, _⟩ => ⟨S2x1024x1024, .f32⟩
  | .hbm, ⟨11, _⟩ => ⟨S2x1024x1024, .bf16⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S4x2x2816x1024, .bf16⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x1024x1024, .bf16⟩
  | .local _ .vmem, ⟨11, _⟩ => ⟨S1x1024, .f32⟩
  | .local _ .vmem, ⟨12, _⟩ => ⟨S1x1x9216, .f32⟩
  | .local _ .vmem, ⟨13, _⟩ => ⟨S1x1x9216, .f32⟩
  | .local _ .vmem, ⟨14, _⟩ => ⟨S1x1024, .f32⟩
  | .local _ .vmem, ⟨15, _⟩ => ⟨S1x1024, .f32⟩
  | .local _ .vmem, ⟨16, _⟩ => ⟨S1x1x1024x5632, .f32⟩
  | .local _ .vmem, ⟨17, _⟩ => ⟨S1x1x2816x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x2816, .bf16⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_11 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x9216 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16384x1024 : Shape := ⟨2, ![16384, 1024]⟩
abbrev S8192x512 : Shape := ⟨2, ![8192, 512]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S8192x1024 : Shape := ⟨2, ![8192, 1024]⟩
abbrev S32x256x1024 : Shape := ⟨3, ![32, 256, 1024]⟩
abbrev S4x2048x1024 : Shape := ⟨3, ![4, 2048, 1024]⟩
abbrev S1x1x9216 : Shape := ⟨3, ![1, 1, 9216]⟩
abbrev S4x1x9216 : Shape := ⟨3, ![4, 1, 9216]⟩
abbrev S32x256x512 : Shape := ⟨3, ![32, 256, 512]⟩
abbrev S1x1024x1024 : Shape := ⟨3, ![1, 1024, 1024]⟩
abbrev S1024x1024 : Shape := ⟨2, ![1024, 1024]⟩
abbrev S4x2048x512 : Shape := ⟨3, ![4, 2048, 512]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32x256x5632 : Shape := ⟨3, ![32, 256, 5632]⟩
abbrev S32x256x2816 : Shape := ⟨3, ![32, 256, 2816]⟩
abbrev S4x2048x5632 : Shape := ⟨3, ![4, 2048, 5632]⟩
abbrev S4x2048x2816 : Shape := ⟨3, ![4, 2048, 2816]⟩

abbrev nBuf : Space → Nat
  | .hbm => 222
  | .vmem => 0
  | .smem => 0
  | _ => 0

abbrev hbmTy0_0 (i : Nat) : BufTy := match i % 128 with
  | 0 => ⟨S16384x1024, .f32⟩
  | 1 => ⟨S8192x512, .f32⟩
  | 2 => ⟨S8192x512, .f32⟩
  | 3 => ⟨S8192x512, .f32⟩
  | 4 => ⟨S8192x512, .f32⟩
  | 5 => ⟨S8x1x9216, .f32⟩
  | 6 => ⟨S4x3x1024, .f32⟩
  | 7 => ⟨S4x3x1024, .f32⟩
  | 8 => ⟨S4x2x1024x5632, .f32⟩
  | 9 => ⟨S4x2x2816x1024, .f32⟩
  | 10 => ⟨S2x1024x1024, .f32⟩
  | 11 => ⟨S8192x1024, .f32⟩
  | 12 => ⟨S32x256x1024, .f32⟩
  | 13 => ⟨S8192x1024, .f32⟩
  | 14 => ⟨S4x2048x1024, .f32⟩
  | 15 => ⟨S1x1x9216, .f32⟩
  | 16 => ⟨S4x1x9216, .f32⟩
  | 17 => ⟨S32x256x512, .f32⟩
  | 18 => ⟨S32x256x512, .f32⟩
  | 19 => ⟨S32x256x1024, .f32⟩
  | 20 => ⟨S1x1024x1024, .f32⟩
  | 21 => ⟨S1024x1024, .f32⟩
  | 22 => ⟨S32x256x1024, .f32⟩
  | 23 => ⟨S4x2048x512, .f32⟩
  | 24 => ⟨S4x2048x512, .f32⟩
  | 25 => ⟨S4x2048x1024, .f32⟩
  | 26 => ⟨S1x1024x1024, .f32⟩
  | 27 => ⟨S1024x1024, .f32⟩
  | 28 => ⟨S4x2048x1024, .f32⟩
  | 29 => ⟨S1x1x1024, .f32⟩
  | 30 => ⟨S1024, .f32⟩
  | 31 => ⟨S1x1x1024, .f32⟩
  | 32 => ⟨S_, .f32⟩
  | 33 => ⟨S1x1x1024, .f32⟩
  | 34 => ⟨S1x1x1024, .f32⟩
  | 35 => ⟨S32x256x1024, .f32⟩
  | 36 => ⟨S_, .f32⟩
  | 37 => ⟨S32x256, .f32⟩
  | 38 => ⟨S32x256x1, .f32⟩
  | 39 => ⟨S_, .f32⟩
  | 40 => ⟨S32x256x1, .f32⟩
  | 41 => ⟨S32x256x1, .f32⟩
  | 42 => ⟨S_, .f32⟩
  | 43 => ⟨S32x256x1, .f32⟩
  | 44 => ⟨S32x256x1, .f32⟩
  | 45 => ⟨S32x256x1, .f32⟩
  | 46 => ⟨S32x256x1024, .f32⟩
  | 47 => ⟨S32x256x1024, .f32⟩
  | 48 => ⟨S1x1x1024, .f32⟩
  | 49 => ⟨S32x256x1024, .f32⟩
  | 50 => ⟨S32x256x1024, .f32⟩
  | 51 => ⟨S32x256x1024, .f32⟩
  | 52 => ⟨S32x256x1024, .f32⟩
  | 53 => ⟨S32x256x1024, .f32⟩
  | 54 => ⟨S1x1x1024, .f32⟩
  | 55 => ⟨S1024, .f32⟩
  | 56 => ⟨S4x1x1024, .f32⟩
  | 57 => ⟨S_, .f32⟩
  | 58 => ⟨S4x1x1024, .f32⟩
  | 59 => ⟨S4x1x1024, .f32⟩
  | 60 => ⟨S4x2048x1024, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1, .f32⟩
  | 71 => ⟨S4x2048x1024, .f32⟩
  | 72 => ⟨S4x2048x1024, .f32⟩
  | 73 => ⟨S1x1x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1x1024, .f32⟩
  | 80 => ⟨S1024, .f32⟩
  | 81 => ⟨S32x256x1024, .f32⟩
  | 82 => ⟨S_, .f32⟩
  | 83 => ⟨S32x256, .f32⟩
  | 84 => ⟨S32x256x1, .f32⟩
  | 85 => ⟨S_, .f32⟩
  | 86 => ⟨S32x256x1, .f32⟩
  | 87 => ⟨S32x256x1, .f32⟩
  | 88 => ⟨S_, .f32⟩
  | 89 => ⟨S32x256x1, .f32⟩
  | 90 => ⟨S32x256x1, .f32⟩
  | 91 => ⟨S32x256x1, .f32⟩
  | 92 => ⟨S32x256x1024, .f32⟩
  | 93 => ⟨S32x256x1024, .f32⟩
  | 94 => ⟨S1x1x1024, .f32⟩
  | 95 => ⟨S32x256x1024, .f32⟩
  | 96 => ⟨S32x256x1024, .f32⟩
  | 97 => ⟨S1x1x1024, .f32⟩
  | 98 => ⟨S_, .f32⟩
  | 99 => ⟨S1x1x1024, .f32⟩
  | 100 => ⟨S1x1x1024, .f32⟩
  | 101 => ⟨S32x256x1024, .f32⟩
  | 102 => ⟨S32x256x1024, .f32⟩
  | 103 => ⟨S1x1x1024, .f32⟩
  | 104 => ⟨S32x256x1024, .f32⟩
  | 105 => ⟨S32x256x1024, .f32⟩
  | 106 => ⟨S1x1x1024x5632, .f32⟩
  | 107 => ⟨S1024x5632, .f32⟩
  | 108 => ⟨S1x1x2816x1024, .f32⟩
  | 109 => ⟨S2816x1024, .f32⟩
  | 110 => ⟨S32x256x5632, .f32⟩
  | 111 => ⟨S32x256x2816, .f32⟩
  | 112 => ⟨S32x256x2816, .f32⟩
  | 113 => ⟨S32x256x2816, .f32⟩
  | 114 => ⟨S32x256x2816, .f32⟩
  | 115 => ⟨S_, .f32⟩
  | 116 => ⟨S32x256x2816, .f32⟩
  | 117 => ⟨S32x256x2816, .f32⟩
  | 118 => ⟨S_, .f32⟩
  | 119 => ⟨S32x256x2816, .f32⟩
  | 120 => ⟨S32x256x2816, .f32⟩
  | 121 => ⟨S32x256x2816, .f32⟩
  | 122 => ⟨S32x256x2816, .f32⟩
  | 123 => ⟨S32x256x1024, .f32⟩
  | 124 => ⟨S1x1x1024, .f32⟩
  | 125 => ⟨S1024, .f32⟩
  | 126 => ⟨S1x1x1024, .f32⟩
  | 127 => ⟨S_, .f32⟩
  | _ => ⟨S16384x1024, .f32⟩

abbrev hbmTy0_1 (i : Nat) : BufTy := match i % 128 with
  | 0 => ⟨S1x1x1024, .f32⟩
  | 1 => ⟨S1x1x1024, .f32⟩
  | 2 => ⟨S32x256x1024, .f32⟩
  | 3 => ⟨S_, .f32⟩
  | 4 => ⟨S32x256, .f32⟩
  | 5 => ⟨S32x256x1, .f32⟩
  | 6 => ⟨S_, .f32⟩
  | 7 => ⟨S32x256x1, .f32⟩
  | 8 => ⟨S32x256x1, .f32⟩
  | 9 => ⟨S_, .f32⟩
  | 10 => ⟨S32x256x1, .f32⟩
  | 11 => ⟨S32x256x1, .f32⟩
  | 12 => ⟨S32x256x1, .f32⟩
  | 13 => ⟨S32x256x1024, .f32⟩
  | 14 => ⟨S32x256x1024, .f32⟩
  | 15 => ⟨S1x1x1024, .f32⟩
  | 16 => ⟨S32x256x1024, .f32⟩
  | 17 => ⟨S32x256x1024, .f32⟩
  | 18 => ⟨S32x256x1024, .f32⟩
  | 19 => ⟨S32x256x1024, .f32⟩
  | 20 => ⟨S32x256x1024, .f32⟩
  | 21 => ⟨S1x1x1024, .f32⟩
  | 22 => ⟨S1024, .f32⟩
  | 23 => ⟨S4x2048x1024, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x1024, .f32⟩
  | 35 => ⟨S4x2048x1024, .f32⟩
  | 36 => ⟨S1x1x1024, .f32⟩
  | 37 => ⟨S4x2048x1024, .f32⟩
  | 38 => ⟨S4x2048x1024, .f32⟩
  | 39 => ⟨S4x1x1024, .f32⟩
  | 40 => ⟨S_, .f32⟩
  | 41 => ⟨S4x1x1024, .f32⟩
  | 42 => ⟨S4x1x1024, .f32⟩
  | 43 => ⟨S4x2048x1024, .f32⟩
  | 44 => ⟨S4x2048x1024, .f32⟩
  | 45 => ⟨S4x1x1024, .f32⟩
  | 46 => ⟨S4x2048x1024, .f32⟩
  | 47 => ⟨S4x2048x1024, .f32⟩
  | 48 => ⟨S1x1x1024x5632, .f32⟩
  | 49 => ⟨S1024x5632, .f32⟩
  | 50 => ⟨S1x1x2816x1024, .f32⟩
  | 51 => ⟨S2816x1024, .f32⟩
  | 52 => ⟨S4x2048x5632, .f32⟩
  | 53 => ⟨S4x2048x2816, .f32⟩
  | 54 => ⟨S4x2048x2816, .f32⟩
  | 55 => ⟨S4x2048x2816, .f32⟩
  | 56 => ⟨S4x2048x2816, .f32⟩
  | 57 => ⟨S_, .f32⟩
  | 58 => ⟨S4x2048x2816, .f32⟩
  | 59 => ⟨S4x2048x2816, .f32⟩
  | 60 => ⟨S_, .f32⟩
  | 61 => ⟨S4x2048x2816, .f32⟩
  | 62 => ⟨S4x2048x2816, .f32⟩
  | 63 => ⟨S4x2048x2816, .f32⟩
  | 64 => ⟨S4x2048x2816, .f32⟩
  | 65 => ⟨S4x2048x1024, .f32⟩
  | 66 => ⟨S1x1x1024, .f32⟩
  | 67 => ⟨S1024, .f32⟩
  | 68 => ⟨S4x1x1024, .f32⟩
  | 69 => ⟨S_, .f32⟩
  | 70 => ⟨S4x1x1024, .f32⟩
  | 71 => ⟨S4x1x1024, .f32⟩
  | 72 => ⟨S4x2048x1024, .f32⟩
  | 73 => ⟨S_, .f32⟩
  | 74 => ⟨S4x2048, .f32⟩
  | 75 => ⟨S4x2048x1, .f32⟩
  | 76 => ⟨S_, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1, .f32⟩
  | 83 => ⟨S4x2048x1024, .f32⟩
  | 84 => ⟨S4x2048x1024, .f32⟩
  | 85 => ⟨S1x1x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S8192x1024, .f32⟩
  | 92 => ⟨S8192x1024, .f32⟩
  | 93 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_11 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_12 : Ref sig .tc := ⟨.hbm, 131, rfl⟩
abbrev main_v99 : Ref sig .tc := ⟨.hbm, 132, rfl⟩
abbrev main_v100 : Ref sig .tc := ⟨.hbm, 133, rfl⟩
abbrev main_cst_13 : Ref sig .tc := ⟨.hbm, 134, rfl⟩
abbrev main_v101 : Ref sig .tc := ⟨.hbm, 135, rfl⟩
abbrev main_v102 : Ref sig .tc := ⟨.hbm, 136, rfl⟩
abbrev main_cst_14 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_15 : Ref sig .tc := ⟨.hbm, 152, rfl⟩
abbrev main_v117 : Ref sig .tc := ⟨.hbm, 153, rfl⟩
abbrev main_v118 : Ref sig .tc := ⟨.hbm, 154, rfl⟩
abbrev main_cst_16 : Ref sig .tc := ⟨.hbm, 155, rfl⟩
abbrev main_v119 : Ref sig .tc := ⟨.hbm, 156, rfl⟩
abbrev main_v120 : Ref sig .tc := ⟨.hbm, 157, rfl⟩
abbrev main_cst_17 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_18 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_call1_v0 : Ref sig .tc := ⟨.hbm, 183, rfl⟩
abbrev main_call1_v1 : Ref sig .tc := ⟨.hbm, 184, rfl⟩
abbrev main_call1_cst : Ref sig .tc := ⟨.hbm, 185, rfl⟩
abbrev main_call1_v2 : Ref sig .tc := ⟨.hbm, 186, rfl⟩
abbrev main_call1_v3 : Ref sig .tc := ⟨.hbm, 187, rfl⟩
abbrev main_call1_cst_0 : Ref sig .tc := ⟨.hbm, 188, rfl⟩
abbrev main_call1_v4 : Ref sig .tc := ⟨.hbm, 189, rfl⟩
abbrev main_call1_v5 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_19 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_20 : Ref sig .tc := ⟨.hbm, 201, rfl⟩
abbrev main_v153 : Ref sig .tc := ⟨.hbm, 202, rfl⟩
abbrev main_v154 : Ref sig .tc := ⟨.hbm, 203, rfl⟩
abbrev main_cst_21 : Ref sig .tc := ⟨.hbm, 204, rfl⟩
abbrev main_v155 : Ref sig .tc := ⟨.hbm, 205, rfl⟩
abbrev main_v156 : Ref sig .tc := ⟨.hbm, 206, rfl⟩
abbrev main_cst_22 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩

abbrev nD : Nat := 1
abbrev τ : Topo := Topo.v7x

variable {F : FTy → Type} [FloatOps F]
-- ==== Kernel7.lean ====
abbrev S32x256x1024 : Shape := ⟨3, ![32, 256, 1024]⟩
abbrev S4x2048x1024 : Shape := ⟨3, ![4, 2048, 1024]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S8192x1024 : Shape := ⟨2, ![8192, 1024]⟩
abbrev S1x1x1024 : Shape := ⟨3, ![1, 1, 1024]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S512x2816 : Shape := ⟨2, ![512, 2816]⟩
abbrev S1x9216 : Shape := ⟨2, ![1, 9216]⟩
abbrev S256x1024 : Shape := ⟨2, ![256, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 17
  | .vmem => 14
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8x1x9216, .f32⟩
  | .hbm, ⟨3, _⟩ => ⟨S4x3x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S8192x1024, .f32⟩
  | .hbm, ⟨8, _⟩ => ⟨S8192x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S4x2x2816x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x9216, .f32⟩
  | .local _ .vmem, ⟨5, _⟩ => ⟨S1x1x9216, .f32⟩
  | .local _ .vmem, ⟨6, _⟩ => ⟨S1x1024, .f32⟩
  | .local _ .vmem, ⟨7, _⟩ => ⟨S1x1024, .f32⟩
  | .local _ .vmem, ⟨8, _⟩ => ⟨S1x1x1024x5632, .f32⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x2816, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32x256x1024 : Shape := ⟨3, ![32, 256, 1024]⟩
abbrev S4x2048x1024 : Shape := ⟨3, ![4, 2048, 1024]⟩
abbrev S8x1x9216 : Shape := ⟨3, ![8, 1, 9216]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x9216 : Shape := ⟨3, ![1, 1, 9216]⟩
abbrev S4x1x9216 : Shape := ⟨3, ![4, 1, 9216]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32x256x5632 : Shape := ⟨3, ![32, 256, 5632]⟩
abbrev S32x256x2816 : Shape := ⟨3, ![32, 256, 2816]⟩
abbrev S4x2048 : Shape := ⟨2, ![4, 2048]⟩
abbrev S4x2048x1 : Shape := ⟨3, ![4, 2048, 1]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S16384x1024 : Shape := ⟨2, ![16384, 1024]⟩

abbrev nBuf : Space → Nat
  | .hbm => 152
  | .vmem => 0
  | .smem => 0
  | _ => 0

abbrev hbmTy0_0 (i : Nat) : BufTy := match i % 128 with
  | 0 => ⟨S32x256x1024, .f32⟩
  | 1 => ⟨S4x2048x1024, .f32⟩
  | 2 => ⟨S8x1x9216, .f32⟩
  | 3 => ⟨S4x3x1024, .f32⟩
  | 4 => ⟨S4x3x1024, .f32⟩
  | 5 => ⟨S4x2x1024x5632, .f32⟩
  | 6 => ⟨S4x2x2816x1024, .f32⟩
  | 7 => ⟨S1x1x9216, .f32⟩
  | 8 => ⟨S4x1x9216, .f32⟩
  | 9 => ⟨S1x1x1024, .f32⟩
  | 10 => ⟨S1024, .f32⟩
  | 11 => ⟨S32x256x1024, .f32⟩
  | 12 => ⟨S_, .f32⟩
  | 13 => ⟨S32x256, .f32⟩
  | 14 => ⟨S32x256x1, .f32⟩
  | 15 => ⟨S_, .f32⟩
  | 16 => ⟨S32x256x1, .f32⟩
  | 17 => ⟨S32x256x1, .f32⟩
  | 18 => ⟨S_, .f32⟩
  | 19 => ⟨S32x256x1, .f32⟩
  | 20 => ⟨S32x256x1, .f32⟩
  | 21 => ⟨S32x256x1, .f32⟩
  | 22 => ⟨S32x256x1024, .f32⟩
  | 23 => ⟨S32x256x1024, .f32⟩
  | 24 => ⟨S1x1x1024, .f32⟩
  | 25 => ⟨S32x256x1024, .f32⟩
  | 26 => ⟨S32x256x1024, .f32⟩
  | 27 => ⟨S1x1x1024, .f32⟩
  | 28 => ⟨S_, .f32⟩
  | 29 => ⟨S1x1x1024, .f32⟩
  | 30 => ⟨S1x1x1024, .f32⟩
  | 31 => ⟨S32x256x1024, .f32⟩
  | 32 => ⟨S32x256x1024, .f32⟩
  | 33 => ⟨S1x1x1024, .f32⟩
  | 34 => ⟨S32x256x1024, .f32⟩
  | 35 => ⟨S32x256x1024, .f32⟩
  | 36 => ⟨S1x1x1024x5632, .f32⟩
  | 37 => ⟨S1024x5632, .f32⟩
  | 38 => ⟨S1x1x2816x1024, .f32⟩
  | 39 => ⟨S2816x1024, .f32⟩
  | 40 => ⟨S32x256x5632, .f32⟩
  | 41 => ⟨S32x256x2816, .f32⟩
  | 42 => ⟨S32x256x2816, .f32⟩
  | 43 => ⟨S32x256x2816, .f32⟩
  | 44 => ⟨S32x256x2816, .f32⟩
  | 45 => ⟨S_, .f32⟩
  | 46 => ⟨S32x256x2816, .f32⟩
  | 47 => ⟨S32x256x2816, .f32⟩
  | 48 => ⟨S_, .f32⟩
  | 49 => ⟨S32x256x2816, .f32⟩
  | 50 => ⟨S32x256x2816, .f32⟩
  | 51 => ⟨S32x256x2816, .f32⟩
  | 52 => ⟨S32x256x2816, .f32⟩
  | 53 => ⟨S32x256x1024, .f32⟩
  | 54 => ⟨S1x1x1024, .f32⟩
  | 55 => ⟨S1024, .f32⟩
  | 56 => ⟨S1x1x1024, .f32⟩
  | 57 => ⟨S_, .f32⟩
  | 58 => ⟨S1x1x1024, .f32⟩
  | 59 => ⟨S1x1x1024, .f32⟩
  | 60 => ⟨S32x256x1024, .f32⟩
  | 61 => ⟨S_, .f32⟩
  | 62 => ⟨S32x256, .f32⟩
  | 63 => ⟨S32x256x1, .f32⟩
  | 64 => ⟨S_, .f32⟩
  | 65 => ⟨S32x256x1, .f32⟩
  | 66 => ⟨S32x256x1, .f32⟩
  | 67 => ⟨S_, .f32⟩
  | 68 => ⟨S32x256x1, .f32⟩
  | 69 => ⟨S32x256x1, .f32⟩
  | 70 => ⟨S32x256x1, .f32⟩
  | 71 => ⟨S32x256x1024, .f32⟩
  | 72 => ⟨S32x256x1024, .f32⟩
  | 73 => ⟨S1x1x1024, .f32⟩
  | 74 => ⟨S32x256x1024, .f32⟩
  | 75 => ⟨S32x256x1024, .f32⟩
  | 76 => ⟨S32x256x1024, .f32⟩
  | 77 => ⟨S32x256x1024, .f32⟩
  | 78 => ⟨S32x256x1024, .f32⟩
  | 79 => ⟨S1x1x1024, .f32⟩
  | 80 => ⟨S1024, .f32⟩
  | 81 => ⟨S4x2048x1024, .f32⟩
  | 82 => ⟨S_, .f32⟩
  | 83 => ⟨S4x2048, .f32⟩
  | 84 => ⟨S4x2048x1, .f32⟩
  | 85 => ⟨S_, .f32⟩
  | 86 => ⟨S4x2048x1, .f32⟩
  | 87 => ⟨S4x2048x1, .f32⟩
  | 88 => ⟨S_, .f32⟩
  | 89 => ⟨S4x2048x1, .f32⟩
  | 90 => ⟨S4x2048x1, .f32⟩
  | 91 => ⟨S4x2048x1, .f32⟩
  | 92 => ⟨S4x2048x1024, .f32⟩
  | 93 => ⟨S4x2048x1024, .f32⟩
  | 94 => ⟨S1x1x1024, .f32⟩
  | 95 => ⟨S4x2048x1024, .f32⟩
  | 96 => ⟨S4x2048x1024, .f32⟩
  | 97 => ⟨S4x1x1024, .f32⟩
  | 98 => ⟨S_, .f32⟩
  | 99 => ⟨S4x1x1024, .f32⟩
  | 100 => ⟨S4x1x1024, .f32⟩
  | 101 => ⟨S4x2048x1024, .f32⟩
  | 102 => ⟨S4x2048x1024, .f32⟩
  | 103 => ⟨S4x1x1024, .f32⟩
  | 104 => ⟨S4x2048x1024, .f32⟩
  | 105 => ⟨S4x2048x1024, .f32⟩
  | 106 => ⟨S1x1x1024x5632, .f32⟩
  | 107 => ⟨S1024x5632, .f32⟩
  | 108 => ⟨S1x1x2816x1024, .f32⟩
  | 109 => ⟨S2816x1024, .f32⟩
  | 110 => ⟨S4x2048x5632, .f32⟩
  | 111 => ⟨S4x2048x2816, .f32⟩
  | 112 => ⟨S4x2048x2816, .f32⟩
  | 113 => ⟨S4x2048x2816, .f32⟩
  | 114 => ⟨S4x2048x2816, .f32⟩
  | 115 => ⟨S_, .f32⟩
  | 116 => ⟨S4x2048x2816, .f32⟩
  | 117 => ⟨S4x2048x2816, .f32⟩
  | 118 => ⟨S_, .f32⟩
  | 119 => ⟨S4x2048x2816, .f32⟩
  | 120 => ⟨S4x2048x2816, .f32⟩
  | 121 => ⟨S4x2048x2816, .f32⟩
  | 122 => ⟨S4x2048x2816, .f32⟩
  | 123 => ⟨S4x2048x1024, .f32⟩
  | 124 => ⟨S1x1x1024, .f32⟩
  | 125 => ⟨S1024, .f32⟩
  | 126 => ⟨S4x1x1024, .f32⟩
  | 127 => ⟨S_, .f32⟩
  | _ => ⟨S32x256x1024, .f32⟩

abbrev hbmTy0_1 (i : Nat) : BufTy := match i % 128 with
  | 0 => ⟨S4x1x1024, .f32⟩
  | 1 => ⟨S4x1x1024, .f32⟩
  | 2 => ⟨S4x2048x1024, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S_, .f32⟩
  | 10 => ⟨S4x2048x1, .f32⟩
  | 11 => ⟨S4x2048x1, .f32⟩
  | 12 => ⟨S4x2048x1, .f32⟩
  | 13 => ⟨S4x2048x1024, .f32⟩
  | 14 => ⟨S4x2048x1024, .f32⟩
  | 15 => ⟨S1x1x1024, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S8192x1024, .f32⟩
  | 22 => ⟨S8192x1024, .f32⟩
  | 23 => ⟨S16384x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_11 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_12 : Ref sig .tc := ⟨.hbm, 131, rfl⟩
abbrev main_v95 : Ref sig .tc := ⟨.hbm, 132, rfl⟩
abbrev main_v96 : Ref sig .tc := ⟨.hbm, 133, rfl⟩
abbrev main_cst_13 : Ref sig .tc := ⟨.hbm, 134, rfl⟩
abbrev main_v97 : Ref sig .tc := ⟨.hbm, 135, rfl⟩
abbrev main_v98 : Ref sig .tc := ⟨.hbm, 136, rfl⟩
abbrev main_cst_14 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]
-- ==== Proof.CtxM.lean ====
module

public import proofs.«01_k».proof.Pre_finite
public import proofs.«01_k».proof.Proof.Gen.Pre_finite
public import Idealize.ShloMosaic.Lib.Pipeline.ValueKit
public import Idealize.ShloMosaic.Lib.Pointwise

@[expose] public section

set_option maxRecDepth 100000

noncomputable section

open Idealize.ShloMosaic

namespace Cert.Ctx

/-- The score of a query row against a key row. -/
def score (q k : Fin 64 → EReal) : EReal := (∑ d, q d * k d) * Ideal.ofBits .f32 0x3E000000#32

/-- The greatest of a row of scores. -/
def mx (s : Fin 256 → EReal) : EReal := Finset.fold max (Ideal.ofBits .f32 0xFF800000#32) s Finset.univ

/-- One entry of the attention's result: the weighted mean of the values, the weights the exponentials of the scores. -/
def att (s v : Fin 256 → EReal) : EReal := Ideal.div (∑ x, Ideal.exp (s x - mx s) * v x) (∑ x, Ideal.exp (s x - mx s))

/-- A value that is a real number. -/
def Fin' (x : EReal) : Prop := ∃ r : ℝ, x = (r : EReal)

theorem scale_real : Ideal.ofBits .f32 0x3E000000#32 = (((1 : ℝ) / 8 : ℝ) : EReal) := by
  simp [Ideal.ofBits, Ideal.ieee, -EReal.coe_mul]; norm_num

theorem neg_inf : Ideal.ofBits .f32 0xFF800000#32 = ⊥ := by simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem score_real (q k : Fin 64 → EReal) (hq : ∀ d, Fin' (q d)) (hk : ∀ d, Fin' (k d)) : Fin' (score q k) := by
  choose a ha using hq
  choose b hb using hk
  refine ⟨(∑ d, a d * b d) * (1 / 8), ?_⟩
  unfold score
  rw [scale_real, EReal.coe_mul, coe_sum]
  simp only [ha, hb, EReal.coe_mul]

theorem mx_real (f : Fin 256 → ℝ) : Fin' (mx fun x => (f x : EReal)) := by
  unfold mx
  rw [neg_inf]
  have key : ∀ s : Finset (Fin 256), s.Nonempty → Fin' (Finset.fold max ⊥ (fun x => (f x : EReal)) s) := by
    intro s hs
    induction hs using Finset.Nonempty.cons_induction with
    | singleton a => exact ⟨f a, by simp⟩
    | cons a s ha hs ih =>
      obtain ⟨r, hr⟩ := ih
      refine ⟨max (f a) r, ?_⟩
      rw [Finset.cons_eq_insert, Finset.fold_insert ha, hr]
      exact (EReal.coe_strictMono.monotone.map_max).symm
  exact key _ ⟨0, Finset.mem_univ 0⟩

theorem sum_mul_real {ι : Type} (s : Finset ι) (g : ι → EReal) (c : ℝ) (hc : 0 ≤ c) : (∑ x ∈ s, g x) * (c : EReal) = ∑ x ∈ s, g x * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Dividing each weight first or the weighted sum last: the same number, when the scores are real. -/
theorem att_eq (s v : Fin 256 → EReal) (hs : ∀ x, Fin' (s x)) :
    att s v = ∑ x, Ideal.div (Ideal.exp (s x - mx s)) (∑ x, Ideal.exp (s x - mx s)) * v x := by
  choose f hf using hs
  obtain rfl : s = fun x => (f x : EReal) := funext hf
  obtain ⟨M, hM⟩ := mx_real f
  unfold att
  rw [hM]
  have he : ∀ x, Ideal.exp ((f x : EReal) - (M : EReal)) = ((Real.exp (f x - M) : ℝ) : EReal) := fun x => by
    rw [← EReal.coe_sub]; rfl
  simp only [he]
  rw [← coe_sum]
  have hpos : 0 < ∑ x, Real.exp (f x - M) := Finset.sum_pos (fun x _ => Real.exp_pos _) ⟨0, Finset.mem_univ 0⟩
  have hne : ((∑ x, Real.exp (f x - M) : ℝ) : EReal) ≠ 0 := by exact_mod_cast hpos.ne'
  unfold Ideal.div
  simp only [if_neg hne]
  rw [← EReal.coe_inv, sum_mul_real _ _ _ (inv_nonneg.2 hpos.le)]
  exact Finset.sum_congr rfl fun x _ => mul_right_comm _ _ _

/-- What the precondition says: the queries and keys of the prompt rows are real numbers. -/
theorem real_of_pre (A0 : FVec Ideal Cert.Pre_finite.S16384x4096 .f32) (A1 A2 : FVec Ideal Cert.Pre_finite.S32x8x256x64 .f32)
    (h : Cert.Pre_finite.fn (F := Ideal) A0 A1 A2 = fun _ => 1#1) (r : Fin 8192) (k : Fin 1024) : Fin' (A0 (ix2 ⟨r, by omega⟩ ⟨2560 + k, by omega⟩)) := by
  have e := congrFun h (ix2 r k)
  pointwise [Cert.Pre_finite.fn] at e
  have htop : Ideal.ofBits .f32 0x7F800000#32 = ⊤ := by simp [Ideal.ofBits, Ideal.ieee]
  rw [htop] at e
  have hlt : max (A0 (ix2 ⟨r, by omega⟩ ⟨2560 + k, by omega⟩) : EReal) (-(A0 (ix2 ⟨r, by omega⟩ ⟨2560 + k, by omega⟩))) < ⊤ := by
    by_contra hn
    have e' : BitVec.ofBool (decide (max (A0 (ix2 ⟨r, by omega⟩ ⟨2560 + k, by omega⟩) : EReal) (-(A0 (ix2 ⟨r, by omega⟩ ⟨2560 + k, by omega⟩))) < ⊤)) = 1#1 := e
    rw [decide_eq_false hn] at e'
    exact absurd e' (by decide)
  obtain ⟨h1, h2⟩ := max_lt_iff.1 hlt
  refine ⟨(A0 (ix2 ⟨r, by omega⟩ ⟨2560 + k, by omega⟩) : EReal).toReal, (EReal.coe_toReal h1.ne ?_).symm⟩
  intro hb
  rw [hb] at h2
  exact absurd h2 (by simp)

end Cert.Ctx
end
-- ==== Proof.CtxB.lean ====
module

public import proofs.«01_k».proof.Proof.CtxM
public import proofs.«01_k».proof.ReferenceIdeal
public import proofs.«01_k».proof.Proof.Gen.ReferenceIdeal
public import Idealize.ShloMosaic.Lib.Claim
public import Idealize.ShloMosaic.Lib.Pointwise

@[expose] public section

set_option maxRecDepth 100000

noncomputable section

open Idealize.ShloMosaic

namespace Cert.Ctx

/-- The attention's result over the projections. -/
def GO (A : FVec Ideal ⟨2, ![16384, 4096]⟩ .f32) : FVec Ideal ⟨2, ![8192, 512]⟩ .f32 := fun y =>
  have h0 : (y 0 : ℕ) < 8192 := (y 0).isLt
  have h1 : (y 1 : ℕ) < 512 := (y 1).isLt
  att (fun x => score (fun d => A (ix2 ⟨y 0, by omega⟩ ⟨2560 + ((y 1 : ℕ) / 64 * 64 + d), by omega⟩))
    (fun d => A (ix2 ⟨(y 0 : ℕ) / 256 * 256 + x, by omega⟩ ⟨3072 + ((y 1 : ℕ) / 64 * 64 + d), by omega⟩)))
    (fun x => A (ix2 ⟨(y 0 : ℕ) / 256 * 256 + x, by omega⟩ ⟨3584 + y 1, by omega⟩))

/-- A cache over the projections and the earlier cache. -/
def GC (A : FVec Ideal ⟨2, ![16384, 4096]⟩ .f32) (P : FVec Ideal ⟨4, ![32, 8, 256, 64]⟩ .f32) (o : Fin 3585) : FVec Ideal ⟨5, ![32, 2, 8, 256, 64]⟩ .f32 := fun y =>
  have h0 : (y 0 : ℕ) < 32 := (y 0).isLt
  have h2 : (y 2 : ℕ) < 8 := (y 2).isLt
  have h3 : (y 3 : ℕ) < 256 := (y 3).isLt
  have h4 : (y 4 : ℕ) < 64 := (y 4).isLt
  if (y 1 : ℕ) = 0 then P (ix4 (y 0) (y 2) (y 3) (y 4))
  else A (ix2 ⟨(y 0 : ℕ) * 256 + y 3, by omega⟩ ⟨o + ((y 2 : ℕ) * 64 + y 4), by omega⟩)

end Cert.Ctx

namespace Cert.ReferenceIdeal.Value

open Cert.ReferenceIdeal Cert.ReferenceIdeal.Gen Cert.Ctx

def PP (A : FVec Ideal S16384x4096 .f32) : FVec Ideal S32x256x4096 .f32 :=
  shapeCast _ (extractStridedSlice S8192x4096 ![0, 0] A slices_S16384x4096_S8192x4096_0_0) shapeCasts_S8192x4096_S32x256x4096
def HD (X : FVec Ideal S32x256x512 .f32) : FVec Ideal S32x8x256x64 .f32 :=
  transpose S32x8x256x64 [0, 2, 1, 3] (shapeCast _ X shapeCasts_S32x256x512_S32x256x8x64) transposes_S32x256x8x64_S32x8x256x64_0_2_1_3
def QQ (P : FVec Ideal S32x256x4096 .f32) : FVec Ideal S32x8x256x64 .f32 := HD (extractStridedSlice S32x256x512 ![0, 0, 2560] P slices_S32x256x4096_S32x256x512_0_0_2560)
def KK (P : FVec Ideal S32x256x4096 .f32) : FVec Ideal S32x8x256x64 .f32 := HD (extractStridedSlice S32x256x512 ![0, 0, 3072] P slices_S32x256x4096_S32x256x512_0_0_3072)
def VV (P : FVec Ideal S32x256x4096 .f32) : FVec Ideal S32x8x256x64 .f32 := HD (extractStridedSlice S32x256x512 ![0, 0, 3584] P slices_S32x256x4096_S32x256x512_0_0_3584)
def SC (Q K : FVec Ideal S32x8x256x64 .f32) : FVec Ideal S32x8x256x256 .f32 :=
  mulf (Host.dotGeneral dot_S32x8x256x64_S32x8x256x64_S32x8x256x256_3_3_2_2_01_01 none Q K) (broadcastInDim S32x8x256x256 ![] bcast_S_S32x8x256x256 (constant S_ .f32 0x3E000000#32))
def MM (S : FVec Ideal S32x8x256x256 .f32) : FVec Ideal S32x8x256 .f32 := Host.reduce FloatOps.maximumf S (constant S_ .f32 0xFF800000#32) reducesTo_S32x8x256x256_S32x8x256_d3 h_S_
def EX (S : FVec Ideal S32x8x256x256 .f32) (M : FVec Ideal S32x8x256 .f32) : FVec Ideal S32x8x256x256 .f32 :=
  Host.exp (subf S (broadcastInDim S32x8x256x256 ![0, 1, 2, 3] bcast_S32x8x256x1_S32x8x256x256_0_1_2_3 (broadcastInDim S32x8x256x1 ![0, 1, 2] bcast_S32x8x256_S32x8x256x1_0_1_2
    (maximumf (broadcastInDim S32x8x256 ![] bcast_S_S32x8x256 (constant S_ .f32 0xFF800000#32)) M))))
def OO (E : FVec Ideal S32x8x256x256 .f32) (V : FVec Ideal S32x8x256x64 .f32) : FVec Ideal S8192x512 .f32 :=
  shapeCast _ (transpose S32x256x8x64 [0, 2, 1, 3] (Host.dotGeneral dot_S32x8x256x256_S32x8x256x64_S32x8x256x64_3_2_2_3_01_01 none (Host.divf E (broadcastInDim S32x8x256x256 ![0, 1, 2, 3] bcast_S32x8x256x1_S32x8x256x256_0_1_2_3 (broadcastInDim S32x8x256x1 ![0, 1, 2] bcast_S32x8x256_S32x8x256x1_0_1_2
    (Host.reduceAdd E (constant S_ .f32 0x00000000#32) reducesTo_S32x8x256x256_S32x8x256_d3 h_S_)))) V) transposes_S32x8x256x64_S32x256x8x64_0_2_1_3) shapeCasts_S32x256x8x64_S8192x512
def CC (P K : FVec Ideal S32x8x256x64 .f32) : FVec Ideal S32x2x8x256x64 .f32 :=
  concatenate S32x2x8x256x64 1 [⟨S32x1x8x256x64, broadcastInDim S32x1x8x256x64 ![0, 2, 3, 4] bcast_S32x8x256x64_S32x1x8x256x64_0_2_3_4 P⟩,
    ⟨S32x1x8x256x64, broadcastInDim S32x1x8x256x64 ![0, 2, 3, 4] bcast_S32x8x256x64_S32x1x8x256x64_0_2_3_4 K⟩] concatenates_S32x1x8x256x64_S32x1x8x256x64_S32x2x8x256x64_d1

theorem PP_at (A : FVec Ideal S16384x4096 .f32) (b : Fin 32) (r : Fin 256) (k : Fin 4096) : PP A (ix3 b r k) = A (ix2 ⟨b * 256 + r, by omega⟩ k) := by
  pointwise [PP]

theorem HD_at (X : FVec Ideal S32x256x512 .f32) (b : Fin 32) (h : Fin 8) (r : Fin 256) (d : Fin 64) : HD X (ix4 b h r d) = X (ix3 b r ⟨h * 64 + d, by omega⟩) := by
  pointwise [HD]

theorem QQ_at (A : FVec Ideal S16384x4096 .f32) (b : Fin 32) (h : Fin 8) (r : Fin 256) (d : Fin 64) :
    QQ (PP A) (ix4 b h r d) = A (ix2 ⟨b * 256 + r, by omega⟩ ⟨2560 + (h * 64 + d), by omega⟩) := by
  unfold QQ
  rw [HD_at]
  pointwise [PP]

theorem KK_at (A : FVec Ideal S16384x4096 .f32) (b : Fin 32) (h : Fin 8) (r : Fin 256) (d : Fin 64) :
    KK (PP A) (ix4 b h r d) = A (ix2 ⟨b * 256 + r, by omega⟩ ⟨3072 + (h * 64 + d), by omega⟩) := by
  unfold KK
  rw [HD_at]
  pointwise [PP]

theorem VV_at (A : FVec Ideal S16384x4096 .f32) (b : Fin 32) (h : Fin 8) (r : Fin 256) (d : Fin 64) :
    VV (PP A) (ix4 b h r d) = A (ix2 ⟨b * 256 + r, by omega⟩ ⟨3584 + (h * 64 + d), by omega⟩) := by
  unfold VV
  rw [HD_at]
  pointwise [PP]

theorem SC_at (Q K : FVec Ideal S32x8x256x64 .f32) (b : Fin 32) (h : Fin 8) (r x : Fin 256) :
    SC Q K (ix4 b h r x) = score (fun d => Q (ix4 b h r d)) (fun d => K (ix4 b h x d)) := by
  pointwise [SC, score]

theorem MM_at (S : FVec Ideal S32x8x256x256 .f32) (b : Fin 32) (h : Fin 8) (r : Fin 256) : MM S (ix3 b h r) = mx fun x => S (ix4 b h r x) := by
  pointwise [MM, mx]

theorem EX_at (S : FVec Ideal S32x8x256x256 .f32) (M : FVec Ideal S32x8x256 .f32) (b : Fin 32) (h : Fin 8) (r x : Fin 256) :
    EX S M (ix4 b h r x) = Ideal.exp (S (ix4 b h r x) - max (Ideal.ofBits .f32 0xFF800000#32) (M (ix3 b h r))) := by
  pointwise [EX]

theorem max_neg_inf (a : EReal) : max (Ideal.ofBits .f32 0xFF800000#32) a = a := by rw [neg_inf]; exact max_eq_right bot_le

theorem OO_at (E : FVec Ideal S32x8x256x256 .f32) (V : FVec Ideal S32x8x256x64 .f32) (i : Fin 8192) (j : Fin 512) :
    OO E V (ix2 i j) = ∑ x : Fin 256, Ideal.div (E (ix4 ⟨i / 256, by omega⟩ ⟨j / 64, by omega⟩ ⟨i % 256, by omega⟩ x)) (∑ x : Fin 256, E (ix4 ⟨i / 256, by omega⟩ ⟨j / 64, by omega⟩ ⟨i % 256, by omega⟩ x)) *
      V (ix4 ⟨i / 256, by omega⟩ ⟨j / 64, by omega⟩ x ⟨j % 64, by omega⟩) := by
  pointwise [OO]

theorem CC_at (A : FVec Ideal S16384x4096 .f32) (P K : FVec Ideal S32x8x256x64 .f32) (o : Fin 3585)
    (hK : ∀ b h r d, K (ix4 b h r d) = A (ix2 ⟨b * 256 + r, by omega⟩ ⟨o + (h * 64 + d), by omega⟩)) : CC P K = GC A P o := by
  funext y
  obtain ⟨a, b, c, d, e, rfl⟩ : ∃ (a : Fin 32) (b : Fin 2) (c : Fin 8) (d : Fin 256) (e : Fin 64), y = ix5 a b c d e := ⟨y 0, y 1, y 2, y 3, y 4, funext fun a => by fin_cases a <;> rfl⟩
  show _ = if (b : ℕ) = 0 then P (ix4 a c d e) else A (ix2 ⟨a * 256 + d, by omega⟩ ⟨o + (c * 64 + e), by omega⟩)
  rw [← hK]
  by_cases h : (b : ℕ) = 0
  · rw [if_pos h]
    pointwise [CC]
    exact dif_pos (by omega)
  · rw [if_neg h]
    pointwise [CC]
    exact dif_neg (by omega)

/-- The reference's attention, when the queries and keys are real numbers. -/
theorem ref_at (A : FVec Ideal S16384x4096 .f32) (hf : ∀ (r : Fin 8192) (k : Fin 1024), Fin' (A (ix2 ⟨r, by omega⟩ ⟨2560 + k, by omega⟩))) :
    OO (EX (SC (QQ (PP A)) (KK (PP A))) (MM (SC (QQ (PP A)) (KK (PP A))))) (VV (PP A)) = GO A := by
  funext y
  obtain ⟨i, j, rfl⟩ : ∃ (i : Fin 8192) (j : Fin 512), y = ix2 i j := ⟨y 0, y 1, funext fun a => by fin_cases a <;> rfl⟩
  rw [OO_at]
  simp only [EX_at, max_neg_inf, MM_at, SC_at, QQ_at, KK_at, VV_at]
  refine (att_eq _ _ fun x => score_real _ _ (fun d => ?_) (fun d => ?_)).symm.trans ?_
  · exact hf ⟨i / 256 * 256 + i % 256, by omega⟩ ⟨j / 64 * 64 + d, by omega⟩
  · have := hf ⟨i / 256 * 256 + x, by omega⟩ ⟨512 + (j / 64 * 64 + d), by omega⟩
    refine Eq.mp (congrArg Fin' (congrArg A ((ix2_inj ..).2 ⟨rfl, Fin.ext ?_⟩))) this
    simp only
    omega
  · have e1 : (i : ℕ) / 256 * 256 + i % 256 = i := by omega
    have e2 : (j : ℕ) / 64 * 64 + j % 64 = j := by omega
    simp only [e1, e2]
    rfl

end Cert.ReferenceIdeal.Value
end
-- ==== Proof.CtxA.lean ====
module

public import proofs.«01_k».proof.Proof.CtxM
public import proofs.«01_k».proof.Proof.Gen.KernelIdeal.Frame
public import Idealize.ShloMosaic.Lib.Pipeline.ReadBack

@[expose] public section

set_option maxRecDepth 100000

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ctx

variable (m : (ℓ : Loc nD τ sig) → Buf (Elt Ideal) ℓ)

theorem lt_tab : ∀ x : Fin 128, IntOp.cmpi CmpIPredicate.slt (BitVec.ofNat 32 (x : ℕ)) 64#32 = if (x : ℕ) < 64 then 1#1 else 0#1 := by decide +kernel

theorem ge_tab : ∀ x : Fin 128, IntOp.cmpi CmpIPredicate.sge (BitVec.ofNat 32 (x : ℕ)) 64#32 = if (x : ℕ) < 64 then 0#1 else 1#1 := by decide +kernel

/-- A sum over the lanes with the upper half masked. -/
theorem sum_lo (f : Fin 128 → EReal) : ∑ x : Fin 128, Scalar.select (IntOp.cmpi CmpIPredicate.slt (BitVec.ofNat 32 (x : ℕ)) 64#32) (f x) 0 = ∑ d : Fin 64, f ⟨d, by omega⟩ := by
  simp only [lt_tab]
  rw [Fin.sum_univ_add (a := 64) (b := 64)]
  simp [Scalar.select]
  rfl

/-- A sum over the lanes with the lower half masked. -/
theorem sum_hi (f : Fin 128 → EReal) : ∑ x : Fin 128, Scalar.select (IntOp.cmpi CmpIPredicate.sge (BitVec.ofNat 32 (x : ℕ)) 64#32) (f x) 0 = ∑ d : Fin 64, f ⟨64 + d, by omega⟩ := by
  simp only [ge_tab]
  rw [Fin.sum_univ_add (a := 64) (b := 64)]
  simp [Scalar.select]
  rfl

/-- The lanes of a pair of heads. -/
abbrev PAIR (q k v : FVec Ideal S256x128 .f32) : FVec Ideal S256x128 .f32 := k0_pay13 (F := Ideal) (k0_pay4 k) (k0_pay5 v) q (k0_pay9 (k0_pay4 k) (k0_pay5 v) q)

theorem half_at (q k v : FVec Ideal S256x128 .f32) (r : Fin 256) (j : Fin 128) :
    k0_pay9 (F := Ideal) (k0_pay4 k) (k0_pay5 v) q (ix2 r j) = att (fun x => score (fun d => q (ix2 r ⟨d, by omega⟩)) (fun d => k (ix2 x ⟨d, by omega⟩))) (fun x => v (ix2 x j)) := by
  pointwise [k0_pay9, k0_pay4, k0_pay5]
  simp only [sum_lo (fun x_1 => q (ix2 r x_1) * k (ix2 _ x_1))]
  rfl

theorem pair_at (q k v : FVec Ideal S256x128 .f32) (r : Fin 256) (j : Fin 128) :
    PAIR q k v (ix2 r j) = att (fun x => score (fun d => q (ix2 r ⟨j / 64 * 64 + d, by omega⟩)) (fun d => k (ix2 x ⟨j / 64 * 64 + d, by omega⟩))) (fun x => v (ix2 x j)) := by
  unfold PAIR
  have hh := half_at q k v r j
  generalize k0_pay9 (F := Ideal) (k0_pay4 k) (k0_pay5 v) q = w at hh
  pointwise [k0_pay13, k0_pay4, k0_pay5]
  simp only [sum_hi (fun x_1 => q (ix2 r x_1) * k (ix2 _ x_1))]
  rw [lt_tab]
  by_cases h : (j : ℕ) < 64
  · have e : (j : ℕ) / 64 * 64 = 0 := by omega
    rw [if_pos h]
    refine hh.trans ?_
    simp only [e, Nat.zero_add]
  · have e : (j : ℕ) / 64 * 64 = 64 := by omega
    rw [if_neg h]
    simp only [e]
    rfl

/-- The attention's block, from the blocks of queries, keys and values. -/
def Gatt (Q K W : FVec Ideal S256x512 .f32) : FVec Ideal S256x512 .f32 := fun y =>
  att (fun x => score (fun d => Q (ix2 (y 0) ⟨(y 1 : ℕ) / 64 * 64 + d, by have : (y 1 : ℕ) < 512 := (y 1).isLt; omega⟩))
    (fun d => K (ix2 x ⟨(y 1 : ℕ) / 64 * 64 + d, by have : (y 1 : ℕ) < 512 := (y 1).isLt; omega⟩))) (fun x => W (ix2 x (y 1)))

theorem pair_eq (Q K W : FVec Ideal S256x512 .f32) (q k v : FVec Ideal S256x128 .f32) (r : Fin 256) (j : Fin 128) (y : S256x512.Idx) (p : ℕ) (hp : p < 4)
    (h0 : (y 0 : ℕ) = r) (h1 : (y 1 : ℕ) = p * 128 + j)
    (hq : ∀ (r : Fin 256) (j : Fin 128), q (ix2 r j) = Q (ix2 r ⟨p * 128 + j, by omega⟩)) (hk : ∀ (r : Fin 256) (j : Fin 128), k (ix2 r j) = K (ix2 r ⟨p * 128 + j, by omega⟩))
    (hv : ∀ (r : Fin 256) (j : Fin 128), v (ix2 r j) = W (ix2 r ⟨p * 128 + j, by omega⟩)) : PAIR q k v (ix2 r j) = Gatt Q K W y := by
  rw [pair_at]
  have hj : p * 128 + (j : ℕ) < 512 := by have := j.isLt; clear h0 h1; omega
  have hy : y = ix2 r ⟨p * 128 + j, hj⟩ := funext fun a => by fin_cases a; exacts [Fin.ext h0, Fin.ext h1]
  subst hy
  unfold Gatt
  have e : ∀ d : Fin 64, p * 128 + ((j : ℕ) / 64 * 64 + d) = (p * 128 + j) / 64 * 64 + d := fun d => by omega
  simp only [hq, hk, hv, e]
  rfl

/-- The block of one of the two caches, from the block of the earlier one and the block of new rows. -/
def Gcache (P : FVec Ideal S1x8x256x64 .f32) (K : FVec Ideal S256x512 .f32) : FVec Ideal S1x2x8x256x64 .f32 := fun y =>
  if (y 1 : ℕ) = 0 then P (ix4 0 (y 2) (y 3) (y 4))
  else K (ix2 (y 3) ⟨(y 2 : ℕ) * 64 + (y 4 : ℕ), by have : (y 2 : ℕ) < 8 := (y 2).isLt; have : (y 4 : ℕ) < 64 := (y 4).isLt; omega⟩)

theorem lo_at (k : FVec Ideal S256x128 .f32) (r : Fin 256) (d : Fin 64) : k0_pay6 (F := Ideal) k (ix3 0 r d) = k (ix2 r ⟨d, by omega⟩) := by
  pointwise [k0_pay6]

theorem hi_at (k : FVec Ideal S256x128 .f32) (r : Fin 256) (d : Fin 64) : k0_pay10 (F := Ideal) k (ix3 0 r d) = k (ix2 r ⟨64 + d, by omega⟩) := by
  pointwise [k0_pay10]

theorem prior_at (P : FVec Ideal S1x8x256x64 .f32) (h : Fin 8) (r : Fin 256) (d : Fin 64) : k0_pay2 (F := Ideal) P (ix5 0 0 h r d) = P (ix4 0 h r d) := by
  pointwise [k0_pay2]

theorem along (w : FVec Ideal S1x256x64 .f32) (h : Shape.numel ⟨5, ![1, 1, 1, 256, 64]⟩ = S1x256x64.numel) (x : Shape.Idx ⟨5, ![1, 1, 1, 256, 64]⟩) :
    w (Shape.reshapeEquiv h x) = w (ix3 0 (x 3) (x 4)) := by
  have e : ∀ (a : Fin 256) (b : Fin 64), x = ix5 0 0 0 a b → w (Shape.reshapeEquiv h x) = w (ix3 0 a b) := by
    rintro a b rfl
    change shapeCast (⟨5, ![1, 1, 1, 256, 64]⟩ : Shape) w h (ix5 0 0 0 a b) = _
    pointwise
  refine e _ _ (funext fun a => ?_)
  fin_cases a
  · exact Subsingleton.elim (α := Fin 1) _ _
  · exact Subsingleton.elim (α := Fin 1) _ _
  · exact Subsingleton.elim (α := Fin 1) _ _
  · rfl
  · rfl

/-- A head's rows of a cache block. -/
theorem cache_eq (P : FVec Ideal S1x8x256x64 .f32) (K : FVec Ideal S256x512 .f32) (w : FVec Ideal S1x256x64 .f32) (n : ℕ) (hn : n < 8)
    (h : Shape.numel ⟨5, ![1, 1, 1, 256, 64]⟩ = S1x256x64.numel) (x : Shape.Idx ⟨5, ![1, 1, 1, 256, 64]⟩) (y : S1x2x8x256x64.Idx)
    (g1 : (y 1 : ℕ) = 1 + 0 + 1 * (x 1 : ℕ)) (g2 : (y 2 : ℕ) = 0 + n + 1 * (x 2 : ℕ)) (g3 : (y 3 : ℕ) = 0 + 0 + 1 * (x 3 : ℕ)) (g4 : (y 4 : ℕ) = 0 + 0 + 1 * (x 4 : ℕ))
    (hw : ∀ (r : Fin 256) (d : Fin 64), w (ix3 0 r d) = K (ix2 r ⟨n * 64 + d, by omega⟩)) : w (Shape.reshapeEquiv h x) = Gcache P K y := by
  have b2 : (x 2 : ℕ) < 1 := (x 2).isLt
  have h2 : (y 2 : ℕ) = n := by omega
  have h3 : (y 3 : ℕ) = x 3 := by omega
  have h4 : (y 4 : ℕ) = x 4 := by omega
  rw [along w h x]
  refine (hw (x 3) (x 4)).trans ?_
  unfold Gcache
  rw [if_neg (by omega)]
  refine congrArg K ((ix2_inj ..).2 ⟨Fin.ext h3.symm, Fin.ext ?_⟩)
  simp only [h2, h4]

theorem prior_eq (P : FVec Ideal S1x8x256x64 .f32) (K : FVec Ideal S256x512 .f32) (x : S1x1x8x256x64.Idx) (y : S1x2x8x256x64.Idx)
    (g1 : (y 1 : ℕ) = 0 + 1 * (x 1 : ℕ)) (g2 : (y 2 : ℕ) = 0 + 1 * (x 2 : ℕ)) (g3 : (y 3 : ℕ) = 0 + 1 * (x 3 : ℕ)) (g4 : (y 4 : ℕ) = 0 + 1 * (x 4 : ℕ)) : k0_pay2 (F := Ideal) P x = Gcache P K y := by
  have b1 : (x 1 : ℕ) < 1 := (x 1).isLt
  have h2 : y 2 = x 2 := Fin.ext (by omega)
  have h3 : y 3 = x 3 := Fin.ext (by omega)
  have h4 : y 4 = x 4 := Fin.ext (by omega)
  have e : x = ix5 0 0 (x 2) (x 3) (x 4) := by
    funext a
    fin_cases a
    · exact Subsingleton.elim (α := Fin 1) _ _
    · exact Subsingleton.elim (α := Fin 1) _ _
    · rfl
    · rfl
    · rfl
  refine (congrArg _ e).trans ((prior_at P (x 2) (x 3) (x 4)).trans ?_)
  unfold Gcache
  rw [if_pos (by omega), h2, h3, h4]

set_option maxHeartbeats 2000000 in
theorem point (c : Dev nD) (t : Fin cfg0.N) : outsAt0 m c t = (Gatt (iblk m c 0 t) (iblk m c 1 t) (iblk m c 2 t), Gcache (iblk m c 3 t) (iblk m c 1 t), Gcache (iblk m c 4 t) (iblk m c 2 t)) := by
  have key : ∀ L : List (View.Piece (Elt Ideal) S256x512 .f32), (View.Piece.tiledL L S256x128.size = true) → View.PiecesOf (Gatt (iblk m c 0 t) (iblk m c 1 t) (iblk m c 2 t)) L → View.canon L =
    Gatt (iblk m c 0 t) (iblk m c 1 t) (iblk m c 2 t) := fun L hL hp => funext fun y =>
      View.canon_apply_of_pieces _ L hp.mem y (View.cover_of_tiledL L _ hL y)
  have key2 : ∀ (G : FVec Ideal S1x2x8x256x64 .f32) (L : List (View.Piece (Elt Ideal) S1x2x8x256x64 .f32)), (View.Piece.tiledBy L ![1, 1, 1, 256, 64] = true) → View.PiecesOf G L → View.canon L = G :=
    fun G L hL hp => funext fun y => View.canon_apply_of_pieces _ L hp.mem y (View.cover_of_tiledBy L _ hL y)
  unfold outsAt0
  frame_open
  simp (disch := decide) only [View.read_writes_junk_eq_canon, View.readAt_eq_ld, View.ld_unit_lit', Memref.IsWhole.read_unread]
  refine Prod.ext ?_ (Prod.ext ?_ ?_)
  · apply key
    · sl_kernel_rfl
    · dsimp only [View.PiecesOf]
      refine ⟨?_, ?_, ?_, ?_, trivial⟩
      all_goals intro x; refine (congrArg _ (show x = ix2 (x 0) (x 1) from funext fun a => by fin_cases a <;> rfl)).trans ?_
      · refine pair_eq _ _ _ _ _ _ (x 0) (x 1) _ 3 (by decide) ?_ ?_ (fun r j => ?_) (fun r j => ?_) (fun r j => ?_)
        all_goals first
          | (refine View.ld_unit_apply_of _ _ _ _ _ _ fun a => ?_; fin_cases a <;> simp [ValueKit.rect_emb_unit_val])
          | simp [ValueKit.rect_emb_unit_val]
      · refine pair_eq _ _ _ _ _ _ (x 0) (x 1) _ 2 (by decide) ?_ ?_ (fun r j => ?_) (fun r j => ?_) (fun r j => ?_)
        all_goals first
          | (refine View.ld_unit_apply_of _ _ _ _ _ _ fun a => ?_; fin_cases a <;> simp [ValueKit.rect_emb_unit_val])
          | simp [ValueKit.rect_emb_unit_val]
      · refine pair_eq _ _ _ _ _ _ (x 0) (x 1) _ 1 (by decide) ?_ ?_ (fun r j => ?_) (fun r j => ?_) (fun r j => ?_)
        all_goals first
          | (refine View.ld_unit_apply_of _ _ _ _ _ _ fun a => ?_; fin_cases a <;> simp [ValueKit.rect_emb_unit_val])
          | simp [ValueKit.rect_emb_unit_val]
      · refine pair_eq _ _ _ _ _ _ (x 0) (x 1) _ 0 (by decide) ?_ ?_ (fun r j => ?_) (fun r j => ?_) (fun r j => ?_)
        all_goals first
          | (refine View.ld_unit_apply_of _ _ _ _ _ _ fun a => ?_; fin_cases a <;> simp [ValueKit.rect_emb_unit_val])
          | simp [ValueKit.rect_emb_unit_val]
  all_goals
    apply key2
    · sl_kernel_rfl
    · dsimp only [View.PiecesOf]
      refine ⟨?_, ?_, ?_, ?_, ?_, ?_, ?_, ?_, ?_, trivial⟩
      · refine fun x => cache_eq _ _ _ 7 (by decide) _ x _ rfl rfl rfl rfl (fun r d => (hi_at _ r d).trans ?_)
        refine View.ld_unit_apply_of _ _ _ _ _ _ fun a => ?_; fin_cases a <;> simp [ValueKit.rect_emb_unit_val] <;> omega
      · refine fun x => cache_eq _ _ _ 6 (by decide) _ x _ rfl rfl rfl rfl (fun r d => (lo_at _ r d).trans ?_)
        refine View.ld_unit_apply_of _ _ _ _ _ _ fun a => ?_; fin_cases a <;> simp [ValueKit.rect_emb_unit_val] <;> omega
      · refine fun x => cache_eq _ _ _ 5 (by decide) _ x _ rfl rfl rfl rfl (fun r d => (hi_at _ r d).trans ?_)
        refine View.ld_unit_apply_of _ _ _ _ _ _ fun a => ?_; fin_cases a <;> simp [ValueKit.rect_emb_unit_val] <;> omega
      · refine fun x => cache_eq _ _ _ 4 (by decide) _ x _ rfl rfl rfl rfl (fun r d => (lo_at _ r d).trans ?_)
        refine View.ld_unit_apply_of _ _ _ _ _ _ fun a => ?_; fin_cases a <;> simp [ValueKit.rect_emb_unit_val] <;> omega
      · refine fun x => cache_eq _ _ _ 3 (by decide) _ x _ rfl rfl rfl rfl (fun r d => (hi_at _ r d).trans ?_)
        refine View.ld_unit_apply_of _ _ _ _ _ _ fun a => ?_; fin_cases a <;> simp [ValueKit.rect_emb_unit_val] <;> omega
      · refine fun x => cache_eq _ _ _ 2 (by decide) _ x _ rfl rfl rfl rfl (fun r d => (lo_at _ r d).trans ?_)
        refine View.ld_unit_apply_of _ _ _ _ _ _ fun a => ?_; fin_cases a <;> simp [ValueKit.rect_emb_unit_val] <;> omega
      · refine fun x => cache_eq _ _ _ 1 (by decide) _ x _ rfl rfl rfl rfl (fun r d => (hi_at _ r d).trans ?_)
        refine View.ld_unit_apply_of _ _ _ _ _ _ fun a => ?_; fin_cases a <;> simp [ValueKit.rect_emb_unit_val] <;> omega
      · refine fun x => cache_eq _ _ _ 0 (by decide) _ x _ rfl rfl rfl rfl (fun r d => (lo_at _ r d).trans ?_)
        refine View.ld_unit_apply_of _ _ _ _ _ _ fun a => ?_; fin_cases a <;> simp [ValueKit.rect_emb_unit_val] <;> omega
      · exact fun x => prior_eq _ _ x _ rfl rfl rfl rfl

end Cert.KernelIdeal.Value
end
-- ==== Proof.CtxC.lean ====
module

public import proofs.«01_k».proof.Proof.CtxA
public import proofs.«01_k».proof.Proof.CtxB
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Ctx

variable (m : (ℓ : Loc nD τ sig) → Buf (Elt Ideal) ℓ)

/-- Where each window's block lies at a grid point. -/
theorem idx : ∀ t : Fin cfg0.N, win0_0.index t = ![t.val, 5] ∧ win0_1.index t = ![t.val, 6] ∧ win0_2.index t = ![t.val, 7] ∧
    win0_3.index t = ![t.val, 0, 0, 0] ∧ win0_4.index t = ![t.val, 0, 0, 0] ∧ win0_5.index t = ![t.val, 0] ∧ win0_6.index t = ![t.val, 0, 0, 0, 0] ∧ win0_7.index t = ![t.val, 0, 0, 0, 0] ∧ t.val < 32 :=
  (by decide +kernel : ∀ t : Fin grid0.N, _)

abbrev rowIx (t : Fin cfg0.N) (r : Fin 256) : Fin 16384 := ⟨t.val * 256 + r, by have := (idx t).2.2.2.2.2.2.2.2; omega⟩
abbrev bIx (t : Fin cfg0.N) : Fin 32 := ⟨t.val, (idx t).2.2.2.2.2.2.2.2⟩

theorem blk0 (c : Dev nD) (t : Fin cfg0.N) (r : Fin 256) (k : Fin 512) : iblk m c 0 t (ix2 r k) = m ((c.tc : Thread nD τ).loc main_arg0) (ix2 (rowIx t r) ⟨2560 + k, by omega⟩) := by
  blk_ext [iblk, V, idx t]
theorem blk1 (c : Dev nD) (t : Fin cfg0.N) (r : Fin 256) (k : Fin 512) : iblk m c 1 t (ix2 r k) = m ((c.tc : Thread nD τ).loc main_arg0) (ix2 (rowIx t r) ⟨3072 + k, by omega⟩) := by
  blk_ext [iblk, V, idx t]
theorem blk2 (c : Dev nD) (t : Fin cfg0.N) (r : Fin 256) (k : Fin 512) : iblk m c 2 t (ix2 r k) = m ((c.tc : Thread nD τ).loc main_arg0) (ix2 (rowIx t r) ⟨3584 + k, by omega⟩) := by
  blk_ext [iblk, V, idx t]
theorem blk3 (c : Dev nD) (t : Fin cfg0.N) (h : Fin 8) (r : Fin 256) (d : Fin 64) : iblk m c 3 t (ix4 0 h r d) = m ((c.tc : Thread nD τ).loc main_arg1) (ix4 (bIx t) h r d) := by
  blk_ext [iblk, V, idx t]
theorem blk4 (c : Dev nD) (t : Fin cfg0.N) (h : Fin 8) (r : Fin 256) (d : Fin 64) : iblk m c 4 t (ix4 0 h r d) = m ((c.tc : Thread nD τ).loc main_arg2) (ix4 (bIx t) h r d) := by
  blk_ext [iblk, V, idx t]

theorem att_blk (A : FVec Ideal S16384x4096 .f32) (Q K W : FVec Ideal S256x512 .f32) (t : Fin cfg0.N)
    (hq : ∀ r k, Q (ix2 r k) = A (ix2 (rowIx t r) ⟨2560 + k, by omega⟩)) (hk : ∀ r k, K (ix2 r k) = A (ix2 (rowIx t r) ⟨3072 + k, by omega⟩))
    (hv : ∀ r k, W (ix2 r k) = A (ix2 (rowIx t r) ⟨3584 + k, by omega⟩)) (r : Fin 256) (j : Fin 512) :
    Gatt Q K W (ix2 r j) = GO A (ix2 ⟨t.val * 256 + r, by have := (idx t).2.2.2.2.2.2.2.2; omega⟩ j) := by
  have e : (t.val * 256 + (r : ℕ)) / 256 * 256 = t.val * 256 := by omega
  trans att (fun x => score (fun d => Q (ix2 r ⟨(j : ℕ) / 64 * 64 + d, by omega⟩)) (fun d => K (ix2 x ⟨(j : ℕ) / 64 * 64 + d, by omega⟩))) (fun x => W (ix2 x j))
  · rfl
  simp only [hq, hk, hv]
  unfold GO
  refine congrArg₂ att (funext fun x => congrArg₂ score rfl (funext fun d => congrArg A ?_)) (funext fun x => congrArg A ?_)
  · exact (ix2_inj ..).2 ⟨Fin.ext (congrArg (· + (x : ℕ)) e.symm), rfl⟩
  · exact (ix2_inj ..).2 ⟨Fin.ext (congrArg (· + (x : ℕ)) e.symm), rfl⟩

theorem cache_blk (A : FVec Ideal S16384x4096 .f32) (P : FVec Ideal S32x8x256x64 .f32) (p : FVec Ideal S1x8x256x64 .f32) (K : FVec Ideal S256x512 .f32) (o : Fin 3585) (t : Fin cfg0.N)
    (hp : ∀ h r d, p (ix4 0 h r d) = P (ix4 (bIx t) h r d)) (hk : ∀ r k, K (ix2 r k) = A (ix2 (rowIx t r) ⟨o + k, by omega⟩)) (b : Fin 2) (h : Fin 8) (r : Fin 256) (d : Fin 64) :
    Gcache p K (ix5 0 b h r d) = GC A P o (ix5 (bIx t) b h r d) := by
  show (if (b : ℕ) = 0 then p (ix4 0 h r d) else K (ix2 r ⟨h * 64 + d, by omega⟩)) = if (b : ℕ) = 0 then P (ix4 (bIx t) h r d) else A (ix2 (rowIx t r) ⟨o + (h * 64 + d), by omega⟩)
  rw [hp, hk]

/-- The attention's result array after the run. -/
theorem final5 (c : Dev nD) : (dats m 0 c).arrAt 5 (cfgs 0).N = GO (m ((c.tc : Thread nD τ).loc main_arg0)) := by
  refine (dats m 0 c).arrAt_eq_of_covers 5 _ (by decide +kernel) fun t _ y => ?_
  blk_simp
  rw [after0_5, point]
  refine (congrArg _ (show y = ix2 (y 0) (y 1) from funext fun a => by fin_cases a <;> rfl)).trans ((att_blk _ _ _ _ t (blk0 m c t) (blk1 m c t) (blk2 m c t) (y 0) (y 1)).trans (congrArg _ ?_))
  blk_ext [idx t]

/-- The key cache after the run. -/
theorem final6 (c : Dev nD) : (dats m 0 c).arrAt 6 (cfgs 0).N = GC (m ((c.tc : Thread nD τ).loc main_arg0)) (m ((c.tc : Thread nD τ).loc main_arg1)) 3072 := by
  refine (dats m 0 c).arrAt_eq_of_covers 6 _ (by decide +kernel) fun t _ y => ?_
  blk_simp
  rw [after0_6, point]
  refine (congrArg _ (show y = ix5 0 (y 1) (y 2) (y 3) (y 4) from funext fun a => by fin_cases a; exacts [Subsingleton.elim (α := Fin 1) _ _, rfl, rfl, rfl, rfl])).trans
    ((cache_blk _ _ _ _ 3072 t (blk3 m c t) (blk1 m c t) (y 1) (y 2) (y 3) (y 4)).trans (congrArg _ ?_))
  blk_ext [idx t]

/-- The value cache after the run. -/
theorem final7 (c : Dev nD) : (dats m 0 c).arrAt 7 (cfgs 0).N = GC (m ((c.tc : Thread nD τ).loc main_arg0)) (m ((c.tc : Thread nD τ).loc main_arg2)) 3584 := by
  refine (dats m 0 c).arrAt_eq_of_covers 7 _ (by decide +kernel) fun t _ y => ?_
  blk_simp
  rw [after0_7, point]
  refine (congrArg _ (show y = ix5 0 (y 1) (y 2) (y 3) (y 4) from funext fun a => by fin_cases a; exacts [Subsingleton.elim (α := Fin 1) _ _, rfl, rfl, rfl, rfl])).trans
    ((cache_blk _ _ _ _ 3584 t (blk4 m c t) (blk2 m c t) (y 1) (y 2) (y 3) (y 4)).trans (congrArg _ ?_))
  blk_ext [idx t]

end Cert.KernelIdeal.Value
end
-- ==== Proof.CtxP.lean ====
module

public import proofs.«01_k».proof.Defs
public import proofs.«01_k».proof.Proof.CtxB
public import proofs.«01_k».proof.Proof.CtxC
public import Idealize.ShloMosaic.Lib.Claim
public import Idealize.ShloMosaic.Adequacy
public import Idealize.ShloMosaic.Init

@[expose] public section

noncomputable section

namespace Cert.Proof

open Idealize.ShloMosaic Idealize.SL.Sem

/-- The attention's reference: what it leaves in its results, and its arguments unchanged. -/
theorem run_ctx (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  hlo_run

theorem frame_ctx : Cert.quiescent_ReferenceIdeal (hReferenceIdeal := Cert.ReferenceIdeal.Gen.facts) := fun m g _ =>
  (θ_run _ _ _).mono (fun r h => ⟨h, sem_eq_zero_of_no_sems (by decide) _⟩) (run_ctx m g)

theorem frame_ctx_finite : Cert.quiescent_ReferenceIdeal_pre_finite (hReferenceIdeal := Cert.ReferenceIdeal.Gen.facts) (hPre_finite := Cert.Pre_finite.Gen.facts) := fun m g _ =>
  (θ_run _ _ _).mono (fun r h => ⟨h, sem_eq_zero_of_no_sems (by decide) _⟩) (run_ctx m g)

theorem algebraic_ctx : Cert.algebraic_KernelIdeal_ReferenceIdeal_pre_finite (hKernelIdeal := Cert.KernelIdeal.Gen.facts) (hReferenceIdeal := Cert.ReferenceIdeal.Gen.facts) (hPre_finite := Cert.Pre_finite.Gen.facts) := by
  pair_intro
  · run_from Cert.KernelIdeal.Gen.run_main m g
  · hlo_run
    · exact (Cert.ReferenceIdeal.Value.ref_at _ (Cert.Ctx.real_of_pre _ _ _ (hpre c))).trans (Cert.KernelIdeal.Value.final5 m c).symm
    · exact (Cert.ReferenceIdeal.Value.CC_at _ _ _ 3072 (Cert.ReferenceIdeal.Value.KK_at _)).trans (Cert.KernelIdeal.Value.final6 m c).symm
    · rw [(hagree c).2.2]
      exact (Cert.ReferenceIdeal.Value.CC_at _ _ _ 3584 (Cert.ReferenceIdeal.Value.VV_at _)).trans (Cert.KernelIdeal.Value.final7 m c).symm

end Cert.Proof
end
-- ==== Proof.FfnA.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 100000

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

def rinv (v : Fin 1024 → EReal) : EReal :=
  Ideal.rsqrt (Ideal.div (∑ k, v k * v k) (Ideal.ofBits .f32 0x44800000#32) + Ideal.ofBits .f32 0x358637BD#32)

def hid (x : Fin 1024 → EReal) (g sc sh : Fin 1024 → EReal) (k : Fin 1024) : EReal :=
  x k * rinv x * g k * (1 + sc k) + sh k

def act (h : Fin 1024 → EReal) (w : Fin 1024 → Fin 5632 → EReal) (j : Fin 2816) : EReal :=
  (∑ k, h k * w k ⟨j, by omega⟩) * Ideal.logistic (∑ k, h k * w k ⟨j, by omega⟩) * (∑ k, h k * w k ⟨2816 + j, by omega⟩)

/-- The hidden row of the first half of a tile, at an entry. -/
theorem h0_at (X1 : FVec Ideal S1x1x9216 .f32) (X0 : FVec Ideal S256x1024 .f32) (X2 : FVec Ideal S1x1024 .f32) (r : Fin 256) (k : Fin 1024) :
    k0_pay6 (F := Ideal) X1 X0 X2 (ix2 r k) = hid (fun k => X0 (ix2 r k)) (fun k => X2 (ix2 0 k)) (fun k => X1 (ix3 0 0 ⟨1024 + k, by omega⟩)) (fun k => X1 (ix3 0 0 ⟨k, by omega⟩)) k := by
  pointwise [k0_pay6, k0_pay4, k0_pay3, k0_pay2, hid, rinv]

/-- The hidden row of the second half of a tile, at an entry. -/
theorem h1_at (X1 : FVec Ideal S1x1x9216 .f32) (X0 : FVec Ideal S256x1024 .f32) (X2 : FVec Ideal S1x1024 .f32) (r : Fin 256) (k : Fin 1024) :
    k0_pay9 (F := Ideal) (k0_pay3 X1) (k0_pay4 X1) X0 (k0_pay7 X2) (k0_pay8 X0) (FloatOps.ofBits FTy.f32 897988541#32) (ix2 r k) = hid (fun k => X0 (ix2 r k)) (fun k => X2 (ix2 0 k)) (fun k => X1 (ix3 0 0 ⟨1024 + k, by omega⟩)) (fun k => X1 (ix3 0 0 ⟨k, by omega⟩)) k := by
  pointwise [k0_pay9, k0_pay8, k0_pay7, k0_pay4, k0_pay3, k0_pay2, hid, rinv]

/-- One tile of gated activations, at an entry. -/
theorem act_at (Wg Wu : FVec Ideal S1x1x1024x256 .f32) (H : FVec Ideal S256x1024 .bf16) (r j : Fin 256) :
    k0_pay12 (F := Ideal) Wg Wu H H (ix2 r j) = (∑ k : Fin 1024, H (ix2 r k) * Wg (ix4 0 0 k j)) * Ideal.logistic (∑ k : Fin 1024, H (ix2 r k) * Wg (ix4 0 0 k j)) * (∑ k : Fin 1024, H (ix2 r k) * Wu (ix4 0 0 k j)) := by
  pointwise [k0_pay12, k0_pay11, k0_pay10]

def Gact (X0 : FVec Ideal S512x1024 .f32) (X1 : FVec Ideal S1x1x9216 .f32) (X2 : FVec Ideal S1x1024 .f32) (X4 : FVec Ideal S1x1x1024x5632 .f32) : FVec Ideal S512x2816 .bf16 :=
  fun y => act (hid (fun k => X0 (ix2 (y 0) k)) (fun k => X2 (ix2 0 k)) (fun k => X1 (ix3 0 0 ⟨1024 + k, by omega⟩)) (fun k => X1 (ix3 0 0 ⟨k, by omega⟩)))
    (fun k j => X4 (ix4 0 0 k j)) (y 1)

/-- The output row from its input row, the modulation and the weights. -/
def outRow (a : Fin 2816 → EReal) (wo : Fin 2816 → Fin 1024 → EReal) (j : Fin 1024) : EReal := ∑ k, a k * wo k j

def outv (x gate gq o : Fin 1024 → EReal) (j : Fin 1024) : EReal :=
  x j + Ideal.ofBits .f32 0x3F000000#32 * gate j * (o j * rinv o * gq j)

/-- One row of the sublayer's result, from the input row, its modulation row, the two gains and the two weight matrices. -/
def rowOut (x : Fin 1024 → EReal) (mo : Fin 9216 → EReal) (gp gq : Fin 1024 → EReal) (w : Fin 1024 → Fin 5632 → EReal) (wo : Fin 2816 → Fin 1024 → EReal) (j : Fin 1024) : EReal :=
  outv x (fun k => mo ⟨2048 + k, by omega⟩) gq (outRow (act (hid x gp (fun k => mo ⟨1024 + k, by omega⟩) (fun k => mo ⟨k, by omega⟩)) w) wo) j

/-- The modulation row of a row of the input. -/
def mrow (i : Fin 16384) : Fin 8 := if h : (i : ℕ) < 8192 then 0 else ⟨1 + (i - 8192) / 2048, by omega⟩

/-- The sublayer's result. -/
def Gfin (X : FVec Ideal S16384x1024 .f32) (M : FVec Ideal S8x1x9216 .f32) (NP NQ : FVec Ideal S4x3x1024 .f32) (W : FVec Ideal S4x2x1024x5632 .f32) (Wo : FVec Ideal S4x2x2816x1024 .f32) : FVec Ideal S16384x1024 .f32 :=
  fun y => rowOut (fun k => X (ix2 (y 0) k)) (fun k => M (ix3 (mrow (y 0)) 0 k)) (fun k => NP (ix3 2 0 k)) (fun k => NQ (ix3 2 0 k)) (fun k j => W (ix4 2 0 k j)) (fun k j => Wo (ix4 2 0 k j)) (y 1)

/-- The last stage's payload, at an entry. -/
theorem out_at (X1 : FVec Ideal S1x1x9216 .f32) (A : FVec Ideal S256x2816 .bf16) (Wo : FVec Ideal S1x1x2816x1024 .bf16) (X0 : FVec Ideal S256x1024 .f32) (X3 : FVec Ideal S1x1024 .f32)
    (r : Fin 256) (j : Fin 1024) :
    k0_pay1 (F := Ideal) (k0_pay5 X1) A Wo X0 X3 (ix2 r j) = outv (fun k => X0 (ix2 r k)) (fun k => X1 (ix3 0 0 ⟨2048 + k, by omega⟩)) (fun k => X3 (ix2 0 k))
      (outRow (fun k => A (ix2 r k)) (fun k j => Wo (ix4 0 0 k j))) j := by
  pointwise [k0_pay1, k0_pay5, k0_pay2, outv, rinv, outRow]

def Gout (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16) : FVec Ideal S512x1024 .f32 :=
  fun y => outv (fun k => X0 (ix2 (y 0) k)) (fun k => X1 (ix3 0 0 ⟨2048 + k, by omega⟩)) (fun k => X3 (ix2 0 k))
      (outRow (act (hid (fun k => X0 (ix2 (y 0) k)) (fun k => X2 (ix2 0 k)) (fun k => X1 (ix3 0 0 ⟨1024 + k, by omega⟩)) (fun k => X1 (ix3 0 0 ⟨k, by omega⟩))) (fun k j => X4 (ix4 0 0 k j)))
        (fun k j => X5 (ix4 0 0 k j))) (y 1)

theorem h0_row (X0 : FVec Ideal S512x1024 .f32) (X1 : FVec Ideal S1x1x9216 .f32) (x0 : FVec Ideal S256x1024 .f32) (X2 : FVec Ideal S1x1024 .f32) (r : Fin 256) (R : Fin 512)
    (hx : ∀ k, x0 (ix2 r k) = X0 (ix2 R k)) (k : Fin 1024) :
    k0_pay6 (F := Ideal) X1 x0 X2 (ix2 r k) = hid (fun k => X0 (ix2 R k)) (fun k => X2 (ix2 0 k)) (fun k => X1 (ix3 0 0 ⟨1024 + k, by omega⟩)) (fun k => X1 (ix3 0 0 ⟨k, by omega⟩)) k := by
  rw [h0_at]; simp only [hx]

theorem h1_row (X0 : FVec Ideal S512x1024 .f32) (X1 : FVec Ideal S1x1x9216 .f32) (x0 : FVec Ideal S256x1024 .f32) (X2 : FVec Ideal S1x1024 .f32) (r : Fin 256) (R : Fin 512)
    (hx : ∀ k, x0 (ix2 r k) = X0 (ix2 R k)) (k : Fin 1024) :
    k0_pay9 (F := Ideal) (k0_pay3 X1) (k0_pay4 X1) x0 (k0_pay7 X2) (k0_pay8 x0) (FloatOps.ofBits FTy.f32 897988541#32) (ix2 r k) = hid (fun k => X0 (ix2 R k)) (fun k => X2 (ix2 0 k)) (fun k => X1 (ix3 0 0 ⟨1024 + k, by omega⟩)) (fun k => X1 (ix3 0 0 ⟨k, by omega⟩)) k := by
  rw [h1_at]; simp only [hx]

/-- A tile of activations is the block of `Gact` it is stored at. -/
theorem tile_eq (X0 : FVec Ideal S512x1024 .f32) (X1 : FVec Ideal S1x1x9216 .f32) (X2 : FVec Ideal S1x1024 .f32) (X4 : FVec Ideal S1x1x1024x5632 .f32)
    (wg wu : FVec Ideal S1x1x1024x256 .f32) (H : FVec Ideal S256x1024 .bf16) (r j : Fin 256) (y : S512x2816.Idx)
    (hH : ∀ k, H (ix2 r k) = hid (fun k => X0 (ix2 (y 0) k)) (fun k => X2 (ix2 0 k)) (fun k => X1 (ix3 0 0 ⟨1024 + k, by omega⟩)) (fun k => X1 (ix3 0 0 ⟨k, by omega⟩)) k)
    (hg : ∀ k, wg (ix4 0 0 k j) = X4 (ix4 0 0 k ⟨(y 1 : ℕ), by have : (y 1 : ℕ) < 2816 := (y 1).isLt; omega⟩))
    (hu : ∀ k, wu (ix4 0 0 k j) = X4 (ix4 0 0 k ⟨2816 + (y 1 : ℕ), by have : (y 1 : ℕ) < 2816 := (y 1).isLt; omega⟩)) :
    k0_pay12 (F := Ideal) wg wu H H (ix2 r j) = Gact X0 X1 X2 X4 y := by
  rw [act_at]; simp only [hH, hg, hu]; rfl

theorem out_eq (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16)
    (x0 : FVec Ideal S256x1024 .f32) (A : FVec Ideal S256x2816 .bf16) (r : Fin 256) (j : Fin 1024) (y : S512x1024.Idx) (hj : j = y 1)
    (hx : ∀ k, x0 (ix2 r k) = X0 (ix2 (y 0) k)) (hA : ∀ k, A (ix2 r k) = Gact X0 X1 X2 X4 (ix2 (y 0) k)) :
    k0_pay1 (F := Ideal) (k0_pay5 X1) A X5 x0 X3 (ix2 r j) = Gout X0 X1 X2 X3 X4 X5 y := by
  rw [out_at]; simp only [hx, hA]; subst hj; rfl

set_option maxHeartbeats 2000000 in
theorem point (c : Dev nD) (t : Fin cfg0.N) : outsAt0 m c t = Gout (iblk m c 0 t) (iblk m c 1 t) (iblk m c 2 t) (iblk m c 3 t) (iblk m c 4 t) (iblk m c 5 t) := by
  have e1 : ∀ L B, scM0_1.view.readCov (Val := Elt Ideal) L B = _ := fun L B => View.readCov_eq_canon' (Val := Elt Ideal) scM0_1.view L B
  have key : ∀ L : List (View.Piece (Elt Ideal) S512x2816 .bf16), (View.Piece.tiledL L S256x256.size = true) → View.PiecesOf (Gact (iblk m c 0 t) (iblk m c 1 t) (iblk m c 2 t) (iblk m c 4 t)) L → View.canon L =
    Gact (iblk m c 0 t) (iblk m c 1 t) (iblk m c 2 t) (iblk m c 4 t) := fun L hL hp => funext fun y =>
      View.canon_apply_of_pieces _ L hp.mem y (View.cover_of_tiledL L _ hL y)
  have key2 : ∀ L : List (View.Piece (Elt Ideal) S512x1024 .f32), (View.Piece.tiledL L S256x1024.size = true) → View.PiecesOf (Gout (iblk m c 0 t) (iblk m c 1 t) (iblk m c 2 t) (iblk m c 3 t) (iblk m c 4 t) (iblk m c 5 t)) L → View.canon L =
    Gout (iblk m c 0 t) (iblk m c 1 t) (iblk m c 2 t) (iblk m c 3 t) (iblk m c 4 t) (iblk m c 5 t) := fun L hL hp => funext fun y =>
      View.canon_apply_of_pieces _ L hp.mem y (View.cover_of_tiledL L _ hL y)
  unfold outsAt0
  frame_open
  simp (disch := decide) only [↓ e1, ↓ View.readCov_skip, ↓ View.readCov_cons_toLoadRect, View.read_writes_junk_eq_canon, View.readAt_eq_ld, View.ld_unit_lit',
        Memref.IsWhole.read_unread]
  rw [key]
  rotate_left
  · sl_kernel_rfl
  · dsimp only [View.PiecesOf]
    refine ⟨?_, ?_, ?_, ?_, ?_, ?_, ?_, ?_, ?_, ?_, ?_, ?_, ?_, ?_, ?_, ?_, ?_, ?_, ?_, ?_, ?_, ?_, trivial⟩
    all_goals (intro x; refine tile_eq _ _ _ _ _ _ _ (x 0) (x 1) _ ?_ ?_ ?_)
    all_goals intro k
    all_goals first | refine h0_row _ _ _ _ _ _ ?_ k; intro k | refine h1_row _ _ _ _ _ _ ?_ k; intro k | skip
    all_goals (refine View.ld_unit_apply_of _ _ _ _ _ _ fun a => ?_)
    all_goals (fin_cases a <;> simp [ValueKit.rect_emb_unit_val] <;> omega)
  · apply key2
    · sl_kernel_rfl
    · dsimp only [View.PiecesOf]
      refine ⟨?_, ?_, trivial⟩
      all_goals (intro x; refine (congrArg _ (show x = ix2 (x 0) (x 1) from funext fun a => by fin_cases a <;> rfl)).trans (out_eq _ _ _ _ _ _ _ _ (x 0) (x 1) _ ?_ (fun k => ?_) (fun k => ?_)))
      all_goals first
        | (refine View.ld_unit_apply_of _ _ _ _ _ _ fun a => ?_; fin_cases a <;> simp [ValueKit.rect_emb_unit_val])
        | (refine congrArg (Gact _ _ _ _) (funext fun a => Fin.ext ?_); fin_cases a <;> simp [ValueKit.rect_emb_unit_val, LoadRect.idx])
        | (apply Fin.ext; simp [ValueKit.rect_emb_unit_val])

end Cert.Kernel2Ideal.Value
end
-- ==== Proof.FfnB.lean ====
module

public import proofs.«01_k».proof.Proof.FfnA

@[expose] public section

set_option maxRecDepth 100000

noncomputable section

open Idealize.ShloMosaic Idealize.ShloMosaic.TcCoe Idealize.SL.Sem

namespace Cert.Reference2Ideal.Value

open Cert.Reference2Ideal Cert.Reference2Ideal.Gen Cert.Kernel2Ideal.Value

/-- The first half of the rows, as the reference shapes them. -/
def XA (A0 : FVec Ideal S16384x1024 .f32) : FVec Ideal S32x256x1024 .f32 := shapeCast _ (extractStridedSlice S8192x1024 ![0, 0] A0 slices_S16384x1024_S8192x1024_0_0) shapeCasts_S8192x1024_S32x256x1024

/-- The first half's normalised and modulated rows. -/
def HA (XA : FVec Ideal S32x256x1024 .f32) (A1 : FVec Ideal S8x1x9216 .f32) (A2 : FVec Ideal S4x3x1024 .f32) : FVec Ideal S32x256x1024 .f32 := (addf (mulf (mulf (mulf XA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf XA XA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![2, 0, 0] A2 slices_S4x3x1024_S1x1x1024_2_0_0) shapeCasts_S1x1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 1024] (extractStridedSlice S1x1x9216 ![0, 0, 0] A1 slices_S8x1x9216_S1x1x9216_0_0_0) slices_S1x1x9216_S1x1x1024_0_0_1024)))) (broadcastInDim S32x256x1024 ![0, 1, 2] bcast_S1x1x1024_S32x256x1024_0_1_2 (extractStridedSlice S1x1x1024 ![0, 0, 0] (extractStridedSlice S1x1x9216 ![0, 0, 0] A1 slices_S8x1x9216_S1x1x9216_0_0_0) slices_S1x1x9216_S1x1x1024_0_0_0)))

/-- The first half's gate and up columns. -/
def GA (HA : FVec Ideal S32x256x1024 .f32) (A4 : FVec Ideal S4x2x1024x5632 .f32) : FVec Ideal S32x256x5632 .f32 := (Host.dotGeneral dot_S32x256x1024_S1024x5632_S32x256x5632_2_0_01_1_n_n none HA (shapeCast _ (extractStridedSlice S1x1x1024x5632 ![2, 0, 0, 0] A4 slices_S4x2x1024x5632_S1x1x1024x5632_2_0_0_0) shapeCasts_S1x1x1024x5632_S1024x5632))

/-- The first half's feed-forward rows. -/
def SA (GA : FVec Ideal S32x256x5632 .f32) (A5 : FVec Ideal S4x2x2816x1024 .f32) : FVec Ideal S32x256x1024 .f32 := (Host.dotGeneral dot_S32x256x2816_S2816x1024_S32x256x1024_2_0_01_1_n_n none (mulf (mulf (extractStridedSlice S32x256x2816 ![0, 0, 0] GA slices_S32x256x5632_S32x256x2816_0_0_0) (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf (extractStridedSlice S32x256x2816 ![0, 0, 0] GA slices_S32x256x5632_S32x256x2816_0_0_0)))))) (extractStridedSlice S32x256x2816 ![0, 0, 2816] GA slices_S32x256x5632_S32x256x2816_0_0_2816)) (shapeCast _ (extractStridedSlice S1x1x2816x1024 ![2, 0, 0, 0] A5 slices_S4x2x2816x1024_S1x1x2816x1024_2_0_0_0) shapeCasts_S1x1x2816x1024_S2816x1024))

/-- The first half's result. -/
def OA (XA SA : FVec Ideal S32x256x1024 .f32) (A1 : FVec Ideal S8x1x9216 .f32) (A3 : FVec Ideal S4x3x1024 .f32) : FVec Ideal S32x256x1024 .f32 := (addf XA (mulf (broadcastInDim S32x256x1024 ![0, 1, 2] bcast_S1x1x1024_S32x256x1024_0_1_2 (mulf (broadcastInDim S1x1x1024 ![] bcast_S_S1x1x1024 (constant S_ .f32 0x3F000000#32)) (extractStridedSlice S1x1x1024 ![0, 0, 2048] (extractStridedSlice S1x1x9216 ![0, 0, 0] A1 slices_S8x1x9216_S1x1x9216_0_0_0) slices_S1x1x9216_S1x1x1024_0_0_2048))) (mulf (mulf SA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf SA SA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![2, 0, 0] A3 slices_S4x3x1024_S1x1x1024_2_0_0) shapeCasts_S1x1x1024_S1024))))))

theorem HA_at (X : FVec Ideal S32x256x1024 .f32) (A1 : FVec Ideal S8x1x9216 .f32) (A2 : FVec Ideal S4x3x1024 .f32) (p : Fin 32) (q : Fin 256) (k : Fin 1024) :
    HA X A1 A2 (ix3 p q k) = hid (fun k => X (ix3 p q k)) (fun k => A2 (ix3 2 0 k)) (fun k => A1 (ix3 0 0 ⟨1024 + k, by omega⟩)) (fun k => A1 (ix3 0 0 ⟨k, by omega⟩)) k := by
  pointwise [HA, hid, rinv]

theorem GA_at (H : FVec Ideal S32x256x1024 .f32) (A4 : FVec Ideal S4x2x1024x5632 .f32) (p : Fin 32) (q : Fin 256) (j : Fin 5632) :
    GA H A4 (ix3 p q j) = ∑ k : Fin 1024, H (ix3 p q k) * A4 (ix4 2 0 k j) := by
  pointwise [GA]

theorem SA_at (G : FVec Ideal S32x256x5632 .f32) (A5 : FVec Ideal S4x2x2816x1024 .f32) (p : Fin 32) (q : Fin 256) (j : Fin 1024) :
    SA G A5 (ix3 p q j) = outRow (fun j => G (ix3 p q ⟨j, by omega⟩) * Ideal.logistic (G (ix3 p q ⟨j, by omega⟩)) * G (ix3 p q ⟨2816 + j, by omega⟩)) (fun k j => A5 (ix4 2 0 k j)) j := by
  pointwise [SA, outRow, Ideal.logistic]

theorem OA_at (X S : FVec Ideal S32x256x1024 .f32) (A1 : FVec Ideal S8x1x9216 .f32) (A3 : FVec Ideal S4x3x1024 .f32) (p : Fin 32) (q : Fin 256) (j : Fin 1024) :
    OA X S A1 A3 (ix3 p q j) = outv (fun k => X (ix3 p q k)) (fun k => A1 (ix3 0 0 ⟨2048 + k, by omega⟩)) (fun k => A3 (ix3 2 0 k)) (fun k => S (ix3 p q k)) j := by
  pointwise [OA, outv, rinv]

theorem rowA (X : FVec Ideal S32x256x1024 .f32) (A1 : FVec Ideal S8x1x9216 .f32) (A2 : FVec Ideal S4x3x1024 .f32) (A3 : FVec Ideal S4x3x1024 .f32) (A4 : FVec Ideal S4x2x1024x5632 .f32) (A5 : FVec Ideal S4x2x2816x1024 .f32) (p : Fin 32) (q : Fin 256) (j : Fin 1024) :
    OA X (SA (GA (HA X A1 A2) A4) A5) A1 A3 (ix3 p q j) =
      rowOut (fun k => X (ix3 p q k)) (fun k => A1 (ix3 0 0 k)) (fun k => A2 (ix3 2 0 k)) (fun k => A3 (ix3 2 0 k)) (fun k j => A4 (ix4 2 0 k j)) (fun k j => A5 (ix4 2 0 k j)) j := by
  rw [OA_at]; simp only [SA_at, GA_at, HA_at]; rfl
/-- The second half of the rows, as the reference shapes them. -/
def XB (A0 : FVec Ideal S16384x1024 .f32) : FVec Ideal S4x2048x1024 .f32 := shapeCast _ (extractStridedSlice S8192x1024 ![8192, 0] A0 slices_S16384x1024_S8192x1024_8192_0) shapeCasts_S8192x1024_S4x2048x1024

/-- The second half's normalised and modulated rows. -/
def HB (XB : FVec Ideal S4x2048x1024 .f32) (A1 : FVec Ideal S8x1x9216 .f32) (A2 : FVec Ideal S4x3x1024 .f32) : FVec Ideal S4x2048x1024 .f32 := (addf (mulf (mulf (mulf XB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf XB XB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![2, 0, 0] A2 slices_S4x3x1024_S1x1x1024_2_0_0) shapeCasts_S1x1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 1024] (extractStridedSlice S4x1x9216 ![1, 0, 0] A1 slices_S8x1x9216_S4x1x9216_1_0_0) slices_S4x1x9216_S4x1x1024_0_0_1024)))) (broadcastInDim S4x2048x1024 ![0, 1, 2] bcast_S4x1x1024_S4x2048x1024_0_1_2 (extractStridedSlice S4x1x1024 ![0, 0, 0] (extractStridedSlice S4x1x9216 ![1, 0, 0] A1 slices_S8x1x9216_S4x1x9216_1_0_0) slices_S4x1x9216_S4x1x1024_0_0_0)))

/-- The second half's gate and up columns. -/
def GB (HB : FVec Ideal S4x2048x1024 .f32) (A4 : FVec Ideal S4x2x1024x5632 .f32) : FVec Ideal S4x2048x5632 .f32 := (Host.dotGeneral dot_S4x2048x1024_S1024x5632_S4x2048x5632_2_0_01_1_n_n none HB (shapeCast _ (extractStridedSlice S1x1x1024x5632 ![2, 0, 0, 0] A4 slices_S4x2x1024x5632_S1x1x1024x5632_2_0_0_0) shapeCasts_S1x1x1024x5632_S1024x5632))

/-- The second half's feed-forward rows. -/
def SB (GB : FVec Ideal S4x2048x5632 .f32) (A5 : FVec Ideal S4x2x2816x1024 .f32) : FVec Ideal S4x2048x1024 .f32 := (Host.dotGeneral dot_S4x2048x2816_S2816x1024_S4x2048x1024_2_0_01_1_n_n none (mulf (mulf (extractStridedSlice S4x2048x2816 ![0, 0, 0] GB slices_S4x2048x5632_S4x2048x2816_0_0_0) (Host.divf (broadcastInDim S4x2048x2816 ![] bcast_S_S4x2048x2816 (constant S_ .f32 0x3F800000#32)) (addf (broadcastInDim S4x2048x2816 ![] bcast_S_S4x2048x2816 (constant S_ .f32 0x3F800000#32)) (Host.exp (Host.negf (extractStridedSlice S4x2048x2816 ![0, 0, 0] GB slices_S4x2048x5632_S4x2048x2816_0_0_0)))))) (extractStridedSlice S4x2048x2816 ![0, 0, 2816] GB slices_S4x2048x5632_S4x2048x2816_0_0_2816)) (shapeCast _ (extractStridedSlice S1x1x2816x1024 ![2, 0, 0, 0] A5 slices_S4x2x2816x1024_S1x1x2816x1024_2_0_0_0) shapeCasts_S1x1x2816x1024_S2816x1024))

/-- The second half's result. -/
def OB (XB SB : FVec Ideal S4x2048x1024 .f32) (A1 : FVec Ideal S8x1x9216 .f32) (A3 : FVec Ideal S4x3x1024 .f32) : FVec Ideal S4x2048x1024 .f32 := (addf XB (mulf (broadcastInDim S4x2048x1024 ![0, 1, 2] bcast_S4x1x1024_S4x2048x1024_0_1_2 (mulf (broadcastInDim S4x1x1024 ![] bcast_S_S4x1x1024 (constant S_ .f32 0x3F000000#32)) (extractStridedSlice S4x1x1024 ![0, 0, 2048] (extractStridedSlice S4x1x9216 ![1, 0, 0] A1 slices_S8x1x9216_S4x1x9216_1_0_0) slices_S4x1x9216_S4x1x1024_0_0_2048))) (mulf (mulf SB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf SB SB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![2, 0, 0] A3 slices_S4x3x1024_S1x1x1024_2_0_0) shapeCasts_S1x1x1024_S1024))))))

theorem HB_at (X : FVec Ideal S4x2048x1024 .f32) (A1 : FVec Ideal S8x1x9216 .f32) (A2 : FVec Ideal S4x3x1024 .f32) (p : Fin 4) (q : Fin 2048) (k : Fin 1024) :
    HB X A1 A2 (ix3 p q k) = hid (fun k => X (ix3 p q k)) (fun k => A2 (ix3 2 0 k)) (fun k => A1 (ix3 ⟨1 + p, by omega⟩ 0 ⟨1024 + k, by omega⟩)) (fun k => A1 (ix3 ⟨1 + p, by omega⟩ 0 ⟨k, by omega⟩)) k := by
  pointwise [HB, hid, rinv]

theorem GB_at (H : FVec Ideal S4x2048x1024 .f32) (A4 : FVec Ideal S4x2x1024x5632 .f32) (p : Fin 4) (q : Fin 2048) (j : Fin 5632) :
    GB H A4 (ix3 p q j) = ∑ k : Fin 1024, H (ix3 p q k) * A4 (ix4 2 0 k j) := by
  pointwise [GB]

theorem SB_at (G : FVec Ideal S4x2048x5632 .f32) (A5 : FVec Ideal S4x2x2816x1024 .f32) (p : Fin 4) (q : Fin 2048) (j : Fin 1024) :
    SB G A5 (ix3 p q j) = outRow (fun j => G (ix3 p q ⟨j, by omega⟩) * Ideal.logistic (G (ix3 p q ⟨j, by omega⟩)) * G (ix3 p q ⟨2816 + j, by omega⟩)) (fun k j => A5 (ix4 2 0 k j)) j := by
  pointwise [SB, outRow, Ideal.logistic]

theorem OB_at (X S : FVec Ideal S4x2048x1024 .f32) (A1 : FVec Ideal S8x1x9216 .f32) (A3 : FVec Ideal S4x3x1024 .f32) (p : Fin 4) (q : Fin 2048) (j : Fin 1024) :
    OB X S A1 A3 (ix3 p q j) = outv (fun k => X (ix3 p q k)) (fun k => A1 (ix3 ⟨1 + p, by omega⟩ 0 ⟨2048 + k, by omega⟩)) (fun k => A3 (ix3 2 0 k)) (fun k => S (ix3 p q k)) j := by
  pointwise [OB, outv, rinv]

theorem rowB (X : FVec Ideal S4x2048x1024 .f32) (A1 : FVec Ideal S8x1x9216 .f32) (A2 : FVec Ideal S4x3x1024 .f32) (A3 : FVec Ideal S4x3x1024 .f32) (A4 : FVec Ideal S4x2x1024x5632 .f32) (A5 : FVec Ideal S4x2x2816x1024 .f32) (p : Fin 4) (q : Fin 2048) (j : Fin 1024) :
    OB X (SB (GB (HB X A1 A2) A4) A5) A1 A3 (ix3 p q j) =
      rowOut (fun k => X (ix3 p q k)) (fun k => A1 (ix3 ⟨1 + p, by omega⟩ 0 k)) (fun k => A2 (ix3 2 0 k)) (fun k => A3 (ix3 2 0 k)) (fun k j => A4 (ix4 2 0 k j)) (fun k j => A5 (ix4 2 0 k j)) j := by
  rw [OB_at]; simp only [SB_at, GB_at, HB_at]; rfl

variable (m : (ℓ : Loc nD τ sig) → Buf (Elt Ideal) ℓ)

theorem res_split (c : Dev nD) : res_out0 (F := Ideal) m c =
    concatenate S16384x1024 0 [⟨S8192x1024, shapeCast _ (OA (XA (m ((c.tc : Thread nD τ).loc main_arg0))) (SA (GA (HA (XA (m ((c.tc : Thread nD τ).loc main_arg0))) (m ((c.tc : Thread nD τ).loc main_arg1)) (m ((c.tc : Thread nD τ).loc main_arg2))) (m ((c.tc : Thread nD τ).loc main_arg4))) (m ((c.tc : Thread nD τ).loc main_arg5))) (m ((c.tc : Thread nD τ).loc main_arg1)) (m ((c.tc : Thread nD τ).loc main_arg3))) shapeCasts_S32x256x1024_S8192x1024⟩,
      ⟨S8192x1024, shapeCast _ (OB (XB (m ((c.tc : Thread nD τ).loc main_arg0))) (SB (GB (HB (XB (m ((c.tc : Thread nD τ).loc main_arg0))) (m ((c.tc : Thread nD τ).loc main_arg1)) (m ((c.tc : Thread nD τ).loc main_arg2))) (m ((c.tc : Thread nD τ).loc main_arg4))) (m ((c.tc : Thread nD τ).loc main_arg5))) (m ((c.tc : Thread nD τ).loc main_arg1)) (m ((c.tc : Thread nD τ).loc main_arg3))) shapeCasts_S4x2048x1024_S8192x1024⟩] concatenates_S8192x1024_S8192x1024_S16384x1024_d0 := rfl

theorem res_at (c : Dev nD) : res_out0 (F := Ideal) m c = Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext y
  obtain ⟨i, j, rfl⟩ : ∃ (i : Fin 16384) (j : Fin 1024), y = ix2 i j := ⟨y 0, y 1, funext fun a => by fin_cases a <;> rfl⟩
  rw [res_split]
  by_cases h : (i : ℕ) < 8192
  · trans OA (XA (m ((c.tc : Thread nD τ).loc main_arg0))) (SA (GA (HA (XA (m ((c.tc : Thread nD τ).loc main_arg0))) (m ((c.tc : Thread nD τ).loc main_arg1)) (m ((c.tc : Thread nD τ).loc main_arg2))) (m ((c.tc : Thread nD τ).loc main_arg4))) (m ((c.tc : Thread nD τ).loc main_arg5))) (m ((c.tc : Thread nD τ).loc main_arg1)) (m ((c.tc : Thread nD τ).loc main_arg3)) (ix3 ⟨i / 256, by omega⟩ ⟨i % 256, by omega⟩ j)
    · pointwise
      rw [dif_pos h]
    · rw [rowA]
      show _ = rowOut _ (fun k => (m ((c.tc : Thread nD τ).loc main_arg1)) (ix3 (mrow i) 0 k)) _ _ _ _ j
      rw [show mrow i = 0 from dif_pos h]
      congr 1
      funext k
      pointwise [XA]
      exact congrArg (fun r => (m ((c.tc : Thread nD τ).loc main_arg0)) (ix2 r k)) (Fin.ext (show (i : ℕ) / 256 * 256 + i % 256 = i by omega))
  · trans OB (XB (m ((c.tc : Thread nD τ).loc main_arg0))) (SB (GB (HB (XB (m ((c.tc : Thread nD τ).loc main_arg0))) (m ((c.tc : Thread nD τ).loc main_arg1)) (m ((c.tc : Thread nD τ).loc main_arg2))) (m ((c.tc : Thread nD τ).loc main_arg4))) (m ((c.tc : Thread nD τ).loc main_arg5))) (m ((c.tc : Thread nD τ).loc main_arg1)) (m ((c.tc : Thread nD τ).loc main_arg3)) (ix3 ⟨(i - 8192) / 2048, by omega⟩ ⟨(i - 8192) % 2048, by omega⟩ j)
    · pointwise
      rw [dif_neg h]
    · rw [rowB]
      show _ = rowOut _ (fun k => (m ((c.tc : Thread nD τ).loc main_arg1)) (ix3 (mrow i) 0 k)) _ _ _ _ j
      rw [show mrow i = ⟨1 + (i - 8192) / 2048, by omega⟩ from dif_neg h]
      congr 1
      funext k
      pointwise [XB]
      exact congrArg (fun r => (m ((c.tc : Thread nD τ).loc main_arg0)) (ix2 r k)) (Fin.ext (show 8192 + (((i : ℕ) - 8192) / 2048 * 2048 + (i - 8192) % 2048) = i by omega))

end Cert.Reference2Ideal.Value
end
-- ==== Proof.FfnC.lean ====
module

public import proofs.«01_k».proof.Proof.FfnA
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- Where each window's block lies at a grid point. -/
theorem idx : ∀ t : Fin cfg0.N, win0_0.index t = ![t.val, 0] ∧ win0_1.index t = ![if t.val < 16 then 0 else 1 + (t.val - 16) / 4, 0, 0] ∧ win0_2.index t = ![0, 0] ∧
    win0_3.index t = ![0, 0] ∧ win0_4.index t = ![2, 0, 0, 0] ∧ win0_5.index t = ![2, 0, 0, 0] ∧ win0_6.index t = ![t.val, 0] ∧ t.val < 32 :=
  (by decide +kernel : ∀ t : Fin grid0.N, _)

abbrev rowIx (t : Fin cfg0.N) (r : Fin 512) : Fin 16384 := ⟨t.val * 512 + r, by have := (idx t).2.2.2.2.2.2.2; omega⟩

theorem blk0 (c : Dev nD) (t : Fin cfg0.N) (r : Fin 512) (k : Fin 1024) : iblk m c 0 t (ix2 r k) = m ((c.tc : Thread nD τ).loc main_arg0) (ix2 (rowIx t r) k) := by
  blk_ext [iblk, V, idx t]

theorem blk1 (c : Dev nD) (t : Fin cfg0.N) (r : Fin 512) (k : Fin 9216) : iblk m c 1 t (ix3 0 0 k) = m ((c.tc : Thread nD τ).loc main_arg1) (ix3 (mrow (rowIx t r)) 0 k) := by
  have h : mrow (rowIx t r) = ⟨if t.val < 16 then 0 else 1 + (t.val - 16) / 4, by have := (idx t).2.2.2.2.2.2.2; split <;> omega⟩ := by
    have := (idx t).2.2.2.2.2.2.2
    unfold mrow rowIx
    apply Fin.ext
    split <;> rename_i h <;> simp only at h ⊢ <;> split <;> simp <;> omega
  rw [h]
  blk_ext [iblk, V, idx t]

theorem blk2 (c : Dev nD) (t : Fin cfg0.N) (k : Fin 1024) : iblk m c 2 t (ix2 0 k) = m ((c.tc : Thread nD τ).loc main_arg2) (ix3 2 0 k) := by
  trans V m c main_v2 (ix2 0 k)
  · blk_ext [iblk, idx t]
  · entry_read; pointwise

theorem blk3 (c : Dev nD) (t : Fin cfg0.N) (k : Fin 1024) : iblk m c 3 t (ix2 0 k) = m ((c.tc : Thread nD τ).loc main_arg3) (ix3 2 0 k) := by
  trans V m c main_v5 (ix2 0 k)
  · blk_ext [iblk, idx t]
  · entry_read; pointwise

theorem blk4 (c : Dev nD) (t : Fin cfg0.N) (k : Fin 1024) (j : Fin 5632) : iblk m c 4 t (ix4 0 0 k j) = m ((c.tc : Thread nD τ).loc main_arg4) (ix4 2 0 k j) := by
  blk_ext [iblk, V, idx t]

theorem blk5 (c : Dev nD) (t : Fin cfg0.N) (k : Fin 2816) (j : Fin 1024) : iblk m c 5 t (ix4 0 0 k j) = m ((c.tc : Thread nD τ).loc main_arg5) (ix4 2 0 k j) := by
  trans V m c main_v6 (ix4 2 0 k j)
  · blk_ext [iblk, idx t]
  · entry_read; pointwise

theorem Gout_row (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16) (r : Fin 512) (j : Fin 1024) :
    Gout X0 X1 X2 X3 X4 X5 (ix2 r j) = rowOut (fun k => X0 (ix2 r k)) (fun k => X1 (ix3 0 0 k)) (fun k => X2 (ix2 0 k)) (fun k => X3 (ix2 0 k)) (fun k j => X4 (ix4 0 0 k j)) (fun k j => X5 (ix4 0 0 k j)) j := rfl

/-- A point's block of the result array. -/
theorem point_at (c : Dev nD) (t : Fin cfg0.N) (r : Fin 512) (j : Fin 1024) : outsAt0 m c t (ix2 r j) =
    Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (rowIx t r) j) := by
  rw [point]
  refine (Gout_row _ _ _ _ _ _ r j).trans ?_
  simp only [blk0, blk1 m c t r, blk2, blk3, blk4, blk5]
  rfl

/-- The result array after the run. -/
theorem final (c : Dev nD) : (dats m 0 c).arrAt 6 (cfgs 0).N =
    Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  refine (congrArg (outsAt0 m c t) (show y = ix2 (y 0) (y 1) from funext fun a => by fin_cases a <;> rfl)).trans ((point_at m c t (y 0) (y 1)).trans (congrArg _ ?_))
  blk_ext [idx t]

end Cert.Kernel2Ideal.Value
end
-- ==== Proof.FfnP.lean ====
module

public import proofs.«01_k».proof.Defs
public import proofs.«01_k».proof.Proof.FfnB
public import proofs.«01_k».proof.Proof.FfnC
public import Idealize.ShloMosaic.Lib.Claim
public import Idealize.ShloMosaic.Adequacy
public import Idealize.ShloMosaic.Init

@[expose] public section

noncomputable section

namespace Cert.Proof

open Idealize.ShloMosaic Idealize.SL.Sem

theorem frame_ffn : Cert.quiescent_Reference2Ideal (hReference2Ideal := Cert.Reference2Ideal.Gen.facts) := fun m ρ _ =>
  (θ_run _ _ _).mono (fun r h => ⟨fun c => (h c).2, sem_eq_zero_of_no_sems (by decide) _⟩) (Cert.Reference2Ideal.Value.run m ρ)

theorem algebraic_ffn : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    obtain ⟨h0, h1, h2, h3, h4, h5⟩ := hagree c
    refine (Cert.Reference2Ideal.Value.res_at m' c).trans ((?_ : _ = _).trans (Cert.Kernel2Ideal.Value.final m c).symm)
    rw [h0, h1, h2, h3, h4, h5]

end Cert.Proof
end
-- ==== Proof.Rows.lean ====
module

public import Idealize.ShloMosaic.Lib.Pipeline.ValueKit
public import Idealize.ShloMosaic.Lib.Pointwise

@[expose] public section

noncomputable section

open Idealize.ShloMosaic

namespace Cert.Rows

/-- One over the root of a row's mean square. -/
def rinv (v : Fin 1024 → EReal) : EReal :=
  Ideal.rsqrt (Ideal.div (∑ k, v k * v k) (Ideal.ofBits .f32 0x44800000#32) + Ideal.ofBits .f32 0x358637BD#32)

/-- A row normalised, scaled by its gain and modulated. -/
def hid (x : Fin 1024 → EReal) (g sc sh : Fin 1024 → EReal) (k : Fin 1024) : EReal :=
  x k * rinv x * g k * (1 + sc k) + sh k

/-- The modulation row of a row of the input. -/
def mrow (i : Fin 16384) : Fin 8 := if h : (i : ℕ) < 8192 then 0 else ⟨1 + (i - 8192) / 2048, by omega⟩

end Cert.Rows
end
-- ==== Proof.InpA.lean ====
module

public import proofs.«01_k».proof.Proof.Rows
public import proofs.«01_k».proof.Proof.Gen.Kernel3Ideal.Frame
public import Idealize.ShloMosaic.Lib.Pipeline.ReadBack

@[expose] public section

set_option maxRecDepth 100000

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

variable (m : (ℓ : Loc nD τ sig) → Buf (Elt Ideal) ℓ)

theorem h_at (X1 : FVec Ideal S1x1x9216 .f32) (X0 : FVec Ideal S512x1024 .f32) (X2 : FVec Ideal S1x1024 .f32) (r : Fin 512) (k : Fin 1024) :
    k0_pay4 (F := Ideal) X1 X0 X2 (ix2 r k) = hid (fun k => X0 (ix2 r k)) (fun k => X2 (ix2 0 k)) (fun k => X1 (ix3 0 0 ⟨4096 + k, by omega⟩)) (fun k => X1 (ix3 0 0 ⟨3072 + k, by omega⟩)) k := by
  pointwise [k0_pay4, hid, rinv]

theorem dot_at (H : FVec Ideal S512x1024 .bf16) (w : FVec Ideal S1x1024x512 .f32) (r j : Fin 512) :
    k0_pay1 (F := Ideal) H w (ix2 r j) = ∑ k : Fin 1024, H (ix2 r k) * w (ix3 0 k j) := by
  pointwise [k0_pay1]

/-- One row of the projection, from the input row, its modulation row, the gain and the weights. -/
def rowOut (x : Fin 1024 → EReal) (mo : Fin 9216 → EReal) (g : Fin 1024 → EReal) (w : Fin 1024 → Fin 4096 → EReal) (j : Fin 4096) : EReal :=
  ∑ k, hid x g (fun k => mo ⟨4096 + k, by omega⟩) (fun k => mo ⟨3072 + k, by omega⟩) k * w k j

def Gout (X0 : FVec Ideal S512x1024 .f32) (X1 : FVec Ideal S1x1x9216 .f32) (X2 : FVec Ideal S1x1024 .f32) (X3 : FVec Ideal S1x1024x4096 .f32) : FVec Ideal S512x4096 .f32 :=
  fun y => rowOut (fun k => X0 (ix2 (y 0) k)) (fun k => X1 (ix3 0 0 k)) (fun k => X2 (ix2 0 k)) (fun k j => X3 (ix3 0 k j)) (y 1)

/-- The projection. -/
def Gfin (X : FVec Ideal S16384x1024 .f32) (M : FVec Ideal S8x1x9216 .f32) (N : FVec Ideal S4x3x1024 .f32) (W : FVec Ideal S2x1024x4096 .f32) : FVec Ideal S16384x4096 .f32 :=
  fun y => rowOut (fun k => X (ix2 (y 0) k)) (fun k => M (ix3 (mrow (y 0)) 0 k)) (fun k => N (ix3 2 1 k)) (fun k j => W (ix3 1 k j)) (y 1)

theorem tile_eq (X0 : FVec Ideal S512x1024 .f32) (X1 : FVec Ideal S1x1x9216 .f32) (X2 : FVec Ideal S1x1024 .f32) (X3 : FVec Ideal S1x1024x4096 .f32) (w : FVec Ideal S1x1024x512 .f32)
    (r j : Fin 512) (y : S512x4096.Idx) (n : ℕ) (hn : n ≤ 3584) (h0 : (y 0 : ℕ) = 0 + 1 * (r : ℕ)) (h1 : (y 1 : ℕ) = n + 1 * (j : ℕ)) (hw : ∀ k, w (ix3 0 k j) = X3 (ix3 0 k ⟨n + j, by omega⟩)) :
    k0_pay1 (F := Ideal) (k0_pay4 (F := Ideal) X1 X0 X2) w (ix2 r j) = Gout X0 X1 X2 X3 y := by
  rw [dot_at]
  have e0 : y 0 = r := Fin.ext (by omega)
  have e1 : y 1 = ⟨n + j, by omega⟩ := Fin.ext (by simp only; omega)
  unfold Gout
  rw [e0, e1]
  simp only [h_at, hw]
  rfl

set_option maxHeartbeats 2000000 in
theorem point (c : Dev nD) (t : Fin cfg0.N) : outsAt0 m c t = Gout (iblk m c 0 t) (iblk m c 1 t) (iblk m c 2 t) (iblk m c 3 t) := by
  have e1 : ∀ L B, scM0_0.view.readCov (Val := Elt Ideal) L B = _ := fun L B => View.readCov_eq_canon' (Val := Elt Ideal) scM0_0.view L B
  have key : ∀ L : List (View.Piece (Elt Ideal) S512x4096 .f32), (View.Piece.tiledL L S512x512.size = true) → View.PiecesOf (Gout (iblk m c 0 t) (iblk m c 1 t) (iblk m c 2 t) (iblk m c 3 t)) L → View.canon L =
    Gout (iblk m c 0 t) (iblk m c 1 t) (iblk m c 2 t) (iblk m c 3 t) := fun L hL hp => funext fun y =>
      View.canon_apply_of_pieces _ L hp.mem y (View.cover_of_tiledL L _ hL y)
  unfold outsAt0
  frame_open
  simp (disch := decide) only [↓ View.readCov_skip, ↓ View.readCov_cons_toLoadRect, View.read_writes_junk_eq_canon, View.readAt_eq_ld, View.ld_unit_lit',
        Memref.IsWhole.read_unread]
  apply key
  · sl_kernel_rfl
  · dsimp only [View.PiecesOf]
    refine ⟨?_, ?_, ?_, ?_, ?_, ?_, ?_, ?_, trivial⟩
    all_goals (intro x; refine (congrArg _ (show x = ix2 (x 0) (x 1) from funext fun a => by fin_cases a <;> rfl)).trans ?_)
    · refine tile_eq _ _ _ _ _ (x 0) (x 1) _ 3584 (by decide) rfl rfl fun k => ?_
      refine View.ld_unit_apply_of _ _ _ _ _ _ fun a => ?_; fin_cases a <;> simp [ValueKit.rect_emb_unit_val]
    · refine tile_eq _ _ _ _ _ (x 0) (x 1) _ 3072 (by decide) rfl rfl fun k => ?_
      refine View.ld_unit_apply_of _ _ _ _ _ _ fun a => ?_; fin_cases a <;> simp [ValueKit.rect_emb_unit_val]
    · refine tile_eq _ _ _ _ _ (x 0) (x 1) _ 2560 (by decide) rfl rfl fun k => ?_
      refine View.ld_unit_apply_of _ _ _ _ _ _ fun a => ?_; fin_cases a <;> simp [ValueKit.rect_emb_unit_val]
    · refine tile_eq _ _ _ _ _ (x 0) (x 1) _ 2048 (by decide) rfl rfl fun k => ?_
      refine View.ld_unit_apply_of _ _ _ _ _ _ fun a => ?_; fin_cases a <;> simp [ValueKit.rect_emb_unit_val]
    · refine tile_eq _ _ _ _ _ (x 0) (x 1) _ 1536 (by decide) rfl rfl fun k => ?_
      refine View.ld_unit_apply_of _ _ _ _ _ _ fun a => ?_; fin_cases a <;> simp [ValueKit.rect_emb_unit_val]
    · refine tile_eq _ _ _ _ _ (x 0) (x 1) _ 1024 (by decide) rfl rfl fun k => ?_
      refine View.ld_unit_apply_of _ _ _ _ _ _ fun a => ?_; fin_cases a <;> simp [ValueKit.rect_emb_unit_val]
    · refine tile_eq _ _ _ _ _ (x 0) (x 1) _ 512 (by decide) rfl rfl fun k => ?_
      refine View.ld_unit_apply_of _ _ _ _ _ _ fun a => ?_; fin_cases a <;> simp [ValueKit.rect_emb_unit_val]
    · refine tile_eq _ _ _ _ _ (x 0) (x 1) _ 0 (by decide) rfl rfl fun k => ?_
      refine View.ld_unit_apply_of _ _ _ _ _ _ fun a => ?_; fin_cases a <;> simp [ValueKit.rect_emb_unit_val]

end Cert.Kernel3Ideal.Value
end
-- ==== Proof.InpB.lean ====
module

public import proofs.«01_k».proof.Proof.InpA
public import proofs.«01_k».proof.Reference3Ideal
public import proofs.«01_k».proof.Proof.Gen.Reference3Ideal
public import Idealize.ShloMosaic.Lib.Pointwise

@[expose] public section

set_option maxRecDepth 100000

noncomputable section

open Idealize.ShloMosaic Idealize.ShloMosaic.TcCoe Idealize.SL.Sem

namespace Cert.Reference3Ideal.Value

open Cert.Reference3Ideal Cert.Reference3Ideal.Gen Cert.Kernel3Ideal.Value Cert.Rows

/-- The first half of the rows, as the reference shapes them. -/
def XA (A0 : FVec Ideal S16384x1024 .f32) : FVec Ideal S32x256x1024 .f32 := shapeCast _ (extractStridedSlice S8192x1024 ![0, 0] A0 slices_S16384x1024_S8192x1024_0_0) shapeCasts_S8192x1024_S32x256x1024

/-- The first half's normalised and modulated rows. -/
def HA (XA : FVec Ideal S32x256x1024 .f32) (A1 : FVec Ideal S8x1x9216 .f32) (A2 : FVec Ideal S4x3x1024 .f32) : FVec Ideal S32x256x1024 .f32 := (addf (mulf (mulf (mulf XA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf XA XA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![2, 1, 0] A2 slices_S4x3x1024_S1x1x1024_2_1_0) shapeCasts_S1x1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 4096] (extractStridedSlice S1x1x9216 ![0, 0, 0] A1 slices_S8x1x9216_S1x1x9216_0_0_0) slices_S1x1x9216_S1x1x1024_0_0_4096)))) (broadcastInDim S32x256x1024 ![0, 1, 2] bcast_S1x1x1024_S32x256x1024_0_1_2 (extractStridedSlice S1x1x1024 ![0, 0, 3072] (extractStridedSlice S1x1x9216 ![0, 0, 0] A1 slices_S8x1x9216_S1x1x9216_0_0_0) slices_S1x1x9216_S1x1x1024_0_0_3072)))

/-- The second half of the rows, as the reference shapes them. -/
def XB (A0 : FVec Ideal S16384x1024 .f32) : FVec Ideal S4x2048x1024 .f32 := shapeCast _ (extractStridedSlice S8192x1024 ![8192, 0] A0 slices_S16384x1024_S8192x1024_8192_0) shapeCasts_S8192x1024_S4x2048x1024

/-- The second half's normalised and modulated rows. -/
def HB (XB : FVec Ideal S4x2048x1024 .f32) (A1 : FVec Ideal S8x1x9216 .f32) (A2 : FVec Ideal S4x3x1024 .f32) : FVec Ideal S4x2048x1024 .f32 := (addf (mulf (mulf (mulf XB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf XB XB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![2, 1, 0] A2 slices_S4x3x1024_S1x1x1024_2_1_0) shapeCasts_S1x1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 4096] (extractStridedSlice S4x1x9216 ![1, 0, 0] A1 slices_S8x1x9216_S4x1x9216_1_0_0) slices_S4x1x9216_S4x1x1024_0_0_4096)))) (broadcastInDim S4x2048x1024 ![0, 1, 2] bcast_S4x1x1024_S4x2048x1024_0_1_2 (extractStridedSlice S4x1x1024 ![0, 0, 3072] (extractStridedSlice S4x1x9216 ![1, 0, 0] A1 slices_S8x1x9216_S4x1x9216_1_0_0) slices_S4x1x9216_S4x1x1024_0_0_3072)))

/-- The first half's projection. -/
def YA (H : FVec Ideal S32x256x1024 .f32) (A3 : FVec Ideal S2x1024x4096 .f32) : FVec Ideal S32x256x4096 .f32 :=
  Host.dotGeneral dot_S32x256x1024_S1024x4096_S32x256x4096_2_0_01_1_n_n none H (shapeCast _ (extractStridedSlice S1x1024x4096 ![1, 0, 0] A3 slices_S2x1024x4096_S1x1024x4096_1_0_0) shapeCasts_S1x1024x4096_S1024x4096)

/-- The second half's projection. -/
def YB (H : FVec Ideal S4x2048x1024 .f32) (A3 : FVec Ideal S2x1024x4096 .f32) : FVec Ideal S4x2048x4096 .f32 :=
  Host.dotGeneral dot_S4x2048x1024_S1024x4096_S4x2048x4096_2_0_01_1_n_n none H (shapeCast _ (extractStridedSlice S1x1024x4096 ![1, 0, 0] A3 slices_S2x1024x4096_S1x1024x4096_1_0_0) shapeCasts_S1x1024x4096_S1024x4096)

theorem HA_at (X : FVec Ideal S32x256x1024 .f32) (A1 : FVec Ideal S8x1x9216 .f32) (A2 : FVec Ideal S4x3x1024 .f32) (p : Fin 32) (q : Fin 256) (k : Fin 1024) :
    HA X A1 A2 (ix3 p q k) = hid (fun k => X (ix3 p q k)) (fun k => A2 (ix3 2 1 k)) (fun k => A1 (ix3 0 0 ⟨4096 + k, by omega⟩)) (fun k => A1 (ix3 0 0 ⟨3072 + k, by omega⟩)) k := by
  pointwise [HA, hid, rinv]

theorem YA_at (H : FVec Ideal S32x256x1024 .f32) (A3 : FVec Ideal S2x1024x4096 .f32) (p : Fin 32) (q : Fin 256) (j : Fin 4096) :
    YA H A3 (ix3 p q j) = ∑ k : Fin 1024, H (ix3 p q k) * A3 (ix3 1 k j) := by
  pointwise [YA]

theorem rowA (X : FVec Ideal S32x256x1024 .f32) (A1 : FVec Ideal S8x1x9216 .f32) (A2 : FVec Ideal S4x3x1024 .f32) (A3 : FVec Ideal S2x1024x4096 .f32) (p : Fin 32) (q : Fin 256) (j : Fin 4096) :
    YA (HA X A1 A2) A3 (ix3 p q j) = rowOut (fun k => X (ix3 p q k)) (fun k => A1 (ix3 0 0 k)) (fun k => A2 (ix3 2 1 k)) (fun k j => A3 (ix3 1 k j)) j := by
  rw [YA_at]; simp only [HA_at]; rfl

theorem HB_at (X : FVec Ideal S4x2048x1024 .f32) (A1 : FVec Ideal S8x1x9216 .f32) (A2 : FVec Ideal S4x3x1024 .f32) (p : Fin 4) (q : Fin 2048) (k : Fin 1024) :
    HB X A1 A2 (ix3 p q k) = hid (fun k => X (ix3 p q k)) (fun k => A2 (ix3 2 1 k)) (fun k => A1 (ix3 ⟨1 + p, by omega⟩ 0 ⟨4096 + k, by omega⟩)) (fun k => A1 (ix3 ⟨1 + p, by omega⟩ 0 ⟨3072 + k, by omega⟩)) k := by
  pointwise [HB, hid, rinv]

theorem YB_at (H : FVec Ideal S4x2048x1024 .f32) (A3 : FVec Ideal S2x1024x4096 .f32) (p : Fin 4) (q : Fin 2048) (j : Fin 4096) :
    YB H A3 (ix3 p q j) = ∑ k : Fin 1024, H (ix3 p q k) * A3 (ix3 1 k j) := by
  pointwise [YB]

theorem rowB (X : FVec Ideal S4x2048x1024 .f32) (A1 : FVec Ideal S8x1x9216 .f32) (A2 : FVec Ideal S4x3x1024 .f32) (A3 : FVec Ideal S2x1024x4096 .f32) (p : Fin 4) (q : Fin 2048) (j : Fin 4096) :
    YB (HB X A1 A2) A3 (ix3 p q j) = rowOut (fun k => X (ix3 p q k)) (fun k => A1 (ix3 ⟨1 + p, by omega⟩ 0 k)) (fun k => A2 (ix3 2 1 k)) (fun k j => A3 (ix3 1 k j)) j := by
  rw [YB_at]; simp only [HB_at]; rfl

/-- The reference's result over its arguments. -/
def REF (A0 : FVec Ideal S16384x1024 .f32) (A1 : FVec Ideal S8x1x9216 .f32) (A2 : FVec Ideal S4x3x1024 .f32) (A3 : FVec Ideal S2x1024x4096 .f32) : FVec Ideal S16384x4096 .f32 :=
  concatenate S16384x4096 0 [⟨S8192x4096, shapeCast _ (YA (HA (XA A0) A1 A2) A3) shapeCasts_S32x256x4096_S8192x4096⟩,
    ⟨S8192x4096, shapeCast _ (YB (HB (XB A0) A1 A2) A3) shapeCasts_S4x2048x4096_S8192x4096⟩] concatenates_S8192x4096_S8192x4096_S16384x4096_d0

theorem ref_at (A0 : FVec Ideal S16384x1024 .f32) (A1 : FVec Ideal S8x1x9216 .f32) (A2 : FVec Ideal S4x3x1024 .f32) (A3 : FVec Ideal S2x1024x4096 .f32) : REF A0 A1 A2 A3 = Gfin A0 A1 A2 A3 := by
  funext y
  obtain ⟨i, j, rfl⟩ : ∃ (i : Fin 16384) (j : Fin 4096), y = ix2 i j := ⟨y 0, y 1, funext fun a => by fin_cases a <;> rfl⟩
  unfold REF
  by_cases h : (i : ℕ) < 8192
  · trans YA (HA (XA A0) A1 A2) A3 (ix3 ⟨i / 256, by omega⟩ ⟨i % 256, by omega⟩ j)
    · pointwise
      rw [dif_pos h]
    · rw [rowA]
      show _ = rowOut _ (fun k => A1 (ix3 (mrow i) 0 k)) _ _ j
      rw [show mrow i = 0 from dif_pos h]
      congr 1
      funext k
      pointwise [XA]
      exact congrArg (fun r => A0 (ix2 r k)) (Fin.ext (show (i : ℕ) / 256 * 256 + i % 256 = i by omega))
  · trans YB (HB (XB A0) A1 A2) A3 (ix3 ⟨(i - 8192) / 2048, by omega⟩ ⟨(i - 8192) % 2048, by omega⟩ j)
    · pointwise
      rw [dif_neg h]
    · rw [rowB]
      show _ = rowOut _ (fun k => A1 (ix3 (mrow i) 0 k)) _ _ j
      rw [show mrow i = ⟨1 + (i - 8192) / 2048, by omega⟩ from dif_neg h]
      congr 1
      funext k
      pointwise [XB]
      exact congrArg (fun r => A0 (ix2 r k)) (Fin.ext (show 8192 + (((i : ℕ) - 8192) / 2048 * 2048 + (i - 8192) % 2048) = i by omega))

end Cert.Reference3Ideal.Value
end
-- ==== Proof.InpC.lean ====
module

public import proofs.«01_k».proof.Proof.InpA
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Rows

variable (m : (ℓ : Loc nD τ sig) → Buf (Elt Ideal) ℓ)

/-- Where each window's block lies at a grid point. -/
theorem idx : ∀ t : Fin cfg0.N, win0_0.index t = ![t.val, 0] ∧ win0_1.index t = ![if t.val < 16 then 0 else 1 + (t.val - 16) / 4, 0, 0] ∧ win0_2.index t = ![0, 0] ∧
    win0_3.index t = ![1, 0, 0] ∧ win0_4.index t = ![t.val, 0] ∧ t.val < 32 :=
  (by decide +kernel : ∀ t : Fin grid0.N, _)

abbrev rowIx (t : Fin cfg0.N) (r : Fin 512) : Fin 16384 := ⟨t.val * 512 + r, by have := (idx t).2.2.2.2.2; omega⟩

theorem blk0 (c : Dev nD) (t : Fin cfg0.N) (r : Fin 512) (k : Fin 1024) : iblk m c 0 t (ix2 r k) = m ((c.tc : Thread nD τ).loc main_arg0) (ix2 (rowIx t r) k) := by
  blk_ext [iblk, V, idx t]

theorem blk1 (c : Dev nD) (t : Fin cfg0.N) (r : Fin 512) (k : Fin 9216) : iblk m c 1 t (ix3 0 0 k) = m ((c.tc : Thread nD τ).loc main_arg1) (ix3 (mrow (rowIx t r)) 0 k) := by
  have h : mrow (rowIx t r) = ⟨if t.val < 16 then 0 else 1 + (t.val - 16) / 4, by have := (idx t).2.2.2.2.2; split <;> omega⟩ := by
    have := (idx t).2.2.2.2.2
    unfold mrow rowIx
    apply Fin.ext
    split <;> rename_i h <;> simp only at h ⊢ <;> split <;> simp <;> omega
  rw [h]
  blk_ext [iblk, V, idx t]

theorem blk2 (c : Dev nD) (t : Fin cfg0.N) (k : Fin 1024) : iblk m c 2 t (ix2 0 k) = m ((c.tc : Thread nD τ).loc main_arg2) (ix3 2 1 k) := by
  trans V m c main_v2 (ix2 0 k)
  · blk_ext [iblk, idx t]
  · entry_read; pointwise

theorem blk3 (c : Dev nD) (t : Fin cfg0.N) (k : Fin 1024) (j : Fin 4096) : iblk m c 3 t (ix3 0 k j) = m ((c.tc : Thread nD τ).loc main_arg3) (ix3 1 k j) := by
  blk_ext [iblk, V, idx t]

theorem Gout_row (X0 : FVec Ideal S512x1024 .f32) (X1 : FVec Ideal S1x1x9216 .f32) (X2 : FVec Ideal S1x1024 .f32) (X3 : FVec Ideal S1x1024x4096 .f32) (r : Fin 512) (j : Fin 4096) :
    Gout X0 X1 X2 X3 (ix2 r j) = rowOut (fun k => X0 (ix2 r k)) (fun k => X1 (ix3 0 0 k)) (fun k => X2 (ix2 0 k)) (fun k j => X3 (ix3 0 k j)) j := rfl

/-- A point's block of the result array. -/
theorem point_at (c : Dev nD) (t : Fin cfg0.N) (r : Fin 512) (j : Fin 4096) : outsAt0 m c t (ix2 r j) =
    Gfin (m ((c.tc : Thread nD τ).loc main_arg0)) (m ((c.tc : Thread nD τ).loc main_arg1)) (m ((c.tc : Thread nD τ).loc main_arg2)) (m ((c.tc : Thread nD τ).loc main_arg3)) (ix2 (rowIx t r) j) := by
  rw [point]
  refine (Gout_row _ _ _ _ r j).trans ?_
  simp only [blk0, blk1 m c t r, blk2, blk3]
  rfl

/-- The result array after the run. -/
theorem final (c : Dev nD) : (dats m 0 c).arrAt 4 (cfgs 0).N =
    Gfin (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  refine (congrArg (outsAt0 m c t) (show y = ix2 (y 0) (y 1) from funext fun a => by fin_cases a <;> rfl)).trans ((point_at m c t (y 0) (y 1)).trans (congrArg _ ?_))
  blk_ext [idx t]

end Cert.Kernel3Ideal.Value
end
-- ==== Proof.InpP.lean ====
module

public import proofs.«01_k».proof.Defs
public import proofs.«01_k».proof.Proof.InpB
public import proofs.«01_k».proof.Proof.InpC
public import Idealize.ShloMosaic.Lib.Claim
public import Idealize.ShloMosaic.Adequacy
public import Idealize.ShloMosaic.Init

@[expose] public section

noncomputable section

namespace Cert.Proof

open Idealize.ShloMosaic Idealize.SL.Sem

set_option maxHeartbeats 8000000 in
/-- The reference leaves its arguments unchanged. -/
theorem run_inproj (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)) := by
  hlo_run

theorem frame_inproj : Cert.quiescent_Reference3Ideal (hReference3Ideal := Cert.Reference3Ideal.Gen.facts) := fun m g _ =>
  (θ_run _ _ _).mono (fun r h => ⟨h, sem_eq_zero_of_no_sems (by decide) _⟩) (run_inproj m g)

set_option maxHeartbeats 8000000 in
theorem algebraic_inproj : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · hlo_run
    rw [(hagree c).2.2.2]
    exact (Cert.Reference3Ideal.Value.ref_at _ _ _ _).trans (Cert.Kernel3Ideal.Value.final m c).symm

end Cert.Proof
end
-- ==== Proof.CnvA.lean ====
module

public import proofs.«01_k».proof.Proof.Rows
public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 100000

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

variable (m : (ℓ : Loc nD τ sig) → Buf (Elt Ideal) ℓ)

theorem hp_at (X3 : FVec Ideal S1x1x9216 .f32) (X4 : FVec Ideal S1x1024 .f32) (X1 : FVec Ideal S16x1024 .f32) (r : Fin 16) (k : Fin 1024) :
    k0_pay7 (F := Ideal) X3 X4 X1 (ix2 r k) = hid (fun k => X1 (ix2 r k)) (fun k => X4 (ix2 0 k)) (fun k => X3 (ix3 0 0 ⟨4096 + k, by omega⟩)) (fun k => X3 (ix3 0 0 ⟨3072 + k, by omega⟩)) k := by
  pointwise [k0_pay7, k0_pay6, k0_pay4, k0_pay3, k0_pay2, hid, rinv]

theorem hx_at (X3 : FVec Ideal S1x1x9216 .f32) (X4 : FVec Ideal S1x1024 .f32) (X0 : FVec Ideal S512x1024 .f32) (r : Fin 512) (k : Fin 1024) :
    k0_pay9 (F := Ideal) (k0_pay3 X3) (k0_pay4 X3) (k0_pay6 X4) X0 (k0_pay8 X0) (ix2 r k) = hid (fun k => X0 (ix2 r k)) (fun k => X4 (ix2 0 k)) (fun k => X3 (ix3 0 0 ⟨4096 + k, by omega⟩)) (fun k => X3 (ix3 0 0 ⟨3072 + k, by omega⟩)) k := by
  pointwise [k0_pay9, k0_pay8, k0_pay6, k0_pay4, k0_pay3, k0_pay2, hid, rinv]

theorem hn_at (X3 : FVec Ideal S1x1x9216 .f32) (X4 : FVec Ideal S1x1024 .f32) (X1 : FVec Ideal S16x1024 .f32) (r : Fin 16) (k : Fin 1024) :
    k0_pay10 (F := Ideal) (k0_pay3 X3) (k0_pay4 X3) (k0_pay6 X4) X1 (ix2 r k) = hid (fun k => X1 (ix2 r k)) (fun k => X4 (ix2 0 k)) (fun k => X3 (ix3 0 0 ⟨4096 + k, by omega⟩)) (fun k => X3 (ix3 0 0 ⟨3072 + k, by omega⟩)) k := by
  pointwise [k0_pay10, k0_pay6, k0_pay4, k0_pay3, k0_pay2, hid, rinv]

theorem bgate_at (H : FVec Ideal S512x1024 .bf16) (W : FVec Ideal S1x1024x256 .f32) (r : Fin 512) (j : Fin 256) :
    k0_pay15 (F := Ideal) H W (ix2 r j) = ∑ k : Fin 1024, H (ix2 r k) * W (ix3 0 k j) := by
  pointwise [k0_pay15]

theorem u_at (H : FVec Ideal S544x1024 .bf16) (W W' : FVec Ideal S1x1024x256 .f32) (r : Fin 544) (j : Fin 256) :
    k0_pay16 (F := Ideal) H W H W' (ix2 r j) = (∑ k : Fin 1024, H (ix2 r k) * W (ix3 0 k j)) * (∑ k : Fin 1024, H (ix2 r k) * W' (ix3 0 k j)) := by
  pointwise [k0_pay16]

theorem z_at (ML MR : IVec S512x1 1) (B : FVec Ideal S512x256 .f32) (cw : FVec Ideal S3x256 .f32) (l c r : FVec Ideal S512x256 .f32) (i : Fin 512) (j : Fin 256) :
    k0_pay24 (F := Ideal) ML MR B cw l c r (ix2 i j) = B (ix2 i j) * (cw (ix2 0 j) * (if ML (ix2 i 0) = 1#1 then l (ix2 i j) else 0) + cw (ix2 1 j) * c (ix2 i j)
      + cw (ix2 2 j) * (if MR (ix2 i 0) = 1#1 then r (ix2 i j) else 0)) := by
  pointwise [k0_pay24]
  by_cases h : ML (ix2 i 0) = 1#1 <;> by_cases h' : MR (ix2 i 0) = 1#1 <;> simp [Scalar.select, h, h']

theorem out_at (X3 : FVec Ideal S1x1x9216 .f32) (Z : FVec Ideal S512x1024 .bf16) (Wo : FVec Ideal S1x1024x1024 .bf16) (X0 : FVec Ideal S512x1024 .f32) (X5 : FVec Ideal S1x1024 .f32) (i : Fin 512) (j : Fin 1024) :
    k0_pay1 (F := Ideal) (k0_pay5 X3) (k0_pay35 Z Wo) X0 (k0_pay36 X5) (k0_pay37 Z Wo) (FloatOps.ofBits FTy.f32 0x44800000#32) (ix2 i j) =
      X0 (ix2 i j) + X3 (ix3 0 0 ⟨5120 + j, by omega⟩) * ((∑ k : Fin 1024, Z (ix2 i k) * Wo (ix3 0 k j)) * rinv (fun j => ∑ k : Fin 1024, Z (ix2 i k) * Wo (ix3 0 k j)) * X5 (ix2 0 j)) := by
  pointwise [k0_pay1, k0_pay5, k0_pay2, k0_pay35, k0_pay36, k0_pay37, rinv]

/-- The gated input of the convolution, from a hidden row. -/
def uval (h : Fin 1024 → EReal) (w : Fin 1024 → Fin 3072 → EReal) (j : Fin 1024) : EReal :=
  (∑ k, h k * w k ⟨1024 + j, by omega⟩) * (∑ k, h k * w k ⟨2048 + j, by omega⟩)

/-- A row of the gated convolution, from its hidden row and the gated inputs of its two neighbours. -/
def zrow (h ul ur : Fin 1024 → EReal) (w : Fin 1024 → Fin 3072 → EReal) (cw : Fin 3 → Fin 1024 → EReal) (j : Fin 1024) : EReal :=
  (∑ k, h k * w k ⟨j, by omega⟩) * (cw 0 j * ul j + cw 1 j * uval h w j + cw 2 j * ur j)

/-- The output row: the input row and its gated, normalised projection. -/
def orow (x gate gq z : Fin 1024 → EReal) (wo : Fin 1024 → Fin 1024 → EReal) (j : Fin 1024) : EReal :=
  x j + gate j * ((∑ k, z k * wo k j) * rinv (fun j => ∑ k, z k * wo k j) * gq j)

/-- The rows a tile works on: sixteen before it, its own, sixteen after it. -/
def XX (X0 : FVec Ideal S512x1024 .f32) (X1 X2 : FVec Ideal S16x1024 .f32) (e : Fin 544) (k : Fin 1024) : EReal :=
  if h : (e : ℕ) < 16 then X1 (ix2 ⟨e, h⟩ k) else if h' : (e : ℕ) < 528 then X0 (ix2 ⟨e - 16, by omega⟩ k) else X2 (ix2 ⟨e - 528, by omega⟩ k)

/-- Their hidden rows. -/
def HB (X0 : FVec Ideal S512x1024 .f32) (X1 X2 : FVec Ideal S16x1024 .f32) (X3 : FVec Ideal S1x1x9216 .f32) (X4 : FVec Ideal S1x1024 .f32) : FVec Ideal S544x1024 .bf16 :=
  fun y => hid (XX X0 X1 X2 (y 0)) (fun k => X4 (ix2 0 k)) (fun k => X3 (ix3 0 0 ⟨4096 + k, by omega⟩)) (fun k => X3 (ix3 0 0 ⟨3072 + k, by omega⟩)) (y 1)

/-- A tile of the gated convolution. -/
def Gz (H : FVec Ideal S544x1024 .bf16) (X6 : FVec Ideal S1x1024x3072 .f32) (X7 : FVec Ideal S3x1024 .f32) (ML MR : IVec S512x1 1) : FVec Ideal S512x1024 .bf16 := fun y =>
  zrow (fun k => H (ix2 ⟨16 + (y 0 : ℕ), by have : (y 0 : ℕ) < 512 := (y 0).isLt; omega⟩ k))
    (fun j => if ML (ix2 (y 0) 0) = 1#1 then uval (fun k => H (ix2 ⟨15 + (y 0 : ℕ), by have : (y 0 : ℕ) < 512 := (y 0).isLt; omega⟩ k)) (fun k j => X6 (ix3 0 k j)) j else 0)
    (fun j => if MR (ix2 (y 0) 0) = 1#1 then uval (fun k => H (ix2 ⟨17 + (y 0 : ℕ), by have : (y 0 : ℕ) < 512 := (y 0).isLt; omega⟩ k)) (fun k j => X6 (ix3 0 k j)) j else 0)
    (fun k j => X6 (ix3 0 k j)) (fun a j => X7 (ix2 a j)) (y 1)

/-- A tile of the result. -/
def Gout (X0 : FVec Ideal S512x1024 .f32) (X3 : FVec Ideal S1x1x9216 .f32) (X5 : FVec Ideal S1x1024 .f32) (X8 : FVec Ideal S1x1024x1024 .bf16) (Z : FVec Ideal S512x1024 .bf16) : FVec Ideal S512x1024 .f32 := fun y =>
  orow (fun k => X0 (ix2 (y 0) k)) (fun k => X3 (ix3 0 0 ⟨5120 + k, by omega⟩)) (fun k => X5 (ix2 0 k)) (fun k => Z (ix2 (y 0) k)) (fun k j => X8 (ix3 0 k j)) (y 1)

/-- Where the left neighbour counts, for the rows of a tile. -/
def ML (t : Fin cfg0.N) : IVec S512x1 1 := k0_pay13 (Scalar.select (Scalar.cmpi CmpIPredicate.slt (BitVec.ofNat 32 (grid0.coords t 0).val) 16#32) 256#32 2048#32)
  (k0_pay11 (BitVec.ofNat 32 (grid0.coords t 0).val)) 1#32

/-- Where the right neighbour counts. -/
def MR (t : Fin cfg0.N) : IVec S512x1 1 := k0_pay14 (Scalar.select (Scalar.cmpi CmpIPredicate.slt (BitVec.ofNat 32 (grid0.coords t 0).val) 16#32) 256#32 2048#32)
  (k0_pay11 (BitVec.ofNat 32 (grid0.coords t 0).val)) 1#32

theorem hp_eq (X0 : FVec Ideal S512x1024 .f32) (X1 X2 : FVec Ideal S16x1024 .f32) (X3 : FVec Ideal S1x1x9216 .f32) (X4 : FVec Ideal S1x1024 .f32) (r : Fin 16) (k : Fin 1024) (y : S544x1024.Idx)
    (h0 : (y 0 : ℕ) = 0 + 1 * r) (h1 : (y 1 : ℕ) = 0 + 1 * k) : k0_pay7 (F := Ideal) X3 X4 X1 (ix2 r k) = HB X0 X1 X2 X3 X4 y := by
  rw [hp_at]; unfold HB
  rw [show (y 1 : Fin 1024) = k from Fin.ext (by omega)]
  congr 1; funext k; unfold XX
  rw [dif_pos (show (y 0 : ℕ) < 16 by omega)]
  exact congrArg (fun r => X1 (ix2 r k)) (Fin.ext (show (r : ℕ) = (y 0 : ℕ) by omega))

theorem hx_eq (X0 : FVec Ideal S512x1024 .f32) (X1 X2 : FVec Ideal S16x1024 .f32) (X3 : FVec Ideal S1x1x9216 .f32) (X4 : FVec Ideal S1x1024 .f32) (r : Fin 512) (k : Fin 1024) (y : S544x1024.Idx)
    (h0 : (y 0 : ℕ) = 16 + 1 * r) (h1 : (y 1 : ℕ) = 0 + 1 * k) : k0_pay9 (F := Ideal) (k0_pay3 X3) (k0_pay4 X3) (k0_pay6 X4) X0 (k0_pay8 X0) (ix2 r k) = HB X0 X1 X2 X3 X4 y := by
  rw [hx_at]; unfold HB
  rw [show (y 1 : Fin 1024) = k from Fin.ext (by omega)]
  congr 1; funext k; unfold XX
  rw [dif_neg (show ¬(y 0 : ℕ) < 16 by omega), dif_pos (show (y 0 : ℕ) < 528 by omega)]
  exact congrArg (fun r => X0 (ix2 r k)) (Fin.ext (show (r : ℕ) = (y 0 : ℕ) - 16 by omega))

theorem hn_eq (X0 : FVec Ideal S512x1024 .f32) (X1 X2 : FVec Ideal S16x1024 .f32) (X3 : FVec Ideal S1x1x9216 .f32) (X4 : FVec Ideal S1x1024 .f32) (r : Fin 16) (k : Fin 1024) (y : S544x1024.Idx)
    (h0 : (y 0 : ℕ) = 528 + 1 * r) (h1 : (y 1 : ℕ) = 0 + 1 * k) : k0_pay10 (F := Ideal) (k0_pay3 X3) (k0_pay4 X3) (k0_pay6 X4) X2 (ix2 r k) = HB X0 X1 X2 X3 X4 y := by
  rw [hn_at]; unfold HB
  rw [show (y 1 : Fin 1024) = k from Fin.ext (by omega)]
  congr 1; funext k; unfold XX
  rw [dif_neg (show ¬(y 0 : ℕ) < 16 by omega), dif_neg (show ¬(y 0 : ℕ) < 528 by omega)]
  exact congrArg (fun r => X2 (ix2 r k)) (Fin.ext (show (r : ℕ) = (y 0 : ℕ) - 528 by omega))

/-- The gated inputs of one block of columns. -/
theorem u_eq (H HA : FVec Ideal S544x1024 .bf16) (X6 : FVec Ideal S1x1024x3072 .f32) (w1 w2 : FVec Ideal S1x1024x256 .f32) (e : Fin 544) (j : Fin 256) (J : Fin 1024)
    (hA : ∀ k, HA (ix2 e k) = H (ix2 e k)) (h1 : ∀ k, w1 (ix3 0 k j) = X6 (ix3 0 k ⟨1024 + J, by omega⟩)) (h2 : ∀ k, w2 (ix3 0 k j) = X6 (ix3 0 k ⟨2048 + J, by omega⟩)) :
    k0_pay16 (F := Ideal) HA w1 HA w2 (ix2 e j) = uval (fun k => H (ix2 e k)) (fun k j => X6 (ix3 0 k j)) J := by
  rw [u_at]; simp only [hA, h1, h2]; rfl

/-- One block of columns of the gated convolution is the part of `Gz` it is stored at. -/
theorem tile_eq (H HA : FVec Ideal S544x1024 .bf16) (Hm : FVec Ideal S512x1024 .bf16) (X6 : FVec Ideal S1x1024x3072 .f32) (X7 : FVec Ideal S3x1024 .f32) (ML MR : IVec S512x1 1)
    (w0 w1 w2 : FVec Ideal S1x1024x256 .f32) (cw : FVec Ideal S3x256 .f32) (l c r : S512x256.Idx → S544x256.Idx) (i : Fin 512) (j : Fin 256) (y : S512x1024.Idx) (n : ℕ) (hn : n ≤ 768)
    (y0 : (y 0 : ℕ) = 0 + 1 * i) (y1 : (y 1 : ℕ) = n + 1 * j)
    (hm : ∀ k, Hm (ix2 i k) = H (ix2 ⟨16 + i, by omega⟩ k)) (hA : HA = H)
    (h0 : ∀ k, w0 (ix3 0 k j) = X6 (ix3 0 k ⟨n + j, by omega⟩)) (h1 : ∀ k, w1 (ix3 0 k j) = X6 (ix3 0 k ⟨1024 + (n + j), by omega⟩)) (h2 : ∀ k, w2 (ix3 0 k j) = X6 (ix3 0 k ⟨2048 + (n + j), by omega⟩))
    (hc : ∀ a, cw (ix2 a j) = X7 (ix2 a ⟨n + j, by omega⟩))
    (hl : l (ix2 i j) = ix2 ⟨15 + i, by omega⟩ j) (hc' : c (ix2 i j) = ix2 ⟨16 + i, by omega⟩ j) (hr : r (ix2 i j) = ix2 ⟨17 + i, by omega⟩ j) :
    k0_pay24 (F := Ideal) ML MR (k0_pay15 Hm w0) cw (fun x => k0_pay16 (F := Ideal) HA w1 HA w2 (l x)) (fun x => k0_pay16 (F := Ideal) HA w1 HA w2 (c x)) (fun x => k0_pay16 (F := Ideal) HA w1 HA w2 (r x)) (ix2 i j) = Gz H X6 X7 ML MR y := by
  subst hA
  rw [show y = ix2 i ⟨n + j, by omega⟩ from funext fun a => by
    fin_cases a
    · exact Fin.ext (show (y 0 : ℕ) = i by omega)
    · exact Fin.ext (show (y 1 : ℕ) = n + j by omega)]
  rw [z_at, bgate_at, hl, hc', hr, u_eq HA HA X6 w1 w2 _ j ⟨n + j, by omega⟩ (fun _ => rfl) h1 h2, u_eq HA HA X6 w1 w2 _ j ⟨n + j, by omega⟩ (fun _ => rfl) h1 h2,
    u_eq HA HA X6 w1 w2 _ j ⟨n + j, by omega⟩ (fun _ => rfl) h1 h2]
  simp only [hm, h0, hc]
  rfl

/-- What a point leaves in its block of the result. -/
def Gpt (X0 : FVec Ideal S512x1024 .f32) (X1 X2 : FVec Ideal S16x1024 .f32) (X3 : FVec Ideal S1x1x9216 .f32) (X4 X5 : FVec Ideal S1x1024 .f32) (X6 : FVec Ideal S1x1024x3072 .f32) (X7 : FVec Ideal S3x1024 .f32)
    (X8 : FVec Ideal S1x1024x1024 .bf16) (t : Fin cfg0.N) : FVec Ideal S512x1024 .f32 :=
  Gout X0 X3 X5 X8 (Gz (HB X0 X1 X2 X3 X4) X6 X7 (ML t) (MR t))

end Cert.Kernel4Ideal.Value
end
-- ==== Proof.CnvB.lean ====
module

public import proofs.«01_k».proof.Proof.CnvA
public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 100000

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

theorem idx_eq {a b : ℕ} (x : (⟨2, ![a, b]⟩ : Shape).Idx) (i : Fin a) (j : Fin b) (h0 : (x 0 : ℕ) = i) (h1 : (x 1 : ℕ) = j) : x = ix2 i j :=
  funext fun k => Fin.ext (by fin_cases k <;> assumption)

/-! The four blocks of columns are computed by the same operations. -/

theorem p34 (ML MR : IVec S512x1 1) (B : FVec Ideal S512x256 .f32) (cw : FVec Ideal S3x256 .f32) (l c r : FVec Ideal S512x256 .f32) :
    k0_pay34 (F := Ideal) ML MR B (k0_pay33 cw) l c r = k0_pay24 ML MR B cw l c r := rfl

theorem p30 (ML MR : IVec S512x1 1) (B : FVec Ideal S512x256 .f32) (cw : FVec Ideal S3x256 .f32) (l c r : FVec Ideal S512x256 .f32) :
    k0_pay30 (F := Ideal) MR B (k0_pay28 ML cw l c) (k0_pay29 cw) r = k0_pay24 ML MR B cw l c r := rfl

theorem p20 (a d : BitVec 32) (b : IVec S512x1 32) (B : FVec Ideal S512x256 .f32) (cw : FVec Ideal S3x256 .f32) (l c r : FVec Ideal S512x256 .f32) :
    k0_pay20 (F := Ideal) (k0_pay14 a b d) B (k0_pay17 cw) (k0_pay18 cw) l (FloatOps.ofBits FTy.f32 0#32) (k0_pay19 a b d) c r = k0_pay24 (k0_pay13 a b d) (k0_pay14 a b d) B cw l c r := rfl

theorem p31 : k0_pay31 (F := Ideal) = k0_pay15 := rfl
theorem p25 : k0_pay25 (F := Ideal) = k0_pay15 := rfl
theorem p21 : k0_pay21 (F := Ideal) = k0_pay15 := rfl
theorem p32 : k0_pay32 (F := Ideal) = k0_pay16 := rfl
theorem p26 : k0_pay26 (F := Ideal) = k0_pay16 := rfl
theorem p23 (H H' : FVec Ideal S544x1024 .bf16) (W W' : FVec Ideal S1x1024x256 .f32) : k0_pay23 (F := Ideal) (k0_pay22 H W) H' W' = k0_pay16 H W H' W' := rfl

theorem mlt (t : Fin cfg0.N) : k0_pay13 (Scalar.select (Scalar.cmpi CmpIPredicate.slt (BitVec.ofNat 32 (grid0.coords t 0).val) 16#32) 256#32 2048#32)
  (k0_pay11 (BitVec.ofNat 32 (grid0.coords t 0).val)) 1#32 = ML t := rfl
theorem mrt (t : Fin cfg0.N) : k0_pay14 (Scalar.select (Scalar.cmpi CmpIPredicate.slt (BitVec.ofNat 32 (grid0.coords t 0).val) 16#32) 256#32 2048#32)
  (k0_pay11 (BitVec.ofNat 32 (grid0.coords t 0).val)) 1#32 = MR t := rfl

/-! What the body's loads read of a buffer. -/

theorem whole544 {e : Type} (G : S544x1024.Idx → e) : (fun j => G ((Rect.unit (s := S544x1024) ![0, 0] ![544, 1024] inb_S544x1024_S544x1024_0_0).toLoadRect.idx j)) = G :=
  funext fun y => congrArg G (funext fun a => Fin.ext (by fin_cases a <;> simp [LoadRect.idx]))

theorem whole512 {e : Type} (G : S512x1024.Idx → e) : (fun j => G ((Rect.unit (s := S512x1024) ![0, 0] ![512, 1024] inb_S512x1024_S512x1024_0_0).toLoadRect.idx j)) = G :=
  funext fun y => congrArg G (funext fun a => Fin.ext (by fin_cases a <;> simp [LoadRect.idx]))

theorem mid (i : Fin 512) (k : Fin 1024) : (Rect.unit (s := S544x1024) ![16, 0] ![512, 1024] inb_S544x1024_S512x1024_16_0).toLoadRect.idx (ix2 i k) = ix2 ⟨16 + i, by omega⟩ k :=
  funext fun a => Fin.ext (by fin_cases a <;> simp [LoadRect.idx])

theorem s15 (i : Fin 512) (j : Fin 256) : (Rect.unit (s := S544x256) ![15, 0] ![512, 256] inb_S544x256_S512x256_15_0).toLoadRect.idx (ix2 i j) = ix2 ⟨15 + i, by omega⟩ j :=
  funext fun a => Fin.ext (by fin_cases a <;> simp [LoadRect.idx])

theorem s16 (i : Fin 512) (j : Fin 256) : (Rect.unit (s := S544x256) ![16, 0] ![512, 256] inb_S544x256_S512x256_16_0).toLoadRect.idx (ix2 i j) = ix2 ⟨16 + i, by omega⟩ j :=
  funext fun a => Fin.ext (by fin_cases a <;> simp [LoadRect.idx])

theorem s17 (i : Fin 512) (j : Fin 256) : (Rect.unit (s := S544x256) ![17, 0] ![512, 256] inb_S544x256_S512x256_17_0).toLoadRect.idx (ix2 i j) = ix2 ⟨17 + i, by omega⟩ j :=
  funext fun a => Fin.ext (by fin_cases a <;> simp [LoadRect.idx])

theorem ldw (X6 : FVec Ideal S1x1024x3072 .f32) (o n n' : ℕ) (inb) (ho : n = o + n') (hn : n ≤ 2816) (k : Fin 1024) (j : Fin 256) :
    View.ld (Val := Elt Ideal) (e' := .f32) X6 (Rect.unit (s := S1x1024x3072) ![0, 0, n] ![1, 1024, 256] inb) (ix3 0 k j) = X6 (ix3 0 k ⟨o + (n' + j), by omega⟩) := by
  refine View.ld_unit_apply_of _ _ _ _ _ _ fun a => ?_
  fin_cases a <;> simp
  omega

theorem ldc (X7 : FVec Ideal S3x1024 .f32) (n : ℕ) (inb) (hn : n ≤ 768) (a : Fin 3) (j : Fin 256) :
    View.ld (Val := Elt Ideal) (e' := .f32) X7 (Rect.unit (s := S3x1024) ![0, n] ![3, 256] inb) (ix2 a j) = X7 (ix2 a ⟨n + j, by omega⟩) := by
  refine View.ld_unit_apply_of _ _ _ _ _ _ fun a => ?_
  fin_cases a <;> simp

/-- One stored block of columns is the part of `Gz` it is stored at. -/
theorem piece_eq (H : FVec Ideal S544x1024 .bf16) (X6 : FVec Ideal S1x1024x3072 .f32) (X7 : FVec Ideal S3x1024 .f32) (ML MR : IVec S512x1 1) (n a b : ℕ) (hn : n ≤ 768) (ha : a = 1024 + n) (hb : b = 2048 + n)
    (i0) (i1) (i2) (ic) (i : Fin 512) (j : Fin 256) (y : S512x1024.Idx) (y0 : (y 0 : ℕ) = 0 + 1 * i) (y1 : (y 1 : ℕ) = n + 1 * j) :
    k0_pay24 (F := Ideal) ML MR (k0_pay15 (fun x => H ((Rect.unit (s := S544x1024) ![16, 0] ![512, 1024] inb_S544x1024_S512x1024_16_0).toLoadRect.idx x))
        (View.ld (Val := Elt Ideal) (e' := .f32) X6 (Rect.unit (s := S1x1024x3072) ![0, 0, n] ![1, 1024, 256] i0)))
      (View.ld (Val := Elt Ideal) (e' := .f32) X7 (Rect.unit (s := S3x1024) ![0, n] ![3, 256] ic))
      (fun x => k0_pay16 (F := Ideal) H (View.ld (Val := Elt Ideal) (e' := .f32) X6 (Rect.unit (s := S1x1024x3072) ![0, 0, a] ![1, 1024, 256] i1)) H (View.ld (Val := Elt Ideal) (e' := .f32) X6 (Rect.unit (s := S1x1024x3072) ![0, 0, b] ![1, 1024, 256] i2)) ((Rect.unit (s := S544x256) ![15, 0] ![512, 256] inb_S544x256_S512x256_15_0).toLoadRect.idx x))
      (fun x => k0_pay16 (F := Ideal) H (View.ld (Val := Elt Ideal) (e' := .f32) X6 (Rect.unit (s := S1x1024x3072) ![0, 0, a] ![1, 1024, 256] i1)) H (View.ld (Val := Elt Ideal) (e' := .f32) X6 (Rect.unit (s := S1x1024x3072) ![0, 0, b] ![1, 1024, 256] i2)) ((Rect.unit (s := S544x256) ![16, 0] ![512, 256] inb_S544x256_S512x256_16_0).toLoadRect.idx x))
      (fun x => k0_pay16 (F := Ideal) H (View.ld (Val := Elt Ideal) (e' := .f32) X6 (Rect.unit (s := S1x1024x3072) ![0, 0, a] ![1, 1024, 256] i1)) H (View.ld (Val := Elt Ideal) (e' := .f32) X6 (Rect.unit (s := S1x1024x3072) ![0, 0, b] ![1, 1024, 256] i2)) ((Rect.unit (s := S544x256) ![17, 0] ![512, 256] inb_S544x256_S512x256_17_0).toLoadRect.idx x))
      (ix2 i j) = Gz H X6 X7 ML MR y := by
  refine tile_eq H H _ X6 X7 ML MR _ _ _ _ _ _ _ i j y n hn y0 y1 (fun k => congrArg H (mid i k)) rfl (fun k => ?_) (fun k => ldw X6 1024 a n _ ha (by omega) k j) (fun k => ldw X6 2048 b n _ hb (by omega) k j)
    (fun k => ldc X7 n _ hn k j) (s15 i j) (s16 i j) (s17 i j)
  refine (ldw X6 0 n n _ (by omega) (by omega) k j).trans (congrArg (fun q => X6 (ix3 0 k q)) (Fin.ext ?_))
  show 0 + (n + (j : ℕ)) = n + j
  omega

theorem out_eq (X0 : FVec Ideal S512x1024 .f32) (X3 : FVec Ideal S1x1x9216 .f32) (X5 : FVec Ideal S1x1024 .f32) (X8 : FVec Ideal S1x1024x1024 .bf16) (Z : FVec Ideal S512x1024 .bf16) :
    k0_pay1 (F := Ideal) (k0_pay5 X3) (k0_pay35 Z X8) X0 (k0_pay36 X5) (k0_pay37 Z X8) (FloatOps.ofBits FTy.f32 0x44800000#32) = Gout X0 X3 X5 X8 Z := by
  funext y
  refine (congrArg _ (show y = ix2 (y 0) (y 1) from funext fun a => by fin_cases a <;> rfl)).trans ?_
  exact out_at X3 Z X8 X0 X5 (y 0) (y 1)

end Cert.Kernel4Ideal.Value
end
-- ==== Proof.CnvD.lean ====
module

public import proofs.«01_k».proof.Proof.CnvB
public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 100000

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

variable (m : (ℓ : Loc nD τ sig) → Buf (Elt Ideal) ℓ)

set_option maxHeartbeats 4000000 in
theorem point (c : Dev nD) (t : Fin cfg0.N) : outsAt0 m c t = Gpt (iblk m c 0 t) (iblk m c 1 t) (iblk m c 2 t) (iblk m c 3 t) (iblk m c 4 t) (iblk m c 5 t) (iblk m c 6 t) (iblk m c 7 t) (iblk m c 8 t) t := by
  have e0 : ∀ L B, scM0_0.view.readCov (Val := Elt Ideal) L B = _ := fun L B => View.readCov_eq_canon' (Val := Elt Ideal) scM0_0.view L B
  have e1 : ∀ L B, scM0_1.view.readCov (Val := Elt Ideal) L B = _ := fun L B => View.readCov_eq_canon' (Val := Elt Ideal) scM0_1.view L B
  have e2 : ∀ L B, scM0_2.view.readCov (Val := Elt Ideal) L B = _ := fun L B => View.readCov_eq_canon' (Val := Elt Ideal) scM0_2.view L B
  unfold outsAt0
  frame_open
  simp (disch := decide) only [↓ e0, ↓ e1, ↓ e2, ↓ View.readCov_skip, ↓ View.readCov_cons_toLoadRect, View.canon_cons_unit_lit', View.read_writes_junk_eq_canon, View.readAt_eq_ld, View.ld_unit_lit',
        Memref.IsWhole.read_unread]
  have keyH : ∀ L : List (View.Piece (Elt Ideal) S544x1024 .bf16), (View.Piece.tiledBy L ![16, 1024] = true) → View.PiecesOf (HB (iblk m c 0 t) (iblk m c 1 t) (iblk m c 2 t) (iblk m c 3 t) (iblk m c 4 t)) L → View.canon L = (HB (iblk m c 0 t) (iblk m c 1 t) (iblk m c 2 t) (iblk m c 3 t) (iblk m c 4 t)) := fun L hL hp => funext fun y =>
      View.canon_apply_of_pieces _ L hp.mem y (View.cover_of_tiledBy L _ hL y)
  have keyZ : ∀ L : List (View.Piece (Elt Ideal) S512x1024 .bf16), (View.Piece.tiledL L S512x256.size = true) → View.PiecesOf (Gz (HB (iblk m c 0 t) (iblk m c 1 t) (iblk m c 2 t) (iblk m c 3 t) (iblk m c 4 t)) (iblk m c 6 t) (iblk m c 7 t) (ML t) (MR t)) L → View.canon L = (Gz (HB (iblk m c 0 t) (iblk m c 1 t) (iblk m c 2 t) (iblk m c 3 t) (iblk m c 4 t)) (iblk m c 6 t) (iblk m c 7 t) (ML t) (MR t)) := fun L hL hp => funext fun y =>
      View.canon_apply_of_pieces _ L hp.mem y (View.cover_of_tiledL L _ hL y)
  rw [keyH]
  rotate_left
  · sl_kernel_rfl
  · dsimp only [View.PiecesOf]
    refine ⟨fun x => ?_, fun x => ?_, fun x => ?_, trivial⟩
    all_goals refine (congrArg _ (show x = ix2 (x 0) (x 1) from funext fun a => by fin_cases a <;> rfl)).trans ?_
    · exact hn_eq _ _ _ _ _ (x 0) (x 1) _ rfl rfl
    · exact hx_eq _ _ _ _ _ (x 0) (x 1) _ rfl rfl
    · exact hp_eq _ _ _ _ _ (x 0) (x 1) _ rfl rfl
  simp only [p34, p30, p20, p31, p25, p21, p32, p26, p23, mlt, mrt, whole544]
  rw [keyZ]
  rotate_left
  · sl_kernel_rfl
  · dsimp only [View.PiecesOf]
    refine ⟨fun x => ?_, fun x => ?_, fun x => ?_, fun x => ?_, trivial⟩
    all_goals refine (congrArg _ (show x = ix2 (x 0) (x 1) from funext fun a => by fin_cases a <;> rfl)).trans ?_
    · exact piece_eq (HB (iblk m c 0 t) (iblk m c 1 t) (iblk m c 2 t) (iblk m c 3 t) (iblk m c 4 t)) (iblk m c 6 t) (iblk m c 7 t) (ML t) (MR t) 768 1792 2816 (by decide) rfl rfl _ _ _ _ (x 0) (x 1) _ rfl rfl
    · exact piece_eq (HB (iblk m c 0 t) (iblk m c 1 t) (iblk m c 2 t) (iblk m c 3 t) (iblk m c 4 t)) (iblk m c 6 t) (iblk m c 7 t) (ML t) (MR t) 512 1536 2560 (by decide) rfl rfl _ _ _ _ (x 0) (x 1) _ rfl rfl
    · exact piece_eq (HB (iblk m c 0 t) (iblk m c 1 t) (iblk m c 2 t) (iblk m c 3 t) (iblk m c 4 t)) (iblk m c 6 t) (iblk m c 7 t) (ML t) (MR t) 256 1280 2304 (by decide) rfl rfl _ _ _ _ (x 0) (x 1) _ rfl rfl
    · exact piece_eq (HB (iblk m c 0 t) (iblk m c 1 t) (iblk m c 2 t) (iblk m c 3 t) (iblk m c 4 t)) (iblk m c 6 t) (iblk m c 7 t) (ML t) (MR t) 0 1024 2048 (by decide) rfl rfl _ _ _ _ (x 0) (x 1) _ rfl rfl
  simp only [whole512]
  exact out_eq _ _ _ _ _

end Cert.Kernel4Ideal.Value
end
-- ==== Proof.CnvC.lean ====
module

public import proofs.«01_k».proof.Proof.CnvD
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Rows

/-! The mixer, row by row. -/

/-- A hidden row, from the input row, its modulation row and the gain. -/
def hrow (mo : Fin 9216 → EReal) (gp x : Fin 1024 → EReal) : Fin 1024 → EReal :=
  hid x gp (fun k => mo ⟨4096 + k, by omega⟩) (fun k => mo ⟨3072 + k, by omega⟩)

/-- One row of the sublayer's result, from the input row, its two neighbours and whether each counts. -/
def rowOut (x xl xr : Fin 1024 → EReal) (bl br : Bool) (mo : Fin 9216 → EReal) (gp gq : Fin 1024 → EReal) (w : Fin 1024 → Fin 3072 → EReal) (cw : Fin 3 → Fin 1024 → EReal) (wo : Fin 1024 → Fin 1024 → EReal) (j : Fin 1024) : EReal :=
  orow x (fun k => mo ⟨5120 + k, by omega⟩) gq (zrow (hrow mo gp x) (fun j => if bl = true then uval (hrow mo gp xl) w j else 0) (fun j => if br = true then uval (hrow mo gp xr) w j else 0) w cw) wo j

theorem rowOut_congr (x xl xr xl' xr' : Fin 1024 → EReal) (bl br bl' br' : Bool) (mo : Fin 9216 → EReal) (gp gq : Fin 1024 → EReal) (w : Fin 1024 → Fin 3072 → EReal) (cw : Fin 3 → Fin 1024 → EReal) (wo : Fin 1024 → Fin 1024 → EReal) (j : Fin 1024)
    (hl : bl = bl') (hr : br = br') (hxl : bl' = true → xl = xl') (hxr : br' = true → xr = xr') : rowOut x xl xr bl br mo gp gq w cw wo j = rowOut x xl' xr' bl' br' mo gp gq w cw wo j := by
  subst hl hr
  cases bl <;> cases br <;> simp only [rowOut, Bool.false_eq_true, if_false, if_true]
  · rw [hxr rfl]
  · rw [hxl rfl]
  · rw [hxl rfl, hxr rfl]

/-- The length of the sequence a row lies in. -/
def len (i : Fin 16384) : ℕ := if (i : ℕ) < 8192 then 256 else 2048

/-- Whether a row has a left neighbour in its sequence. -/
def lf (i : Fin 16384) : Bool := decide ((i : ℕ) % len i ≠ 0)

/-- Whether a row has a right neighbour in its sequence. -/
def rf (i : Fin 16384) : Bool := decide ((i : ℕ) % len i ≠ len i - 1)

/-- The sublayer's result. -/
def Gfin (X : FVec Ideal S16384x1024 .f32) (M : FVec Ideal S8x1x9216 .f32) (NP NQ : FVec Ideal S4x3x1024 .f32) (W : FVec Ideal S2x1024x3072 .f32) (C : FVec Ideal S2x3x1024 .f32) (Wo : FVec Ideal S2x1024x1024 .f32) : FVec Ideal S16384x1024 .f32 :=
  fun y => rowOut (fun k => X (ix2 (y 0) k)) (fun k => X (ix2 ⟨(y 0 : ℕ) - 1, lt_of_le_of_lt (Nat.sub_le _ _) (y 0).isLt⟩ k)) (fun k => X (ix2 ⟨min ((y 0 : ℕ) + 1) 16383, by omega⟩ k)) (lf (y 0)) (rf (y 0))
    (fun k => M (ix3 (mrow (y 0)) 0 k)) (fun k => NP (ix3 3 1 k)) (fun k => NQ (ix3 3 1 k)) (fun k j => W (ix3 1 k j)) (fun a j => C (ix3 1 a j)) (fun k j => Wo (ix3 1 k j)) (y 1)

theorem Gpt_row (X0 : FVec Ideal S512x1024 .f32) (X1 X2 : FVec Ideal S16x1024 .f32) (X3 : FVec Ideal S1x1x9216 .f32) (X4 X5 : FVec Ideal S1x1024 .f32) (X6 : FVec Ideal S1x1024x3072 .f32) (X7 : FVec Ideal S3x1024 .f32)
    (X8 : FVec Ideal S1x1024x1024 .bf16) (t : Fin cfg0.N) (r : Fin 512) (j : Fin 1024) : Gpt X0 X1 X2 X3 X4 X5 X6 X7 X8 t (ix2 r j) =
    rowOut (fun k => X0 (ix2 r k)) (XX X0 X1 X2 ⟨15 + r, by omega⟩) (XX X0 X1 X2 ⟨17 + r, by omega⟩) (decide (ML t (ix2 r 0) = 1#1)) (decide (MR t (ix2 r 0) = 1#1))
      (fun k => X3 (ix3 0 0 k)) (fun k => X4 (ix2 0 k)) (fun k => X5 (ix2 0 k)) (fun k j => X6 (ix3 0 k j)) (fun a j => X7 (ix2 a j)) (fun k j => X8 (ix3 0 k j)) j := by
  have e : XX X0 X1 X2 ⟨16 + r, by omega⟩ = fun k => X0 (ix2 r k) := funext fun k => by
    unfold XX
    rw [dif_neg (by simp), dif_pos (by simp; omega)]
    exact congrArg (fun r => X0 (ix2 r k)) (Fin.ext (by simp))
  unfold rowOut
  simp only [decide_eq_true_eq]
  rw [← congrArg (hrow (fun k => X3 (ix3 0 0 k)) (fun k => X4 (ix2 0 k))) e]
  rfl

variable (m : (ℓ : Loc nD τ sig) → Buf (Elt Ideal) ℓ)

/-- Where each window's block lies at a grid point. -/
theorem idx : ∀ t : Fin cfg0.N, win0_0.index t = ![t.val, 0] ∧ win0_1.index t = ![t.val * 32 - 1, 0] ∧ win0_2.index t = ![min (t.val * 32 + 32) 1023, 0] ∧ win0_3.index t = ![if t.val < 16 then 0 else 1 + (t.val - 16) / 4, 0, 0] ∧
    win0_4.index t = ![0, 0] ∧ win0_5.index t = ![0, 0] ∧ win0_6.index t = ![1, 0, 0] ∧ win0_7.index t = ![0, 0] ∧ win0_8.index t = ![1, 0, 0] ∧ win0_9.index t = ![t.val, 0] ∧ (grid0.coords t 0).val = t.val ∧ t.val < 32 :=
  (by decide +kernel : ∀ t : Fin grid0.N, _)

theorem tlt (t : Fin cfg0.N) : t.val < 32 := (idx t).2.2.2.2.2.2.2.2.2.2.2

abbrev rowIx (t : Fin cfg0.N) (r : Fin 512) : Fin 16384 := ⟨t.val * 512 + r, by have := tlt t; omega⟩

theorem blk0 (c : Dev nD) (t : Fin cfg0.N) (r : Fin 512) (k : Fin 1024) : iblk m c 0 t (ix2 r k) = m ((c.tc : Thread nD τ).loc main_arg0) (ix2 (rowIx t r) k) := by
  blk_ext [iblk, V, idx t]

theorem blk1 (c : Dev nD) (t : Fin cfg0.N) (ht : 0 < t.val) (k : Fin 1024) : iblk m c 1 t (ix2 15 k) = m ((c.tc : Thread nD τ).loc main_arg0) (ix2 ⟨t.val * 512 - 1, by have := tlt t; omega⟩ k) := by
  blk_ext [iblk, V, idx t]

theorem blk2 (c : Dev nD) (t : Fin cfg0.N) (ht : t.val < 31) (k : Fin 1024) : iblk m c 2 t (ix2 0 k) = m ((c.tc : Thread nD τ).loc main_arg0) (ix2 ⟨t.val * 512 + 512, by omega⟩ k) := by
  blk_ext [iblk, V, idx t]

theorem blk3 (c : Dev nD) (t : Fin cfg0.N) (r : Fin 512) (k : Fin 9216) : iblk m c 3 t (ix3 0 0 k) = m ((c.tc : Thread nD τ).loc main_arg1) (ix3 (mrow (rowIx t r)) 0 k) := by
  have h : mrow (rowIx t r) = ⟨if t.val < 16 then 0 else 1 + (t.val - 16) / 4, by have := tlt t; split <;> omega⟩ := by
    have := tlt t
    unfold mrow rowIx
    apply Fin.ext
    split <;> rename_i h <;> simp only at h ⊢ <;> split <;> simp <;> omega
  rw [h]
  blk_ext [iblk, V, idx t]

theorem blk4 (c : Dev nD) (t : Fin cfg0.N) (k : Fin 1024) : iblk m c 4 t (ix2 0 k) = m ((c.tc : Thread nD τ).loc main_arg2) (ix3 3 1 k) := by
  trans V m c main_v2 (ix2 0 k)
  · blk_ext [iblk, idx t]
  · entry_read; pointwise

theorem blk5 (c : Dev nD) (t : Fin cfg0.N) (k : Fin 1024) : iblk m c 5 t (ix2 0 k) = m ((c.tc : Thread nD τ).loc main_arg3) (ix3 3 1 k) := by
  trans V m c main_v5 (ix2 0 k)
  · blk_ext [iblk, idx t]
  · entry_read; pointwise

theorem blk6 (c : Dev nD) (t : Fin cfg0.N) (k : Fin 1024) (j : Fin 3072) : iblk m c 6 t (ix3 0 k j) = m ((c.tc : Thread nD τ).loc main_arg4) (ix3 1 k j) := by
  blk_ext [iblk, V, idx t]

theorem blk7 (c : Dev nD) (t : Fin cfg0.N) (a : Fin 3) (j : Fin 1024) : iblk m c 7 t (ix2 a j) = m ((c.tc : Thread nD τ).loc main_arg5) (ix3 1 a j) := by
  trans V m c main_v7 (ix2 a j)
  · blk_ext [iblk, idx t]
  · entry_read; pointwise

theorem blk8 (c : Dev nD) (t : Fin cfg0.N) (k : Fin 1024) (j : Fin 1024) : iblk m c 8 t (ix3 0 k j) = m ((c.tc : Thread nD τ).loc main_arg6) (ix3 1 k j) := by
  trans V m c main_v8 (ix3 1 k j)
  · blk_ext [iblk, idx t]
  · entry_read; pointwise

/-- The kernel's left mask, at every grid point and row of its tile. -/
theorem ml_all : ∀ (t : Fin 32) (r : Fin 512), decide (IntOp.cmpi CmpIPredicate.ne (IntOp.andi (IntOp.addi (Scalar.muli (BitVec.ofNat 32 t) 512#32) (BitVec.ofNat 32 r))
    (Scalar.subi (Scalar.select (Scalar.cmpi CmpIPredicate.slt (BitVec.ofNat 32 t) 16#32) 256#32 2048#32) 1#32)) 0#32 = 1#1) = lf ⟨t * 512 + r, by omega⟩ := by
  decide +kernel

theorem ml (t : Fin cfg0.N) (r : Fin 512) : decide (ML t (ix2 r 0) = 1#1) = lf (rowIx t r) := by
  unfold ML
  rw [(idx t).2.2.2.2.2.2.2.2.2.2.1]
  pointwise [k0_pay13, k0_pay12, k0_pay11]
  exact ml_all ⟨t.val, tlt t⟩ r

/-- The kernel's right mask, at every grid point and row of its tile. -/
theorem mr_all : ∀ (t : Fin 32) (r : Fin 512), decide (IntOp.cmpi CmpIPredicate.ne (IntOp.andi (IntOp.addi (Scalar.muli (BitVec.ofNat 32 t) 512#32) (BitVec.ofNat 32 r))
    (Scalar.subi (Scalar.select (Scalar.cmpi CmpIPredicate.slt (BitVec.ofNat 32 t) 16#32) 256#32 2048#32) 1#32))
    (Scalar.subi (Scalar.select (Scalar.cmpi CmpIPredicate.slt (BitVec.ofNat 32 t) 16#32) 256#32 2048#32) 1#32) = 1#1) = rf ⟨t * 512 + r, by omega⟩ := by
  decide +kernel

theorem mr (t : Fin cfg0.N) (r : Fin 512) : decide (MR t (ix2 r 0) = 1#1) = rf (rowIx t r) := by
  unfold MR
  rw [(idx t).2.2.2.2.2.2.2.2.2.2.1]
  pointwise [k0_pay14, k0_pay12, k0_pay11]
  exact mr_all ⟨t.val, tlt t⟩ r

theorem left (c : Dev nD) (t : Fin cfg0.N) (r : Fin 512) (h : lf (rowIx t r) = true) :
    XX (iblk m c 0 t) (iblk m c 1 t) (iblk m c 2 t) ⟨15 + r, by omega⟩ = fun k => m ((c.tc : Thread nD τ).loc main_arg0) (ix2 ⟨(rowIx t r : ℕ) - 1, lt_of_le_of_lt (Nat.sub_le _ _) (rowIx t r).isLt⟩ k) := by
  funext k
  unfold XX
  by_cases hr : (r : ℕ) = 0
  · have ht : 0 < t.val := by
      by_contra h0
      have : ((rowIx t r : Fin 16384) : ℕ) = 0 := by show t.val * 512 + (r : ℕ) = 0; omega
      exact of_decide_eq_true h (by rw [this, Nat.zero_mod])
    rw [dif_pos (show 15 + (r : ℕ) < 16 by omega)]
    refine (congrArg (fun q => iblk m c 1 t (ix2 q k)) (Fin.ext (show 15 + (r : ℕ) = 15 by omega) : (⟨15 + r, by omega⟩ : Fin 16) = 15)).trans ((blk1 m c t ht k).trans ?_)
    exact congrArg (fun q => m ((c.tc : Thread nD τ).loc main_arg0) (ix2 q k)) (Fin.ext (show t.val * 512 - 1 = t.val * 512 + (r : ℕ) - 1 by omega))
  · rw [dif_neg (show ¬15 + (r : ℕ) < 16 by omega), dif_pos (show 15 + (r : ℕ) < 528 by omega)]
    refine (blk0 m c t ⟨15 + r - 16, by omega⟩ k).trans ?_
    exact congrArg (fun q => m ((c.tc : Thread nD τ).loc main_arg0) (ix2 q k)) (Fin.ext (show t.val * 512 + (15 + (r : ℕ) - 16) = t.val * 512 + (r : ℕ) - 1 by omega))

theorem right (c : Dev nD) (t : Fin cfg0.N) (r : Fin 512) (h : rf (rowIx t r) = true) :
    XX (iblk m c 0 t) (iblk m c 1 t) (iblk m c 2 t) ⟨17 + r, by omega⟩ = fun k => m ((c.tc : Thread nD τ).loc main_arg0) (ix2 ⟨min ((rowIx t r : ℕ) + 1) 16383, by omega⟩ k) := by
  funext k
  unfold XX
  have hT := tlt t
  rw [dif_neg (show ¬17 + (r : ℕ) < 16 by omega)]
  by_cases hr : (r : ℕ) = 511
  · have ht : t.val < 31 := by
      by_contra h0
      rw [show rowIx t r = 16383 from Fin.ext (show t.val * 512 + (r : ℕ) = 16383 by omega)] at h
      exact absurd h (by decide)
    rw [dif_neg (show ¬17 + (r : ℕ) < 528 by omega)]
    refine (congrArg (fun q => iblk m c 2 t (ix2 q k)) (Fin.ext (show 17 + (r : ℕ) - 528 = 0 by omega) : (⟨17 + r - 528, by omega⟩ : Fin 16) = 0)).trans ((blk2 m c t ht k).trans ?_)
    exact congrArg (fun q => m ((c.tc : Thread nD τ).loc main_arg0) (ix2 q k)) (Fin.ext (show t.val * 512 + 512 = min (t.val * 512 + (r : ℕ) + 1) 16383 by omega))
  · rw [dif_pos (show 17 + (r : ℕ) < 528 by omega)]
    refine (blk0 m c t ⟨17 + r - 16, by omega⟩ k).trans ?_
    exact congrArg (fun q => m ((c.tc : Thread nD τ).loc main_arg0) (ix2 q k)) (Fin.ext (show t.val * 512 + (17 + (r : ℕ) - 16) = min (t.val * 512 + (r : ℕ) + 1) 16383 by omega))

/-- The result, from core `c`'s arguments. -/
abbrev Gm (c : Dev nD) : FVec Ideal S16384x1024 .f32 := Gfin (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))

/-- A point's block of the result array. -/
theorem point_at (c : Dev nD) (t : Fin cfg0.N) (r : Fin 512) (j : Fin 1024) : outsAt0 m c t (ix2 r j) = Gm m c (ix2 (rowIx t r) j) := by
  rw [point]
  refine (Gpt_row _ _ _ _ _ _ _ _ _ t r j).trans ?_
  refine (rowOut_congr _ _ _ _ _ _ _ _ _ _ _ _ _ _ _ _ (ml t r) (mr t r) (left m c t r) (right m c t r)).trans ?_
  simp only [blk0, blk3 m c t r, blk4, blk5, blk6, blk7, blk8]
  rfl

/-- The result array after the run. -/
theorem final (c : Dev nD) : (dats m 0 c).arrAt 9 (cfgs 0).N = Gm m c := by
  refine (dats m 0 c).arrAt_eq_of_covers 9 _ (by decide +kernel) fun t _ y => ?_
  blk_simp
  rw [after0_9]
  refine (congrArg (outsAt0 m c t) (show y = ix2 (y 0) (y 1) from funext fun a => by fin_cases a <;> rfl)).trans ((point_at m c t (y 0) (y 1)).trans (congrArg _ ?_))
  blk_ext [idx t]

end Cert.Kernel4Ideal.Value
end
-- ==== Proof.CnvR.lean ====
module

public import proofs.«01_k».proof.Proof.CnvC
public import proofs.«01_k».proof.Reference4Ideal
public import proofs.«01_k».proof.Proof.Gen.Reference4Ideal
public import Idealize.ShloMosaic.Lib.KernelVsHost
public import Idealize.ShloMosaic.Lib.Pointwise

@[expose] public section

set_option maxRecDepth 100000

noncomputable section

open Idealize.ShloMosaic Idealize.ShloMosaic.TcCoe Idealize.SL.Sem

namespace Cert.Reference4Ideal.Value

open Cert.Reference4Ideal Cert.Reference4Ideal.Gen Cert.Rows
open Cert.Kernel4Ideal.Value (uval zrow orow hrow rowOut rowOut_congr len lf rf Gfin)

/-- The first half of the rows, as the reference shapes them. -/
def XA (A0 : FVec Ideal S16384x1024 .f32) : FVec Ideal S32x256x1024 .f32 := shapeCast _ (extractStridedSlice S8192x1024 ![0, 0] A0 slices_S16384x1024_S8192x1024_0_0) shapeCasts_S8192x1024_S32x256x1024

/-- The first half's normalised and modulated rows. -/
def HA (XA : FVec Ideal S32x256x1024 .f32) (A1 : FVec Ideal S8x1x9216 .f32) (A2 : FVec Ideal S4x3x1024 .f32) : FVec Ideal S32x256x1024 .f32 := (addf (mulf (mulf (mulf XA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf XA XA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![3, 1, 0] A2 slices_S4x3x1024_S1x1x1024_3_1_0) shapeCasts_S1x1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 4096] (extractStridedSlice S1x1x9216 ![0, 0, 0] A1 slices_S8x1x9216_S1x1x9216_0_0_0) slices_S1x1x9216_S1x1x1024_0_0_4096)))) (broadcastInDim S32x256x1024 ![0, 1, 2] bcast_S1x1x1024_S32x256x1024_0_1_2 (extractStridedSlice S1x1x1024 ![0, 0, 3072] (extractStridedSlice S1x1x9216 ![0, 0, 0] A1 slices_S8x1x9216_S1x1x9216_0_0_0) slices_S1x1x9216_S1x1x1024_0_0_3072)))

/-- The first half's three projections, side by side. -/
def PA (H : FVec Ideal S32x256x1024 .f32) (A4 : FVec Ideal S2x1024x3072 .f32) : FVec Ideal S32x256x3072 .f32 :=
  Host.dotGeneral dot_S32x256x1024_S1024x3072_S32x256x3072_2_0_01_1_n_n none H (shapeCast _ (extractStridedSlice S1x1024x3072 ![1, 0, 0] A4 slices_S2x1024x3072_S1x1024x3072_1_0_0) shapeCasts_S1x1024x3072_S1024x3072)

/-- The first half's gated inputs, a row of zeros before and after each sequence. -/
def UA (P : FVec Ideal S32x256x3072 .f32) : FVec Ideal S32x258x1024 .f32 :=
  pad S32x258x1024 ![0, 1, 0] ![0, 1, 0] ![0, 0, 0] (mulf (extractStridedSlice S32x256x1024 ![0, 0, 1024] P slices_S32x256x3072_S32x256x1024_0_0_1024) (extractStridedSlice S32x256x1024 ![0, 0, 2048] P slices_S32x256x3072_S32x256x1024_0_0_2048)) (sitofp .f32 (constantI S_ 32 0#32)) pads_S32x256x1024_S32x258x1024_000_110_000 h_S_

/-- The reference's three taps. -/
abbrev Ct (A5 : FVec Ideal S2x3x1024 .f32) : FVec Ideal S3x1024 .f32 := shapeCast _ (extractStridedSlice S1x3x1024 ![1, 0, 0] A5 slices_S2x3x1024_S1x3x1024_1_0_0) shapeCasts_S1x3x1024_S3x1024

/-- The first half's gated convolution. -/
def YA (P : FVec Ideal S32x256x3072 .f32) (U : FVec Ideal S32x258x1024 .f32) (C : FVec Ideal S3x1024 .f32) : FVec Ideal S32x256x1024 .f32 :=
  mulf (extractStridedSlice S32x256x1024 ![0, 0, 0] P slices_S32x256x3072_S32x256x1024_0_0_0) (addf (addf (mulf (broadcastInDim S32x256x1024 ![0, 1, 2] bcast_S1x1x1024_S32x256x1024_0_1_2 (broadcastInDim S1x1x1024 ![2] bcast_S1024_S1x1x1024_2 (shapeCast _ (extractStridedSlice S1x1024 ![0, 0] C slices_S3x1024_S1x1024_0_0) shapeCasts_S1x1024_S1024))) (extractStridedSlice S32x256x1024 ![0, 0, 0] U slices_S32x258x1024_S32x256x1024_0_0_0)) (mulf (broadcastInDim S32x256x1024 ![0, 1, 2] bcast_S1x1x1024_S32x256x1024_0_1_2 (broadcastInDim S1x1x1024 ![2] bcast_S1024_S1x1x1024_2 (shapeCast _ (extractStridedSlice S1x1024 ![1, 0] C slices_S3x1024_S1x1024_1_0) shapeCasts_S1x1024_S1024))) (extractStridedSlice S32x256x1024 ![0, 1, 0] U slices_S32x258x1024_S32x256x1024_0_1_0))) (mulf (broadcastInDim S32x256x1024 ![0, 1, 2] bcast_S1x1x1024_S32x256x1024_0_1_2 (broadcastInDim S1x1x1024 ![2] bcast_S1024_S1x1x1024_2 (shapeCast _ (extractStridedSlice S1x1024 ![2, 0] C slices_S3x1024_S1x1024_2_0) shapeCasts_S1x1024_S1024))) (extractStridedSlice S32x256x1024 ![0, 2, 0] U slices_S32x258x1024_S32x256x1024_0_2_0)))

/-- The first half's output projection. -/
def SA (Y : FVec Ideal S32x256x1024 .f32) (A6 : FVec Ideal S2x1024x1024 .f32) : FVec Ideal S32x256x1024 .f32 :=
  Host.dotGeneral dot_S32x256x1024_S1024x1024_S32x256x1024_2_0_01_1_n_n none Y (shapeCast _ (extractStridedSlice S1x1024x1024 ![1, 0, 0] A6 slices_S2x1024x1024_S1x1024x1024_1_0_0) shapeCasts_S1x1024x1024_S1024x1024)

/-- The first half's result. -/
def OA (XA SA : FVec Ideal S32x256x1024 .f32) (A1 : FVec Ideal S8x1x9216 .f32) (A3 : FVec Ideal S4x3x1024 .f32) : FVec Ideal S32x256x1024 .f32 := (addf XA (mulf (broadcastInDim S32x256x1024 ![0, 1, 2] bcast_S1x1x1024_S32x256x1024_0_1_2 (mulf (broadcastInDim S1x1x1024 ![] bcast_S_S1x1x1024 (constant S_ .f32 0x3F800000#32)) (extractStridedSlice S1x1x1024 ![0, 0, 5120] (extractStridedSlice S1x1x9216 ![0, 0, 0] A1 slices_S8x1x9216_S1x1x9216_0_0_0) slices_S1x1x9216_S1x1x1024_0_0_5120))) (mulf (mulf SA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf SA SA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![3, 1, 0] A3 slices_S4x3x1024_S1x1x1024_3_1_0) shapeCasts_S1x1x1024_S1024))))))

theorem HA_at (X : FVec Ideal S32x256x1024 .f32) (A1 : FVec Ideal S8x1x9216 .f32) (A2 : FVec Ideal S4x3x1024 .f32) (p : Fin 32) (q : Fin 256) (k : Fin 1024) :
    HA X A1 A2 (ix3 p q k) = hrow (fun k => A1 (ix3 0 0 k)) (fun k => A2 (ix3 3 1 k)) (fun k => X (ix3 p q k)) k := by
  pointwise [HA, hrow, hid, rinv]

theorem PA_at (H : FVec Ideal S32x256x1024 .f32) (A4 : FVec Ideal S2x1024x3072 .f32) (p : Fin 32) (q : Fin 256) (j : Fin 3072) : PA H A4 (ix3 p q j) = ∑ k : Fin 1024, H (ix3 p q k) * A4 (ix3 1 k j) := by
  pointwise [PA]

theorem UA_in (P : FVec Ideal S32x256x3072 .f32) (p : Fin 32) (q : Fin 256) (j : Fin 1024) (e : Fin 258) (he : (e : ℕ) = q + 1) : UA P (ix3 p e j) = P (ix3 p q ⟨1024 + j, by omega⟩) * P (ix3 p q ⟨2048 + j, by omega⟩) := by
  unfold UA
  rw [pad_apply_of_inside _ _ _ _ _ _ _ _ (ix3 p q j) (fun b => by fin_cases b <;> simp [he] <;> exact Nat.add_comm _ _)]
  pointwise

theorem UA_out (P : FVec Ideal S32x256x3072 .f32) (p : Fin 32) (j : Fin 1024) (e : Fin 258) (he : (e : ℕ) = 0 ∨ (e : ℕ) = 257) : UA P (ix3 p e j) = 0 := by
  unfold UA
  rw [pad_apply, dif_neg (fun h => by
    have h1 := h 1
    simp at h1
    omega)]
  pointwise
  show (((0#32 : BitVec 32).toInt : ℝ) : EReal) = 0
  simp

theorem YA_at (P : FVec Ideal S32x256x3072 .f32) (U : FVec Ideal S32x258x1024 .f32) (C : FVec Ideal S3x1024 .f32) (p : Fin 32) (q : Fin 256) (j : Fin 1024) :
    YA P U C (ix3 p q j) = P (ix3 p q ⟨j, by omega⟩) * (C (ix2 0 j) * U (ix3 p ⟨q, by omega⟩ j) + C (ix2 1 j) * U (ix3 p ⟨1 + q, by omega⟩ j) + C (ix2 2 j) * U (ix3 p ⟨2 + q, by omega⟩ j)) := by
  pointwise [YA]

theorem Ct_at (A5 : FVec Ideal S2x3x1024 .f32) (a : Fin 3) (j : Fin 1024) : Ct A5 (ix2 a j) = A5 (ix3 1 a j) := by
  pointwise

theorem SA_at (Y : FVec Ideal S32x256x1024 .f32) (A6 : FVec Ideal S2x1024x1024 .f32) (p : Fin 32) (q : Fin 256) (j : Fin 1024) : SA Y A6 (ix3 p q j) = ∑ k : Fin 1024, Y (ix3 p q k) * A6 (ix3 1 k j) := by
  pointwise [SA]

theorem OA_at (X S : FVec Ideal S32x256x1024 .f32) (A1 : FVec Ideal S8x1x9216 .f32) (A3 : FVec Ideal S4x3x1024 .f32) (p : Fin 32) (q : Fin 256) (j : Fin 1024) :
    OA X S A1 A3 (ix3 p q j) = X (ix3 p q j) + A1 (ix3 0 0 ⟨5120 + j, by omega⟩) * (S (ix3 p q j) * rinv (fun k => S (ix3 p q k)) * A3 (ix3 3 1 j)) := by
  pointwise [OA, rinv]

/-- A gated input of the first half, from its row. -/
theorem UA_row (X : FVec Ideal S32x256x1024 .f32) (A1 : FVec Ideal S8x1x9216 .f32) (A2 : FVec Ideal S4x3x1024 .f32) (A4 : FVec Ideal S2x1024x3072 .f32) (p : Fin 32) (q : Fin 256) (j : Fin 1024) (e : Fin 258) (he : (e : ℕ) = q + 1) :
    UA (PA (HA X A1 A2) A4) (ix3 p e j) = uval (hrow (fun k => A1 (ix3 0 0 k)) (fun k => A2 (ix3 3 1 k)) (fun k => X (ix3 p q k))) (fun k j => A4 (ix3 1 k j)) j := by
  rw [UA_in _ p q j e he]
  simp only [PA_at, HA_at]
  rfl

theorem rowA (X : FVec Ideal S32x256x1024 .f32) (A1 : FVec Ideal S8x1x9216 .f32) (A2 : FVec Ideal S4x3x1024 .f32) (A3 : FVec Ideal S4x3x1024 .f32) (A4 : FVec Ideal S2x1024x3072 .f32) (A5 : FVec Ideal S2x3x1024 .f32) (A6 : FVec Ideal S2x1024x1024 .f32) (p : Fin 32) (q : Fin 256) (j : Fin 1024) :
    OA X (SA (YA (PA (HA X A1 A2) A4) (UA (PA (HA X A1 A2) A4)) (Ct A5)) A6) A1 A3 (ix3 p q j) =
      rowOut (fun k => X (ix3 p q k)) (fun k => X (ix3 p ⟨(q : ℕ) - 1, by omega⟩ k)) (fun k => X (ix3 p ⟨min ((q : ℕ) + 1) 255, by omega⟩ k)) (decide ((q : ℕ) ≠ 0)) (decide ((q : ℕ) ≠ 255))
        (fun k => A1 (ix3 0 0 k)) (fun k => A2 (ix3 3 1 k)) (fun k => A3 (ix3 3 1 k)) (fun k j => A4 (ix3 1 k j)) (fun a j => A5 (ix3 1 a j)) (fun k j => A6 (ix3 1 k j)) j := by
  have hl (j : Fin 1024) : UA (PA (HA X A1 A2) A4) (ix3 p ⟨q, by omega⟩ j) = if decide ((q : ℕ) ≠ 0) = true then
      uval (hrow (fun k => A1 (ix3 0 0 k)) (fun k => A2 (ix3 3 1 k)) (fun k => X (ix3 p ⟨(q : ℕ) - 1, by omega⟩ k))) (fun k j => A4 (ix3 1 k j)) j else 0 := by
    by_cases h : (q : ℕ) = 0
    · rw [if_neg (by simp [h])]; exact UA_out _ p j _ (Or.inl h)
    · rw [if_pos (by simp [h])]; exact UA_row X A1 A2 A4 p _ j _ (show (q : ℕ) = q - 1 + 1 by omega)
  have hr (j : Fin 1024) : UA (PA (HA X A1 A2) A4) (ix3 p ⟨2 + q, by omega⟩ j) = if decide ((q : ℕ) ≠ 255) = true then
      uval (hrow (fun k => A1 (ix3 0 0 k)) (fun k => A2 (ix3 3 1 k)) (fun k => X (ix3 p ⟨min ((q : ℕ) + 1) 255, by omega⟩ k))) (fun k j => A4 (ix3 1 k j)) j else 0 := by
    by_cases h : (q : ℕ) = 255
    · rw [if_neg (by simp [h])]; exact UA_out _ p j _ (Or.inr (show 2 + (q : ℕ) = 257 by omega))
    · rw [if_pos (by simp [h])]; exact UA_row X A1 A2 A4 p _ j _ (show 2 + (q : ℕ) = min ((q : ℕ) + 1) 255 + 1 by omega)
  have hm (j : Fin 1024) := UA_row X A1 A2 A4 p q j ⟨1 + q, by omega⟩ (show 1 + (q : ℕ) = q + 1 by omega)
  rw [OA_at]
  simp only [SA_at, YA_at, hl, hm, hr, Ct_at, PA_at, HA_at]
  rfl

/-- The second half of the rows, as the reference shapes them. -/
def XB (A0 : FVec Ideal S16384x1024 .f32) : FVec Ideal S4x2048x1024 .f32 := shapeCast _ (extractStridedSlice S8192x1024 ![8192, 0] A0 slices_S16384x1024_S8192x1024_8192_0) shapeCasts_S8192x1024_S4x2048x1024

/-- The second half's normalised and modulated rows. -/
def HB (XB : FVec Ideal S4x2048x1024 .f32) (A1 : FVec Ideal S8x1x9216 .f32) (A2 : FVec Ideal S4x3x1024 .f32) : FVec Ideal S4x2048x1024 .f32 := (addf (mulf (mulf (mulf XB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf XB XB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![3, 1, 0] A2 slices_S4x3x1024_S1x1x1024_3_1_0) shapeCasts_S1x1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 4096] (extractStridedSlice S4x1x9216 ![1, 0, 0] A1 slices_S8x1x9216_S4x1x9216_1_0_0) slices_S4x1x9216_S4x1x1024_0_0_4096)))) (broadcastInDim S4x2048x1024 ![0, 1, 2] bcast_S4x1x1024_S4x2048x1024_0_1_2 (extractStridedSlice S4x1x1024 ![0, 0, 3072] (extractStridedSlice S4x1x9216 ![1, 0, 0] A1 slices_S8x1x9216_S4x1x9216_1_0_0) slices_S4x1x9216_S4x1x1024_0_0_3072)))

/-- The second half's three projections, side by side. -/
def PB (H : FVec Ideal S4x2048x1024 .f32) (A4 : FVec Ideal S2x1024x3072 .f32) : FVec Ideal S4x2048x3072 .f32 :=
  Host.dotGeneral dot_S4x2048x1024_S1024x3072_S4x2048x3072_2_0_01_1_n_n none H (shapeCast _ (extractStridedSlice S1x1024x3072 ![1, 0, 0] A4 slices_S2x1024x3072_S1x1024x3072_1_0_0) shapeCasts_S1x1024x3072_S1024x3072)

/-- The second half's gated inputs, a row of zeros before and after each sequence. -/
def UB (P : FVec Ideal S4x2048x3072 .f32) : FVec Ideal S4x2050x1024 .f32 :=
  pad S4x2050x1024 ![0, 1, 0] ![0, 1, 0] ![0, 0, 0] (mulf (extractStridedSlice S4x2048x1024 ![0, 0, 1024] P slices_S4x2048x3072_S4x2048x1024_0_0_1024) (extractStridedSlice S4x2048x1024 ![0, 0, 2048] P slices_S4x2048x3072_S4x2048x1024_0_0_2048)) (sitofp .f32 (constantI S_ 32 0#32)) pads_S4x2048x1024_S4x2050x1024_000_110_000 h_S_

/-- The second half's gated convolution. -/
def YB (P : FVec Ideal S4x2048x3072 .f32) (U : FVec Ideal S4x2050x1024 .f32) (C : FVec Ideal S3x1024 .f32) : FVec Ideal S4x2048x1024 .f32 :=
  mulf (extractStridedSlice S4x2048x1024 ![0, 0, 0] P slices_S4x2048x3072_S4x2048x1024_0_0_0) (addf (addf (mulf (broadcastInDim S4x2048x1024 ![0, 1, 2] bcast_S1x1x1024_S4x2048x1024_0_1_2 (broadcastInDim S1x1x1024 ![2] bcast_S1024_S1x1x1024_2 (shapeCast _ (extractStridedSlice S1x1024 ![0, 0] C slices_S3x1024_S1x1024_0_0) shapeCasts_S1x1024_S1024))) (extractStridedSlice S4x2048x1024 ![0, 0, 0] U slices_S4x2050x1024_S4x2048x1024_0_0_0)) (mulf (broadcastInDim S4x2048x1024 ![0, 1, 2] bcast_S1x1x1024_S4x2048x1024_0_1_2 (broadcastInDim S1x1x1024 ![2] bcast_S1024_S1x1x1024_2 (shapeCast _ (extractStridedSlice S1x1024 ![1, 0] C slices_S3x1024_S1x1024_1_0) shapeCasts_S1x1024_S1024))) (extractStridedSlice S4x2048x1024 ![0, 1, 0] U slices_S4x2050x1024_S4x2048x1024_0_1_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![2, 0] C slices_S3x1024_S1x1024_2_0) shapeCasts_S1x1024_S1024))) (extractStridedSlice S4x2048x1024 ![0, 2, 0] U slices_S4x2050x1024_S4x2048x1024_0_2_0)))

/-- The second half's output projection. -/
def SB (Y : FVec Ideal S4x2048x1024 .f32) (A6 : FVec Ideal S2x1024x1024 .f32) : FVec Ideal S4x2048x1024 .f32 :=
  Host.dotGeneral dot_S4x2048x1024_S1024x1024_S4x2048x1024_2_0_01_1_n_n none Y (shapeCast _ (extractStridedSlice S1x1024x1024 ![1, 0, 0] A6 slices_S2x1024x1024_S1x1024x1024_1_0_0) shapeCasts_S1x1024x1024_S1024x1024)

/-- The second half's result. -/
def OB (XB SB : FVec Ideal S4x2048x1024 .f32) (A1 : FVec Ideal S8x1x9216 .f32) (A3 : FVec Ideal S4x3x1024 .f32) : FVec Ideal S4x2048x1024 .f32 := (addf XB (mulf (broadcastInDim S4x2048x1024 ![0, 1, 2] bcast_S4x1x1024_S4x2048x1024_0_1_2 (mulf (broadcastInDim S4x1x1024 ![] bcast_S_S4x1x1024 (constant S_ .f32 0x3F800000#32)) (extractStridedSlice S4x1x1024 ![0, 0, 5120] (extractStridedSlice S4x1x9216 ![1, 0, 0] A1 slices_S8x1x9216_S4x1x9216_1_0_0) slices_S4x1x9216_S4x1x1024_0_0_5120))) (mulf (mulf SB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf SB SB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![3, 1, 0] A3 slices_S4x3x1024_S1x1x1024_3_1_0) shapeCasts_S1x1x1024_S1024))))))

theorem HB_at (X : FVec Ideal S4x2048x1024 .f32) (A1 : FVec Ideal S8x1x9216 .f32) (A2 : FVec Ideal S4x3x1024 .f32) (p : Fin 4) (q : Fin 2048) (k : Fin 1024) :
    HB X A1 A2 (ix3 p q k) = hrow (fun k => A1 (ix3 ⟨1 + p, by omega⟩ 0 k)) (fun k => A2 (ix3 3 1 k)) (fun k => X (ix3 p q k)) k := by
  pointwise [HB, hrow, hid, rinv]

theorem PB_at (H : FVec Ideal S4x2048x1024 .f32) (A4 : FVec Ideal S2x1024x3072 .f32) (p : Fin 4) (q : Fin 2048) (j : Fin 3072) : PB H A4 (ix3 p q j) = ∑ k : Fin 1024, H (ix3 p q k) * A4 (ix3 1 k j) := by
  pointwise [PB]

theorem UB_in (P : FVec Ideal S4x2048x3072 .f32) (p : Fin 4) (q : Fin 2048) (j : Fin 1024) (e : Fin 2050) (he : (e : ℕ) = q + 1) : UB P (ix3 p e j) = P (ix3 p q ⟨1024 + j, by omega⟩) * P (ix3 p q ⟨2048 + j, by omega⟩) := by
  unfold UB
  rw [pad_apply_of_inside _ _ _ _ _ _ _ _ (ix3 p q j) (fun b => by fin_cases b <;> simp [he] <;> exact Nat.add_comm _ _)]
  pointwise

theorem UB_out (P : FVec Ideal S4x2048x3072 .f32) (p : Fin 4) (j : Fin 1024) (e : Fin 2050) (he : (e : ℕ) = 0 ∨ (e : ℕ) = 2049) : UB P (ix3 p e j) = 0 := by
  unfold UB
  rw [pad_apply, dif_neg (fun h => by
    have h1 := h 1
    simp at h1
    omega)]
  pointwise
  show (((0#32 : BitVec 32).toInt : ℝ) : EReal) = 0
  simp

theorem YB_at (P : FVec Ideal S4x2048x3072 .f32) (U : FVec Ideal S4x2050x1024 .f32) (C : FVec Ideal S3x1024 .f32) (p : Fin 4) (q : Fin 2048) (j : Fin 1024) :
    YB P U C (ix3 p q j) = P (ix3 p q ⟨j, by omega⟩) * (C (ix2 0 j) * U (ix3 p ⟨q, by omega⟩ j) + C (ix2 1 j) * U (ix3 p ⟨1 + q, by omega⟩ j) + C (ix2 2 j) * U (ix3 p ⟨2 + q, by omega⟩ j)) := by
  pointwise [YB]

theorem SB_at (Y : FVec Ideal S4x2048x1024 .f32) (A6 : FVec Ideal S2x1024x1024 .f32) (p : Fin 4) (q : Fin 2048) (j : Fin 1024) : SB Y A6 (ix3 p q j) = ∑ k : Fin 1024, Y (ix3 p q k) * A6 (ix3 1 k j) := by
  pointwise [SB]

theorem OB_at (X S : FVec Ideal S4x2048x1024 .f32) (A1 : FVec Ideal S8x1x9216 .f32) (A3 : FVec Ideal S4x3x1024 .f32) (p : Fin 4) (q : Fin 2048) (j : Fin 1024) :
    OB X S A1 A3 (ix3 p q j) = X (ix3 p q j) + A1 (ix3 ⟨1 + p, by omega⟩ 0 ⟨5120 + j, by omega⟩) * (S (ix3 p q j) * rinv (fun k => S (ix3 p q k)) * A3 (ix3 3 1 j)) := by
  pointwise [OB, rinv]

/-- A gated input of the second half, from its row. -/
theorem UB_row (X : FVec Ideal S4x2048x1024 .f32) (A1 : FVec Ideal S8x1x9216 .f32) (A2 : FVec Ideal S4x3x1024 .f32) (A4 : FVec Ideal S2x1024x3072 .f32) (p : Fin 4) (q : Fin 2048) (j : Fin 1024) (e : Fin 2050) (he : (e : ℕ) = q + 1) :
    UB (PB (HB X A1 A2) A4) (ix3 p e j) = uval (hrow (fun k => A1 (ix3 ⟨1 + p, by omega⟩ 0 k)) (fun k => A2 (ix3 3 1 k)) (fun k => X (ix3 p q k))) (fun k j => A4 (ix3 1 k j)) j := by
  rw [UB_in _ p q j e he]
  simp only [PB_at, HB_at]
  rfl

theorem rowB (X : FVec Ideal S4x2048x1024 .f32) (A1 : FVec Ideal S8x1x9216 .f32) (A2 : FVec Ideal S4x3x1024 .f32) (A3 : FVec Ideal S4x3x1024 .f32) (A4 : FVec Ideal S2x1024x3072 .f32) (A5 : FVec Ideal S2x3x1024 .f32) (A6 : FVec Ideal S2x1024x1024 .f32) (p : Fin 4) (q : Fin 2048) (j : Fin 1024) :
    OB X (SB (YB (PB (HB X A1 A2) A4) (UB (PB (HB X A1 A2) A4)) (Ct A5)) A6) A1 A3 (ix3 p q j) =
      rowOut (fun k => X (ix3 p q k)) (fun k => X (ix3 p ⟨(q : ℕ) - 1, by omega⟩ k)) (fun k => X (ix3 p ⟨min ((q : ℕ) + 1) 2047, by omega⟩ k)) (decide ((q : ℕ) ≠ 0)) (decide ((q : ℕ) ≠ 2047))
        (fun k => A1 (ix3 ⟨1 + p, by omega⟩ 0 k)) (fun k => A2 (ix3 3 1 k)) (fun k => A3 (ix3 3 1 k)) (fun k j => A4 (ix3 1 k j)) (fun a j => A5 (ix3 1 a j)) (fun k j => A6 (ix3 1 k j)) j := by
  have hl (j : Fin 1024) : UB (PB (HB X A1 A2) A4) (ix3 p ⟨q, by omega⟩ j) = if decide ((q : ℕ) ≠ 0) = true then
      uval (hrow (fun k => A1 (ix3 ⟨1 + p, by omega⟩ 0 k)) (fun k => A2 (ix3 3 1 k)) (fun k => X (ix3 p ⟨(q : ℕ) - 1, by omega⟩ k))) (fun k j => A4 (ix3 1 k j)) j else 0 := by
    by_cases h : (q : ℕ) = 0
    · rw [if_neg (by simp [h])]; exact UB_out _ p j _ (Or.inl h)
    · rw [if_pos (by simp [h])]; exact UB_row X A1 A2 A4 p _ j _ (show (q : ℕ) = q - 1 + 1 by omega)
  have hr (j : Fin 1024) : UB (PB (HB X A1 A2) A4) (ix3 p ⟨2 + q, by omega⟩ j) = if decide ((q : ℕ) ≠ 2047) = true then
      uval (hrow (fun k => A1 (ix3 ⟨1 + p, by omega⟩ 0 k)) (fun k => A2 (ix3 3 1 k)) (fun k => X (ix3 p ⟨min ((q : ℕ) + 1) 2047, by omega⟩ k))) (fun k j => A4 (ix3 1 k j)) j else 0 := by
    by_cases h : (q : ℕ) = 2047
    · rw [if_neg (by simp [h])]; exact UB_out _ p j _ (Or.inr (show 2 + (q : ℕ) = 2049 by omega))
    · rw [if_pos (by simp [h])]; exact UB_row X A1 A2 A4 p _ j _ (show 2 + (q : ℕ) = min ((q : ℕ) + 1) 2047 + 1 by omega)
  have hm (j : Fin 1024) := UB_row X A1 A2 A4 p q j ⟨1 + q, by omega⟩ (show 1 + (q : ℕ) = q + 1 by omega)
  rw [OB_at]
  simp only [SB_at, YB_at, hl, hm, hr, Ct_at, PB_at, HB_at]
  rfl

/-- The reference's result over its arguments. -/
def REF (A0 : FVec Ideal S16384x1024 .f32) (A1 : FVec Ideal S8x1x9216 .f32) (A2 : FVec Ideal S4x3x1024 .f32) (A3 : FVec Ideal S4x3x1024 .f32) (A4 : FVec Ideal S2x1024x3072 .f32) (A5 : FVec Ideal S2x3x1024 .f32) (A6 : FVec Ideal S2x1024x1024 .f32) : FVec Ideal S16384x1024 .f32 :=
  concatenate S16384x1024 0 [⟨S8192x1024, shapeCast _ (OA (XA A0) (SA (YA (PA (HA (XA A0) A1 A2) A4) (UA (PA (HA (XA A0) A1 A2) A4)) (Ct A5)) A6) A1 A3) shapeCasts_S32x256x1024_S8192x1024⟩,
    ⟨S8192x1024, shapeCast _ (OB (XB A0) (SB (YB (PB (HB (XB A0) A1 A2) A4) (UB (PB (HB (XB A0) A1 A2) A4)) (Ct A5)) A6) A1 A3) shapeCasts_S4x2048x1024_S8192x1024⟩] concatenates_S8192x1024_S8192x1024_S16384x1024_d0

theorem XA_at (A0 : FVec Ideal S16384x1024 .f32) (p : Fin 32) (q : Fin 256) (k : Fin 1024) (i : Fin 16384) (h : (p : ℕ) * 256 + q = i) : XA A0 (ix3 p q k) = A0 (ix2 i k) := by
  pointwise [XA]
  exact congrArg (fun r => A0 (ix2 r k)) (Fin.ext h)

theorem XB_at (A0 : FVec Ideal S16384x1024 .f32) (p : Fin 4) (q : Fin 2048) (k : Fin 1024) (i : Fin 16384) (h : 8192 + ((p : ℕ) * 2048 + q) = i) : XB A0 (ix3 p q k) = A0 (ix2 i k) := by
  pointwise [XB]
  exact congrArg (fun r => A0 (ix2 r k)) (Fin.ext h)

theorem ref_at (A0 : FVec Ideal S16384x1024 .f32) (A1 : FVec Ideal S8x1x9216 .f32) (A2 : FVec Ideal S4x3x1024 .f32) (A3 : FVec Ideal S4x3x1024 .f32) (A4 : FVec Ideal S2x1024x3072 .f32) (A5 : FVec Ideal S2x3x1024 .f32) (A6 : FVec Ideal S2x1024x1024 .f32) : REF A0 A1 A2 A3 A4 A5 A6 = Gfin A0 A1 A2 A3 A4 A5 A6 := by
  funext y
  obtain ⟨i, j, rfl⟩ : ∃ (i : Fin 16384) (j : Fin 1024), y = ix2 i j := ⟨y 0, y 1, funext fun a => by fin_cases a <;> rfl⟩
  unfold REF
  by_cases h : (i : ℕ) < 8192
  · trans OA (XA A0) (SA (YA (PA (HA (XA A0) A1 A2) A4) (UA (PA (HA (XA A0) A1 A2) A4)) (Ct A5)) A6) A1 A3 (ix3 ⟨i / 256, by omega⟩ ⟨i % 256, by omega⟩ j)
    · pointwise
      rw [dif_pos h]
    · have hn : len i = 256 := if_pos h
      rw [rowA]
      show _ = rowOut _ _ _ _ _ (fun k => A1 (ix3 (mrow i) 0 k)) _ _ _ _ _ j
      rw [show mrow i = 0 from dif_pos h, show (fun k => XA A0 (ix3 ⟨(i : ℕ) / 256, by omega⟩ ⟨(i : ℕ) % 256, by omega⟩ k)) = fun k => A0 (ix2 i k) from funext fun k => XA_at A0 _ _ k i (by show (i : ℕ) / 256 * 256 + i % 256 = i; omega)]
      refine rowOut_congr _ _ _ _ _ _ _ _ _ _ _ _ _ _ _ _ (by show _ = lf i; simp only [lf, hn]) (by show _ = rf i; simp only [rf, hn]) (fun hb => funext fun k => ?_) (fun hb => funext fun k => ?_)
      · have hb := of_decide_eq_true (show lf i = true from hb)
        rw [hn] at hb
        exact XA_at A0 _ _ k _ (show (i : ℕ) / 256 * 256 + (i % 256 - 1) = i - 1 by omega)
      · have hb := of_decide_eq_true (show rf i = true from hb)
        rw [hn] at hb
        exact XA_at A0 _ _ k _ (show (i : ℕ) / 256 * 256 + min ((i : ℕ) % 256 + 1) 255 = min ((i : ℕ) + 1) 16383 by omega)
  · trans OB (XB A0) (SB (YB (PB (HB (XB A0) A1 A2) A4) (UB (PB (HB (XB A0) A1 A2) A4)) (Ct A5)) A6) A1 A3 (ix3 ⟨(i - 8192) / 2048, by omega⟩ ⟨(i - 8192) % 2048, by omega⟩ j)
    · pointwise
      rw [dif_neg h]
    · have hn : len i = 2048 := if_neg h
      rw [rowB]
      show _ = rowOut _ _ _ _ _ (fun k => A1 (ix3 (mrow i) 0 k)) _ _ _ _ _ j
      rw [show mrow i = ⟨1 + (i - 8192) / 2048, by omega⟩ from dif_neg h, show (fun k => XB A0 (ix3 ⟨((i : ℕ) - 8192) / 2048, by omega⟩ ⟨((i : ℕ) - 8192) % 2048, by omega⟩ k)) = fun k => A0 (ix2 i k) from funext fun k => XB_at A0 _ _ k i (by show 8192 + (((i : ℕ) - 8192) / 2048 * 2048 + (i - 8192) % 2048) = i; omega)]
      refine rowOut_congr _ _ _ _ _ _ _ _ _ _ _ _ _ _ _ _ (by show _ = lf i; simp only [lf, hn]; exact decide_eq_decide.mpr (by show ((i : ℕ) - 8192) % 2048 ≠ 0 ↔ _; omega)) (by show _ = rf i; simp only [rf, hn]; exact decide_eq_decide.mpr (by show ((i : ℕ) - 8192) % 2048 ≠ 2047 ↔ _; omega)) (fun hb => funext fun k => ?_) (fun hb => funext fun k => ?_)
      · have hb := of_decide_eq_true (show lf i = true from hb)
        rw [hn] at hb
        exact XB_at A0 _ _ k _ (show 8192 + (((i : ℕ) - 8192) / 2048 * 2048 + ((i - 8192) % 2048 - 1)) = i - 1 by omega)
      · have hb := of_decide_eq_true (show rf i = true from hb)
        rw [hn] at hb
        exact XB_at A0 _ _ k _ (show 8192 + (((i : ℕ) - 8192) / 2048 * 2048 + min (((i : ℕ) - 8192) % 2048 + 1) 2047) = min ((i : ℕ) + 1) 16383 by omega)

end Cert.Reference4Ideal.Value
end
-- ==== Proof.CnvP.lean ====
module

public import proofs.«01_k».proof.Defs
public import proofs.«01_k».proof.Proof.CnvR
public import proofs.«01_k».proof.Proof.CnvC
public import Idealize.ShloMosaic.Lib.Claim
public import Idealize.ShloMosaic.Adequacy
public import Idealize.ShloMosaic.Init

@[expose] public section

noncomputable section

namespace Cert.Proof

open Idealize.ShloMosaic Idealize.SL.Sem

set_option maxHeartbeats 8000000 in
/-- The reference leaves its arguments unchanged. -/
theorem mixer_run (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => ∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)) := by
  hlo_run

theorem frame_conv : Cert.quiescent_Reference4Ideal (hReference4Ideal := Cert.Reference4Ideal.Gen.facts) := fun m g _ =>
  (θ_run _ _ _).mono (fun r h => ⟨h, sem_eq_zero_of_no_sems (by decide) _⟩) (mixer_run m g)

set_option maxHeartbeats 8000000 in
theorem algebraic_conv : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · hlo_run
    obtain ⟨_, _, _, _, h4, h5, h6⟩ := hagree c
    rw [h4, h5, h6]
    exact (Cert.Reference4Ideal.Value.ref_at _ _ _ _ _ _ _).trans (Cert.Kernel4Ideal.Value.final m c).symm

end Cert.Proof
end
-- ==== Proof.FfsF.lean ====
module

public import proofs.«01_k».proof.Proof.Gen.Kernel5Ideal.Frame
public import proofs.«01_k».proof.Proof.Gen.Kernel5Ideal.Skeleton

@[expose] public section

set_option maxRecDepth 16384

noncomputable section

namespace Cert.Kernel5Ideal.Split

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (UR sig nD τ) ℕ

set_option maxHeartbeats 1000000 in
/-- The body before point 16: its first output is written whole, its second left as it is. -/
def runA (c : Dev nD) (i : grid0.Coords) (arg1 : Memref sig .tc .vmem S512x1024 .f32) (harg1 : arg1.IsWhole) (arg2 : Memref sig .tc .vmem S1x1x9216 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024x5632 .f32) (harg5 : arg5.IsWhole) (arg6 : Memref sig .tc .vmem S1x1x2816x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole)
    (hc0 : k0_cond1 i = 1#1) (hc1 : ¬k0_cond2 i = 1#1) (hc2 : k0_cond3 i = 1#1) (hc3 : ¬k0_cond4 i = 1#1)
    (x0 : Vec F S512x1024 .f32) (x1 : Vec F S1x1x9216 .f32) (x2 : Vec F S1x1024 .f32) (x3 : Vec F S1x1024 .f32) (x4 : Vec F S1x1x1024x5632 .f32) (x5 : Vec F S1x1x2816x1024 .bf16) :
    Σ' (L : List (View.Piece (Elt F) S512x1024 .f32)), Σ' (LT0 : List (View.Piece (Elt F) S512x1024 .bf16)), { LT1 : List (View.Piece (Elt F) S512x2816 .bf16) //
      ∀ (d : Vec F S512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ owns (c : Thread nD τ) arg8 fullShare d ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_swiglu_sublayer i arg1 harg1 arg2 harg2 arg3 harg3 arg4 harg4 arg5 harg5 arg6 harg6 arg7 harg7 arg8 harg8 arg9 harg9 arg10 harg10) K } := by
  refine ⟨?_, ?_, ?_, fun d E K => ?go⟩
  case go =>
    simp only [cc0_swiglu_sublayer_eq_skeleton]; unfold cc0_swiglu_sublayer_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]; · iexists _; iexact HS0
    iexists _; iexact HS1

end Cert.Kernel5Ideal.Split
end
-- ==== Proof.FfsG.lean ====
module

public import proofs.«01_k».proof.Proof.Gen.Kernel5Ideal.Frame
public import proofs.«01_k».proof.Proof.Gen.Kernel5Ideal.Skeleton

@[expose] public section

set_option maxRecDepth 16384

noncomputable section

namespace Cert.Kernel5Ideal.Split

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (UR sig nD τ) ℕ

set_option maxHeartbeats 1000000 in
/-- The body from point 16 on: its second output is written whole, its first left as it is. -/
def runB (c : Dev nD) (i : grid0.Coords) (arg1 : Memref sig .tc .vmem S512x1024 .f32) (harg1 : arg1.IsWhole) (arg2 : Memref sig .tc .vmem S1x1x9216 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024x5632 .f32) (harg5 : arg5.IsWhole) (arg6 : Memref sig .tc .vmem S1x1x2816x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole)
    (hc0 : ¬k0_cond1 i = 1#1) (hc1 : k0_cond2 i = 1#1) (hc2 : ¬k0_cond3 i = 1#1) (hc3 : k0_cond4 i = 1#1)
    (x0 : Vec F S512x1024 .f32) (x1 : Vec F S1x1x9216 .f32) (x2 : Vec F S1x1024 .f32) (x3 : Vec F S1x1024 .f32) (x4 : Vec F S1x1x1024x5632 .f32) (x5 : Vec F S1x1x2816x1024 .bf16) :
    Σ' (L : List (View.Piece (Elt F) S512x1024 .f32)), Σ' (LT0 : List (View.Piece (Elt F) S512x1024 .bf16)), { LT1 : List (View.Piece (Elt F) S512x2816 .bf16) //
      ∀ (d : Vec F S512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d ∗ (∃ f, arg8.view.loc (c : Thread nD τ) ↦[arg8.view.set]{fullShare} arg8.view.writes (Elt F) f L) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_swiglu_sublayer i arg1 harg1 arg2 harg2 arg3 harg3 arg4 harg4 arg5 harg5 arg6 harg6 arg7 harg7 arg8 harg8 arg9 harg9 arg10 harg10) K } := by
  refine ⟨?_, ?_, ?_, fun d E K => ?go⟩
  case go =>
    simp only [cc0_swiglu_sublayer_eq_skeleton]; unfold cc0_swiglu_sublayer_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel5Ideal.Split
end
-- ==== Proof.FfsH.lean ====
module

public import proofs.«01_k».proof.Proof.FfsF
public import proofs.«01_k».proof.Proof.FfsG
public import Idealize.ShloMosaic.Lib.Claim

@[expose] public section

set_option maxRecDepth 16384

noncomputable section

namespace Cert.Kernel5Ideal.Split

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body's conditions: the first 16 points are the prompt's, the last 16 the samples'. -/

theorem c1 : ∀ t : Fin cfg0.N, k0_cond1 (grid0.coords t) = 1#1 ↔ t.val < 16 := by decide +kernel
theorem c2 : ∀ t : Fin cfg0.N, k0_cond2 (grid0.coords t) = 1#1 ↔ ¬t.val < 16 := by decide +kernel
theorem c3 : ∀ t : Fin cfg0.N, k0_cond3 (grid0.coords t) = 1#1 ↔ t.val < 16 := by decide +kernel
theorem c4 : ∀ t : Fin cfg0.N, k0_cond4 (grid0.coords t) = 1#1 ↔ ¬t.val < 16 := by decide +kernel
theorem idle6 : ∀ t : Fin cfg0.N, cfg0.idle 6 (cfg0.grid.coords t) = decide (¬t.val < 16) := by decide +kernel
theorem idle7 : ∀ t : Fin cfg0.N, cfg0.idle 7 (cfg0.grid.coords t) = decide (t.val < 16) := by decide +kernel
theorem flush6 : ∀ t : Fin cfg0.N, (cfg0.win 6).flush t = decide (t.val < 15 ∨ t.val = 31) := by decide +kernel
theorem flush7 : ∀ t : Fin cfg0.N, (cfg0.win 7).flush t = decide (¬t.val < 16) := by decide +kernel
theorem fetch6 : ∀ t : Fin cfg0.N, (cfg0.win 6).fetch t = false := by decide +kernel

theorem hs0 (t : Fin cfg0.N) : (st0_0 t : Memref sig .tc .vmem S512x1024 .f32).IsWhole := hstage0_0 ((cfg0.slots t 0).cast nbuf0_0)
theorem hs1 (t : Fin cfg0.N) : (st0_1 t : Memref sig .tc .vmem S1x1x9216 .f32).IsWhole := hstage0_1 ((cfg0.slots t 1).cast nbuf0_1)
theorem hs2 (t : Fin cfg0.N) : (st0_2 t : Memref sig .tc .vmem S1x1024 .f32).IsWhole := hstage0_2 ((cfg0.slots t 2).cast nbuf0_2)
theorem hs3 (t : Fin cfg0.N) : (st0_3 t : Memref sig .tc .vmem S1x1024 .f32).IsWhole := hstage0_3 ((cfg0.slots t 3).cast nbuf0_3)
theorem hs4 (t : Fin cfg0.N) : (st0_4 t : Memref sig .tc .vmem S1x1x1024x5632 .f32).IsWhole := hstage0_4 ((cfg0.slots t 4).cast nbuf0_4)
theorem hs5 (t : Fin cfg0.N) : (st0_5 t : Memref sig .tc .vmem S1x1x2816x1024 .bf16).IsWhole := hstage0_5 ((cfg0.slots t 5).cast nbuf0_5)
theorem hs6 (t : Fin cfg0.N) : (st0_6 t : Memref sig .tc .vmem S512x1024 .f32).IsWhole := hstage0_6 ((cfg0.slots t 6).cast nbuf0_6)
theorem hs7 (t : Fin cfg0.N) : (st0_7 t : Memref sig .tc .vmem S512x1024 .f32).IsWhole := hstage0_7 ((cfg0.slots t 7).cast nbuf0_7)

/-- The kernel's two scratch buffers, whole. -/
abbrev scr0 : Memref sig .tc .vmem S512x1024 .bf16 := Memref.whole cc0_scratch0
abbrev scr1 : Memref sig .tc .vmem S512x2816 .bf16 := Memref.whole cc0_scratch1

theorem phi_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- A staging buffer of each output, to state what it holds. -/
abbrev vw6 : View sig .tc .vmem S512x1024 .f32 := (Memref.whole cc0_stg6_0 : Memref sig .tc .vmem S512x1024 .f32).view
abbrev vw7 : View sig .tc .vmem S512x1024 .f32 := (Memref.whole cc0_stg7_0 : Memref sig .tc .vmem S512x1024 .f32).view

/-- The run at a prompt point and at a sample point. -/
abbrev ptA (c : Dev nD) (t : Fin cfg0.N) (h : t.val < 16) :=
  runA (F := F) c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) scr0 (Memref.isWhole_whole _) scr1 (Memref.isWhole_whole _) ((c1 t).2 h) (fun e => (c2 t).1 e h) ((c3 t).2 h) (fun e => (c4 t).1 e h) (iblk m c 0 t) (iblk m c 1 t) (iblk m c 2 t) (iblk m c 3 t) (iblk m c 4 t) (iblk m c 5 t)
abbrev ptB (c : Dev nD) (t : Fin cfg0.N) (h : ¬t.val < 16) :=
  runB (F := F) c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) scr0 (Memref.isWhole_whole _) scr1 (Memref.isWhole_whole _) (fun e => h ((c1 t).1 e)) ((c2 t).2 h) (fun e => h ((c3 t).1 e)) ((c4 t).2 h) (iblk m c 0 t) (iblk m c 1 t) (iblk m c 2 t) (iblk m c 3 t) (iblk m c 4 t) (iblk m c 5 t)

theorem coverA (c : Dev nD) (t : Fin cfg0.N) (h : t.val < 16) (y : S512x1024.Idx) : ∃ pc ∈ (ptA m c t h).1, y ∈ pc.1.set :=
  View.cover_of_tiledL (ptA m c t h).1 S256x1024.size (by sl_kernel_rfl) y
theorem coverB (c : Dev nD) (t : Fin cfg0.N) (h : ¬t.val < 16) (y : S512x1024.Idx) : ∃ pc ∈ (ptB m c t h).1, y ∈ pc.1.set :=
  View.cover_of_tiledL (ptB m c t h).1 S256x1024.size (by sl_kernel_rfl) y

/-- What the run leaves in the output it writes. -/
def outA (c : Dev nD) (t : Fin cfg0.N) (h : t.val < 16) : Vec F S512x1024 .f32 :=
  vw6.read (Elt F) (vw6.writes (Elt F) vw6.junk (ptA m c t h).1)
def outB (c : Dev nD) (t : Fin cfg0.N) (h : ¬t.val < 16) : Vec F S512x1024 .f32 :=
  vw7.read (Elt F) (vw7.writes (Elt F) vw7.junk (ptB m c t h).1)

theorem N_eq : cfg0.N = 32 := by decide +kernel

/-- The first output after point `t`: from point 16 on, still what point 15 left. -/
def o6 (c : Dev nD) (t : Fin cfg0.N) : Vec F S512x1024 .f32 :=
  outA m c ⟨min t.val 15, lt_of_le_of_lt (min_le_left _ _) t.isLt⟩ (lt_of_le_of_lt (min_le_right _ _) (by decide))
/-- The second output after point `t ≥ 16`. -/
def o7 (c : Dev nD) (t : Fin cfg0.N) : Vec F S512x1024 .f32 :=
  outB m c ⟨max t.val 16, max_lt t.isLt (by decide +kernel)⟩ (not_lt.2 (le_max_right _ _))

theorem o6_eq (c : Dev nD) (t : Fin cfg0.N) (h : t.val < 16) : o6 m c t = outA m c t h := by
  unfold o6; congr 1; exact Fin.ext (min_eq_left (by omega))
theorem o7_eq (c : Dev nD) (t : Fin cfg0.N) (h : ¬t.val < 16) : o7 m c t = outB m c t h := by
  unfold o7; congr 1; exact Fin.ext (max_eq_left (by omega))
theorem o6_late (c : Dev nD) (t t' : Fin cfg0.N) (h : 15 ≤ t.val) (h' : 15 ≤ t'.val) : o6 m c t = o6 m c t' := by
  unfold o6; congr 1; exact Fin.ext ((min_eq_right h).trans (min_eq_right h').symm)

/-- The launch's data: inputs stay at their blocks, the outputs are as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 m c t
    | ⟨7, _⟩ => o7 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = o6 m c t := by dsimp only [dats]
theorem aft7 (c : Dev nD) (t : Fin cfg0.N) : (dats m 0 c).after 7 t = o7 m c t := by dsimp only [dats]
theorem bef0 (c : Dev nD) (t : Fin cfg0.N) (d) : (dats m 0 c).before 0 t d = iblk m c 0 t := before0_0_of m (dats m 0 c) (A_eq m c 0) (aft0 m c) t d
theorem bef1 (c : Dev nD) (t : Fin cfg0.N) (d) : (dats m 0 c).before 1 t d = iblk m c 1 t := before0_1_of m (dats m 0 c) (A_eq m c 1) (aft1 m c) t d
theorem bef2 (c : Dev nD) (t : Fin cfg0.N) (d) : (dats m 0 c).before 2 t d = iblk m c 2 t := before0_2_of m (dats m 0 c) (A_eq m c 2) (aft2 m c) t d
theorem bef3 (c : Dev nD) (t : Fin cfg0.N) (d) : (dats m 0 c).before 3 t d = iblk m c 3 t := before0_3_of m (dats m 0 c) (A_eq m c 3) (aft3 m c) t d
theorem bef4 (c : Dev nD) (t : Fin cfg0.N) (d) : (dats m 0 c).before 4 t d = iblk m c 4 t := before0_4_of m (dats m 0 c) (A_eq m c 4) (aft4 m c) t d
theorem bef5 (c : Dev nD) (t : Fin cfg0.N) (d) : (dats m 0 c).before 5 t d = iblk m c 5 t := before0_5_of m (dats m 0 c) (A_eq m c 5) (aft5 m c) t d

/-- From point 16 on the first output's buffer is found as point 15 left it. -/
theorem bef6 (c : Dev nD) (d) : ∀ (n : Nat) (t : Fin cfg0.N), t.val = 16 + n → (dats m 0 c).before 6 t d = o6 m c t := by
  intro n
  induction n with
  | zero =>
    intro t ht
    have hb : t.val < 32 := N_eq ▸ t.isLt
    rw [Dat.before_of_pos _ 6 t (by omega) (fetch6 t), flush6, if_neg (by simp only [decide_eq_true_eq]; omega)]
    unfold Dat.left
    rw [idle6, show decide (¬t.val - 1 < 16) = false from decide_eq_false (by omega)]
    exact (aft6 m c _).trans (o6_late m c _ _ (by show 15 ≤ t.val - 1; omega) (by omega))
  | succ n ih =>
    intro t ht
    have hb : t.val < 32 := N_eq ▸ t.isLt
    rw [Dat.before_of_pos _ 6 t (by omega) (fetch6 t), flush6, if_neg (by simp only [decide_eq_true_eq]; omega)]
    unfold Dat.left
    rw [idle6, show decide (¬t.val - 1 < 16) = true from decide_eq_true (by omega)]
    exact (ih _ (by show t.val - 1 = _; omega)).trans (o6_late m c _ _ (by show 15 ≤ t.val - 1; omega) (by omega))

/-- So what is found there is what has to be left. -/
theorem leave6 (c : Dev nD) (t : Fin cfg0.N) (h : ¬t.val < 16) :
    owns (c : Thread nD τ) (st0_6 t) fullShare (o6 m c t) ⊢ ((dats m 0 c).leavesExact 6 t : sProp 𝕄) := by
  have hi : cfg0.idle 6 (cfg0.grid.coords t) = true := (idle6 t).trans (decide_eq_true h)
  by_cases hf : (cfg0.win 6).flush t = true
  · unfold Dat.leavesExact; rw [hi, hf, aft6]
  · rw [Dat.leavesExact_idle _ 6 t hi (Bool.not_eq_true _ ▸ hf)]
    iintro H; iexists (o6 m c t); rw [bef6 m c _ (t.val - 16) t (by omega)]; iexact H

theorem live6 (c : Dev nD) (t : Fin cfg0.N) (h : t.val < 16) :
    ((dats m 0 c).leavesExact 6 t : sProp 𝕄) = owns (c : Thread nD τ) (st0_6 t) fullShare (outA m c t h) := by
  unfold Dat.leavesExact
  rw [show cfg0.idle 6 (cfg0.grid.coords t) = false from (idle6 t).trans (decide_eq_false (not_not.2 h)), aft6, o6_eq m c t h]
theorem live7 (c : Dev nD) (t : Fin cfg0.N) (h : ¬t.val < 16) :
    ((dats m 0 c).leavesExact 7 t : sProp 𝕄) = owns (c : Thread nD τ) (st0_7 t) fullShare (outB m c t h) := by
  unfold Dat.leavesExact
  rw [show cfg0.idle 7 (cfg0.grid.coords t) = false from (idle7 t).trans (decide_eq_false h), aft7, o7_eq m c t h]
theorem rest7 (c : Dev nD) (t : Fin cfg0.N) (h : t.val < 16) :
    ((dats m 0 c).leavesExact 7 t : sProp 𝕄) = iprop(∃ d, owns (c : Thread nD τ) (st0_7 t) fullShare ((dats m 0 c).before 7 t d)) :=
  Dat.leavesExact_idle _ 7 t ((idle7 t).trans (decide_eq_true h)) ((flush7 t).trans (decide_eq_false (not_not.2 h)))

/-- What the body finds at point `t`, and what it leaves. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

set_option maxHeartbeats 1000000 in
/-- The body at a prompt point. -/
theorem body_prompt (c : Dev nD) (t : Fin cfg0.N) (h : t.val < 16) :
    pre m c t ⊢ wp frame (wpE (defs₀ (F := F)) Variants.none c none) Set.univ (bodyAt0 t) (fun _ => post m c t) := by
  unfold pre post bodyAt0
  simp only [bef0, bef1, bef2, bef3, bef4, bef5]
  rw [show (dats m 0 c).Φ t.succ = (dats m 0 c).Φ t.castSucc from rfl,
    show (dats m 0 c).owesAt () t.succ = (dats m 0 c).owesAt () t.castSucc from rfl,
    aft0, aft1, aft2, aft3, aft4, aft5, show (dats m 0 c).Φ t.castSucc = Pipeline.ΦA spec0 c from rfl, phi_eq]
  rw [live6 m c t h, rest7 m c t h]
  unfold outA
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((ptA m c t h).2.2.2 ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, ⟨%e, H6⟩, H7, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverA m c t h)
  iexists _; iexact H7

set_option maxHeartbeats 1000000 in
/-- The body at a sample point. -/
theorem body_sample (c : Dev nD) (t : Fin cfg0.N) (h : ¬t.val < 16) :
    pre m c t ⊢ wp frame (wpE (defs₀ (F := F)) Variants.none c none) Set.univ (bodyAt0 t) (fun _ => post m c t) := by
  unfold pre post bodyAt0
  simp only [bef0, bef1, bef2, bef3, bef4, bef5]
  rw [show (dats m 0 c).Φ t.succ = (dats m 0 c).Φ t.castSucc from rfl,
    show (dats m 0 c).owesAt () t.succ = (dats m 0 c).owesAt () t.castSucc from rfl,
    aft0, aft1, aft2, aft3, aft4, aft5, show (dats m 0 c).Φ t.castSucc = Pipeline.ΦA spec0 c from rfl, phi_eq]
  rw [live7 m c t h]
  unfold outB
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [bef6 m c d6 (t.val - 16) t (by omega)]
  iapply ((ptB m c t h).2.2.2 (o6 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leave6 m c t h); iexact H6
  unfold owns; iexists _; isplitr
  swap; · iexact H7
  ipureintro; exact View.read_writes_of_cover _ _ _ _ _ (coverB m c t h)

/-- The pipeline calls the body so. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  refine triple_restated (P := pre m c t) (Q := fun _ => post m c t) ?_ rfl .rfl fun _ => .rfl
  by_cases h : t.val < 16
  · exact body_prompt m c t h
  · exact body_sample m c t h

set_option backward.isDefEq.respectTransparency.types false in
/-- The run: every array of the launch ends as the data say, and no semaphore is left counted. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame: the arguments end unchanged and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.Kernel5Ideal.Split
end
-- ==== Proof.FfsK.lean ====
module

public import proofs.«01_k».proof.Defs
public import proofs.«01_k».proof.Proof.FfsH
public import proofs.«01_k».proof.Proof.Gen.Kernel5
public import Idealize.ShloMosaic.Lib.Claim
public import Idealize.ShloMosaic.Init

@[expose] public section

set_option maxRecDepth 16384

noncomputable section

namespace Cert.Proof

open Idealize.ShloMosaic Idealize.ShloMosaic.TcCoe Idealize.SL.Sem

/-- The program before the pass has the same body under its one label. -/
theorem labels_same {F : FTy → Type} [FloatOps F] : Cert.Kernel5.defs₀ (F := F) = Cert.Kernel5Ideal.defs₀ (F := F) := by
  unfold Cert.Kernel5.defs₀ Cert.Kernel5Ideal.defs₀
  refine congrArg Defs.onTc ?_
  funext l a
  match l, a with
  | 0, _ => rfl

theorem defs_same {F : FTy → Type} [FloatOps F] : Cert.Kernel5.defs (F := F) = Cert.Kernel5Ideal.defs (F := F) :=
  congrArg (Pipeline.defs (Cert.Kernel5Ideal.pcfgs (F := F))) labels_same

/-- So its frame is the same statement, at the other floats. -/
theorem frame_split : Cert.quiescent_Kernel5 (hKernel5 := Cert.Kernel5.Gen.facts) := fun m ρ _ => by
  have h := Cert.Kernel5Ideal.Split.frame (F := Bits) m ρ
  rw [← defs_same] at h
  exact h

end Cert.Proof
end
-- ==== Proof.FfsA.lean ====
module

public import proofs.«01_k».proof.Proof.FfnA
public import proofs.«01_k».proof.Proof.FfsH

@[expose] public section

set_option maxRecDepth 100000

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Kernel5Ideal.Split
open Cert.Kernel2Ideal.Value (rinv hid act outRow outv)

variable (m : (ℓ : Loc nD τ sig) → Buf (Elt Ideal) ℓ)

/-- The hidden row of the first half of a tile, at an entry. -/
theorem h0_row (X0 : FVec Ideal S512x1024 .f32) (X1 : FVec Ideal S1x1x9216 .f32) (x0 : FVec Ideal S256x1024 .f32) (X2 : FVec Ideal S1x1024 .f32) (r : Fin 256) (R : Fin 512)
    (hx : ∀ k, x0 (ix2 r k) = X0 (ix2 R k)) (k : Fin 1024) :
    k0_pay5 (F := Ideal) X1 x0 X2 (ix2 r k) = hid (fun k => X0 (ix2 R k)) (fun k => X2 (ix2 0 k)) (fun k => X1 (ix3 0 0 ⟨7168 + k, by omega⟩)) (fun k => X1 (ix3 0 0 ⟨6144 + k, by omega⟩)) k := by
  simp only [← hx]
  pointwise [k0_pay5, k0_pay3, k0_pay2, k0_pay1, hid, rinv]

/-- The hidden row of the second half of a tile, at an entry. -/
theorem h1_row (X0 : FVec Ideal S512x1024 .f32) (X1 : FVec Ideal S1x1x9216 .f32) (x0 : FVec Ideal S256x1024 .f32) (X2 : FVec Ideal S1x1024 .f32) (r : Fin 256) (R : Fin 512)
    (hx : ∀ k, x0 (ix2 r k) = X0 (ix2 R k)) (k : Fin 1024) :
    k0_pay9 (F := Ideal) (k0_pay2 X1) (k0_pay3 X1) x0 (k0_pay6 X2) (k0_pay7 x0) k0_pay8 (ix2 r k) = hid (fun k => X0 (ix2 R k)) (fun k => X2 (ix2 0 k)) (fun k => X1 (ix3 0 0 ⟨7168 + k, by omega⟩)) (fun k => X1 (ix3 0 0 ⟨6144 + k, by omega⟩)) k := by
  simp only [← hx]
  pointwise [k0_pay9, k0_pay8, k0_pay7, k0_pay6, k0_pay3, k0_pay2, k0_pay1, hid, rinv]

/-- The activations of a whole tile. -/
def Gact (X0 : FVec Ideal S512x1024 .f32) (X1 : FVec Ideal S1x1x9216 .f32) (X2 : FVec Ideal S1x1024 .f32) (X4 : FVec Ideal S1x1x1024x5632 .f32) : FVec Ideal S512x2816 .bf16 :=
  fun y => act (hid (fun k => X0 (ix2 (y 0) k)) (fun k => X2 (ix2 0 k)) (fun k => X1 (ix3 0 0 ⟨7168 + k, by omega⟩)) (fun k => X1 (ix3 0 0 ⟨6144 + k, by omega⟩))) (fun k j => X4 (ix4 0 0 k j)) (y 1)

/-- One row of the sublayer's result, from its input row, its modulation row, the two gains and the two weight matrices. -/
def rowOut (x : Fin 1024 → EReal) (mo : Fin 9216 → EReal) (gp gq : Fin 1024 → EReal) (w : Fin 1024 → Fin 5632 → EReal) (wo : Fin 2816 → Fin 1024 → EReal) (j : Fin 1024) : EReal :=
  outv x (fun k => mo ⟨8192 + k, by omega⟩) gq (outRow (act (hid x gp (fun k => mo ⟨7168 + k, by omega⟩) (fun k => mo ⟨6144 + k, by omega⟩)) w) wo) j

/-- The result of a whole tile. -/
def Gout (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16) : FVec Ideal S512x1024 .f32 :=
  fun y => rowOut (fun k => X0 (ix2 (y 0) k)) (fun k => X1 (ix3 0 0 k)) (fun k => X2 (ix2 0 k)) (fun k => X3 (ix2 0 k)) (fun k j => X4 (ix4 0 0 k j)) (fun k j => X5 (ix4 0 0 k j)) (y 1)

/-- A piece of activations is the block of `Gact` it is stored at. -/
theorem tile_eq (X0 : FVec Ideal S512x1024 .f32) (X1 : FVec Ideal S1x1x9216 .f32) (X2 : FVec Ideal S1x1024 .f32) (X4 : FVec Ideal S1x1x1024x5632 .f32)
    (wg wu : FVec Ideal S1x1x1024x256 .f32) (H : FVec Ideal S256x1024 .bf16) (r j : Fin 256) (y : S512x2816.Idx)
    (hH : ∀ k, H (ix2 r k) = hid (fun k => X0 (ix2 (y 0) k)) (fun k => X2 (ix2 0 k)) (fun k => X1 (ix3 0 0 ⟨7168 + k, by omega⟩)) (fun k => X1 (ix3 0 0 ⟨6144 + k, by omega⟩)) k)
    (hg : ∀ k, wg (ix4 0 0 k j) = X4 (ix4 0 0 k ⟨(y 1 : ℕ), by have : (y 1 : ℕ) < 2816 := (y 1).isLt; omega⟩))
    (hu : ∀ k, wu (ix4 0 0 k j) = X4 (ix4 0 0 k ⟨2816 + (y 1 : ℕ), by have : (y 1 : ℕ) < 2816 := (y 1).isLt; omega⟩)) :
    k0_pay12 (F := Ideal) wg wu H H (ix2 r j) = Gact X0 X1 X2 X4 y := by
  have e : k0_pay12 (F := Ideal) wg wu H H (ix2 r j) = (∑ k : Fin 1024, H (ix2 r k) * wg (ix4 0 0 k j)) * Ideal.logistic (∑ k : Fin 1024, H (ix2 r k) * wg (ix4 0 0 k j)) * (∑ k : Fin 1024, H (ix2 r k) * wu (ix4 0 0 k j)) := by
    pointwise [k0_pay12, k0_pay11, k0_pay10]
  rw [e]; simp only [hH, hg, hu]; rfl

/-- A piece of the result is the block of `Gout` it is stored at. -/
theorem out_eq (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16)
    (x0 : FVec Ideal S256x1024 .f32) (A : FVec Ideal S256x2816 .bf16) (r : Fin 256) (j : Fin 1024) (y : S512x1024.Idx) (hj : j = y 1)
    (hx : ∀ k, x0 (ix2 r k) = X0 (ix2 (y 0) k)) (hA : ∀ k, A (ix2 r k) = Gact X0 X1 X2 X4 (ix2 (y 0) k)) :
    k0_pay62 (F := Ideal) (k0_pay4 X1) A X5 x0 X3 (ix2 r j) = Gout X0 X1 X2 X3 X4 X5 y := by
  have e : k0_pay62 (F := Ideal) (k0_pay4 X1) A X5 x0 X3 (ix2 r j) = outv (fun k => x0 (ix2 r k)) (fun k => X1 (ix3 0 0 ⟨8192 + k, by omega⟩)) (fun k => X3 (ix2 0 k))
      (outRow (fun k => A (ix2 r k)) (fun k j => X5 (ix4 0 0 k j))) j := by
    pointwise [k0_pay62, k0_pay4, k0_pay1, outv, rinv, outRow]
  rw [e]; simp only [hx, hA]; subst hj; rfl

/-- Pieces of `G` that tile a buffer leave it at `G`. -/
theorem canon_of {S : Shape} {e : EltTy} (G : S.Idx → Elt Ideal e) (z : Fin S.rank → Nat) (L : List (View.Piece (Elt Ideal) S e))
    (hL : View.Piece.tiledL L z = true) (hp : View.PiecesOf G L) : View.canon L = G :=
  funext fun y => View.canon_apply_of_pieces _ L hp.mem y (View.cover_of_tiledL L _ hL y)

set_option maxHeartbeats 2000000 in
/-- What a prompt point leaves in the first output. -/
theorem prompt_tile (c : Dev nD) (t : Fin cfg0.N) (h : t.val < 16) : outA m c t h = Gout (iblk m c 0 t) (iblk m c 1 t) (iblk m c 2 t) (iblk m c 3 t) (iblk m c 4 t) (iblk m c 5 t) := by
  have e1 : ∀ L B, scr1.view.readCov (Val := Elt Ideal) L B = _ := fun L B => View.readCov_eq_canon' (Val := Elt Ideal) scr1.view L B
  unfold outA ptA
  frame_open
  simp (disch := decide) only [↓ e1, ↓ View.readCov_skip, ↓ View.readCov_cons_toLoadRect, View.read_writes_junk_eq_canon, View.readAt_eq_ld, View.ld_unit_lit',
        Memref.IsWhole.read_unread]
  rw [canon_of (S := S512x2816) (e := .bf16) (Gact (iblk m c 0 t) (iblk m c 1 t) (iblk m c 2 t) (iblk m c 4 t)) S256x256.size]
  rotate_left
  · sl_kernel_rfl
  · dsimp only [View.PiecesOf]
    refine ⟨?_, ?_, ?_, ?_, ?_, ?_, ?_, ?_, ?_, ?_, ?_, ?_, ?_, ?_, ?_, ?_, ?_, ?_, ?_, ?_, ?_, ?_, trivial⟩
    all_goals (intro x; refine tile_eq _ _ _ _ _ _ _ (x 0) (x 1) _ ?_ ?_ ?_)
    all_goals intro k
    all_goals first | refine h0_row _ _ _ _ _ _ ?_ k; intro k | refine h1_row _ _ _ _ _ _ ?_ k; intro k | skip
    all_goals (refine View.ld_unit_apply_of _ _ _ _ _ _ fun a => ?_)
    all_goals (fin_cases a <;> simp [ValueKit.rect_emb_unit_val] <;> omega)
  · apply canon_of (S := S512x1024) (e := .f32) _ S256x1024.size
    · sl_kernel_rfl
    · dsimp only [View.PiecesOf]
      refine ⟨?_, ?_, trivial⟩
      all_goals (intro x; refine (congrArg _ (show x = ix2 (x 0) (x 1) from funext fun a => by fin_cases a <;> rfl)).trans (out_eq _ _ _ _ _ _ _ _ (x 0) (x 1) _ ?_ (fun k => ?_) (fun k => ?_)))
      all_goals first
        | (refine View.ld_unit_apply_of _ _ _ _ _ _ fun a => ?_; fin_cases a <;> simp [ValueKit.rect_emb_unit_val])
        | (refine congrArg (Gact _ _ _ _) (funext fun a => Fin.ext ?_); fin_cases a <;> simp [ValueKit.rect_emb_unit_val, LoadRect.idx])
        | (apply Fin.ext; simp [ValueKit.rect_emb_unit_val])

set_option maxHeartbeats 2000000 in
/-- What a sample point leaves in the second output. -/
theorem sample_tile (c : Dev nD) (t : Fin cfg0.N) (h : ¬t.val < 16) : outB m c t h = Gout (iblk m c 0 t) (iblk m c 1 t) (iblk m c 2 t) (iblk m c 3 t) (iblk m c 4 t) (iblk m c 5 t) := by
  have e1 : ∀ L B, scr1.view.readCov (Val := Elt Ideal) L B = _ := fun L B => View.readCov_eq_canon' (Val := Elt Ideal) scr1.view L B
  unfold outB ptB
  frame_open
  simp (disch := decide) only [↓ e1, ↓ View.readCov_skip, ↓ View.readCov_cons_toLoadRect, View.read_writes_junk_eq_canon, View.readAt_eq_ld, View.ld_unit_lit',
        Memref.IsWhole.read_unread]
  rw [canon_of (S := S512x2816) (e := .bf16) (Gact (iblk m c 0 t) (iblk m c 1 t) (iblk m c 2 t) (iblk m c 4 t)) S256x256.size]
  rotate_left
  · sl_kernel_rfl
  · dsimp only [View.PiecesOf]
    refine ⟨?_, ?_, ?_, ?_, ?_, ?_, ?_, ?_, ?_, ?_, ?_, ?_, ?_, ?_, ?_, ?_, ?_, ?_, ?_, ?_, ?_, ?_, trivial⟩
    all_goals (intro x; refine tile_eq _ _ _ _ _ _ _ (x 0) (x 1) _ ?_ ?_ ?_)
    all_goals intro k
    all_goals first | refine h0_row _ _ _ _ _ _ ?_ k; intro k | refine h1_row _ _ _ _ _ _ ?_ k; intro k | skip
    all_goals (refine View.ld_unit_apply_of _ _ _ _ _ _ fun a => ?_)
    all_goals (fin_cases a <;> simp [ValueKit.rect_emb_unit_val] <;> omega)
  · apply canon_of (S := S512x1024) (e := .f32) _ S256x1024.size
    · sl_kernel_rfl
    · dsimp only [View.PiecesOf]
      refine ⟨?_, ?_, trivial⟩
      all_goals (intro x; refine (congrArg _ (show x = ix2 (x 0) (x 1) from funext fun a => by fin_cases a <;> rfl)).trans (out_eq _ _ _ _ _ _ _ _ (x 0) (x 1) _ ?_ (fun k => ?_) (fun k => ?_)))
      all_goals first
        | (refine View.ld_unit_apply_of _ _ _ _ _ _ fun a => ?_; fin_cases a <;> simp [ValueKit.rect_emb_unit_val])
        | (refine congrArg (Gact _ _ _ _) (funext fun a => Fin.ext ?_); fin_cases a <;> simp [ValueKit.rect_emb_unit_val, LoadRect.idx])
        | (apply Fin.ext; simp [ValueKit.rect_emb_unit_val])

/-- The prompt's result, an entry at a time. -/
def Gp (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) (i : Fin 8192) (j : Fin 1024) : EReal :=
  rowOut (fun k => A0 (ix2 ⟨i, by omega⟩ k)) (fun k => A1 (ix3 0 0 k)) (fun k => A2 (ix3 3 2 k)) (fun k => A3 (ix3 3 2 k)) (fun k j => A4 (ix4 3 1 k j)) (fun k j => A5 (ix4 3 1 k j)) j

/-- The samples' result, an entry at a time. -/
def Gs (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) (i : Fin 8192) (j : Fin 1024) : EReal :=
  rowOut (fun k => A0 (ix2 ⟨8192 + i, by omega⟩ k)) (fun k => A1 (ix3 ⟨1 + i / 2048, by omega⟩ 0 k)) (fun k => A2 (ix3 3 2 k)) (fun k => A3 (ix3 3 2 k)) (fun k j => A4 (ix4 3 1 k j)) (fun k j => A5 (ix4 3 1 k j)) j

end Cert.Kernel5Ideal.Value
end
-- ==== Proof.FfsB.lean ====
module

public import proofs.«01_k».proof.Proof.FfsA
public import proofs.«01_k».proof.Proof.Gen.Reference5Ideal

@[expose] public section

set_option maxRecDepth 100000

noncomputable section

open Idealize.ShloMosaic Idealize.ShloMosaic.TcCoe Idealize.SL.Sem

namespace Cert.Reference5Ideal.Value

open Cert.Reference5Ideal Cert.Reference5Ideal.Gen Cert.Kernel5Ideal.Value
open Cert.Kernel2Ideal.Value (rinv hid act outRow outv)

/-- The prompt of the rows, as the reference shapes them. -/
def XA (A0 : FVec Ideal S16384x1024 .f32) : FVec Ideal S32x256x1024 .f32 := shapeCast _ (extractStridedSlice S8192x1024 ![0, 0] A0 slices_S16384x1024_S8192x1024_0_0) shapeCasts_S8192x1024_S32x256x1024

/-- The prompt's normalised and modulated rows. -/
def HA (XA : FVec Ideal S32x256x1024 .f32) (A1 : FVec Ideal S8x1x9216 .f32) (A2 : FVec Ideal S4x3x1024 .f32) : FVec Ideal S32x256x1024 .f32 := (addf (mulf (mulf (mulf XA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf XA XA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![3, 2, 0] A2 slices_S4x3x1024_S1x1x1024_3_2_0) shapeCasts_S1x1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 7168] (extractStridedSlice S1x1x9216 ![0, 0, 0] A1 slices_S8x1x9216_S1x1x9216_0_0_0) slices_S1x1x9216_S1x1x1024_0_0_7168)))) (broadcastInDim S32x256x1024 ![0, 1, 2] bcast_S1x1x1024_S32x256x1024_0_1_2 (extractStridedSlice S1x1x1024 ![0, 0, 6144] (extractStridedSlice S1x1x9216 ![0, 0, 0] A1 slices_S8x1x9216_S1x1x9216_0_0_0) slices_S1x1x9216_S1x1x1024_0_0_6144)))

/-- The prompt's gate and up columns. -/
def GA (HA : FVec Ideal S32x256x1024 .f32) (A4 : FVec Ideal S4x2x1024x5632 .f32) : FVec Ideal S32x256x5632 .f32 := (Host.dotGeneral dot_S32x256x1024_S1024x5632_S32x256x5632_2_0_01_1_n_n none HA (shapeCast _ (extractStridedSlice S1x1x1024x5632 ![3, 1, 0, 0] A4 slices_S4x2x1024x5632_S1x1x1024x5632_3_1_0_0) shapeCasts_S1x1x1024x5632_S1024x5632))

/-- The prompt's feed-forward rows. -/
def SA (GA : FVec Ideal S32x256x5632 .f32) (A5 : FVec Ideal S4x2x2816x1024 .f32) : FVec Ideal S32x256x1024 .f32 := (Host.dotGeneral dot_S32x256x2816_S2816x1024_S32x256x1024_2_0_01_1_n_n none (mulf (mulf (extractStridedSlice S32x256x2816 ![0, 0, 0] GA slices_S32x256x5632_S32x256x2816_0_0_0) (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf (extractStridedSlice S32x256x2816 ![0, 0, 0] GA slices_S32x256x5632_S32x256x2816_0_0_0)))))) (extractStridedSlice S32x256x2816 ![0, 0, 2816] GA slices_S32x256x5632_S32x256x2816_0_0_2816)) (shapeCast _ (extractStridedSlice S1x1x2816x1024 ![3, 1, 0, 0] A5 slices_S4x2x2816x1024_S1x1x2816x1024_3_1_0_0) shapeCasts_S1x1x2816x1024_S2816x1024))

/-- The prompt's result. -/
def OA (XA SA : FVec Ideal S32x256x1024 .f32) (A1 : FVec Ideal S8x1x9216 .f32) (A3 : FVec Ideal S4x3x1024 .f32) : FVec Ideal S32x256x1024 .f32 := (addf XA (mulf (broadcastInDim S32x256x1024 ![0, 1, 2] bcast_S1x1x1024_S32x256x1024_0_1_2 (mulf (broadcastInDim S1x1x1024 ![] bcast_S_S1x1x1024 (constant S_ .f32 0x3F000000#32)) (extractStridedSlice S1x1x1024 ![0, 0, 8192] (extractStridedSlice S1x1x9216 ![0, 0, 0] A1 slices_S8x1x9216_S1x1x9216_0_0_0) slices_S1x1x9216_S1x1x1024_0_0_8192))) (mulf (mulf SA (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf SA SA) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ (extractStridedSlice S1x1x1024 ![3, 2, 0] A3 slices_S4x3x1024_S1x1x1024_3_2_0) shapeCasts_S1x1x1024_S1024))))))

theorem HA_at (X : FVec Ideal S32x256x1024 .f32) (A1 : FVec Ideal S8x1x9216 .f32) (A2 : FVec Ideal S4x3x1024 .f32) (p : Fin 32) (q : Fin 256) (k : Fin 1024) :
    HA X A1 A2 (ix3 p q k) = hid (fun k => X (ix3 p q k)) (fun k => A2 (ix3 3 2 k)) (fun k => A1 (ix3 0 0 ⟨7168 + k, by omega⟩)) (fun k => A1 (ix3 0 0 ⟨6144 + k, by omega⟩)) k := by
  pointwise [HA, hid, rinv]

theorem GA_at (H : FVec Ideal S32x256x1024 .f32) (A4 : FVec Ideal S4x2x1024x5632 .f32) (p : Fin 32) (q : Fin 256) (j : Fin 5632) :
    GA H A4 (ix3 p q j) = ∑ k : Fin 1024, H (ix3 p q k) * A4 (ix4 3 1 k j) := by
  pointwise [GA]

theorem SA_at (G : FVec Ideal S32x256x5632 .f32) (A5 : FVec Ideal S4x2x2816x1024 .f32) (p : Fin 32) (q : Fin 256) (j : Fin 1024) :
    SA G A5 (ix3 p q j) = outRow (fun j => G (ix3 p q ⟨j, by omega⟩) * Ideal.logistic (G (ix3 p q ⟨j, by omega⟩)) * G (ix3 p q ⟨2816 + j, by omega⟩)) (fun k j => A5 (ix4 3 1 k j)) j := by
  pointwise [SA, outRow, Ideal.logistic]

theorem OA_at (X S : FVec Ideal S32x256x1024 .f32) (A1 : FVec Ideal S8x1x9216 .f32) (A3 : FVec Ideal S4x3x1024 .f32) (p : Fin 32) (q : Fin 256) (j : Fin 1024) :
    OA X S A1 A3 (ix3 p q j) = outv (fun k => X (ix3 p q k)) (fun k => A1 (ix3 0 0 ⟨8192 + k, by omega⟩)) (fun k => A3 (ix3 3 2 k)) (fun k => S (ix3 p q k)) j := by
  pointwise [OA, outv, rinv]

theorem rowA (X : FVec Ideal S32x256x1024 .f32) (A1 : FVec Ideal S8x1x9216 .f32) (A2 : FVec Ideal S4x3x1024 .f32) (A3 : FVec Ideal S4x3x1024 .f32) (A4 : FVec Ideal S4x2x1024x5632 .f32) (A5 : FVec Ideal S4x2x2816x1024 .f32) (p : Fin 32) (q : Fin 256) (j : Fin 1024) :
    OA X (SA (GA (HA X A1 A2) A4) A5) A1 A3 (ix3 p q j) =
      rowOut (fun k => X (ix3 p q k)) (fun k => A1 (ix3 0 0 k)) (fun k => A2 (ix3 3 2 k)) (fun k => A3 (ix3 3 2 k)) (fun k j => A4 (ix4 3 1 k j)) (fun k j => A5 (ix4 3 1 k j)) j := by
  rw [OA_at]; simp only [SA_at, GA_at, HA_at]; rfl
/-- The samples of the rows, as the reference shapes them. -/
def XB (A0 : FVec Ideal S16384x1024 .f32) : FVec Ideal S4x2048x1024 .f32 := shapeCast _ (extractStridedSlice S8192x1024 ![8192, 0] A0 slices_S16384x1024_S8192x1024_8192_0) shapeCasts_S8192x1024_S4x2048x1024

/-- The samples's normalised and modulated rows. -/
def HB (XB : FVec Ideal S4x2048x1024 .f32) (A1 : FVec Ideal S8x1x9216 .f32) (A2 : FVec Ideal S4x3x1024 .f32) : FVec Ideal S4x2048x1024 .f32 := (addf (mulf (mulf (mulf XB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf XB XB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![3, 2, 0] A2 slices_S4x3x1024_S1x1x1024_3_2_0) shapeCasts_S1x1x1024_S1024)))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 7168] (extractStridedSlice S4x1x9216 ![1, 0, 0] A1 slices_S8x1x9216_S4x1x9216_1_0_0) slices_S4x1x9216_S4x1x1024_0_0_7168)))) (broadcastInDim S4x2048x1024 ![0, 1, 2] bcast_S4x1x1024_S4x2048x1024_0_1_2 (extractStridedSlice S4x1x1024 ![0, 0, 6144] (extractStridedSlice S4x1x9216 ![1, 0, 0] A1 slices_S8x1x9216_S4x1x9216_1_0_0) slices_S4x1x9216_S4x1x1024_0_0_6144)))

/-- The samples's gate and up columns. -/
def GB (HB : FVec Ideal S4x2048x1024 .f32) (A4 : FVec Ideal S4x2x1024x5632 .f32) : FVec Ideal S4x2048x5632 .f32 := (Host.dotGeneral dot_S4x2048x1024_S1024x5632_S4x2048x5632_2_0_01_1_n_n none HB (shapeCast _ (extractStridedSlice S1x1x1024x5632 ![3, 1, 0, 0] A4 slices_S4x2x1024x5632_S1x1x1024x5632_3_1_0_0) shapeCasts_S1x1x1024x5632_S1024x5632))

/-- The samples's feed-forward rows. -/
def SB (GB : FVec Ideal S4x2048x5632 .f32) (A5 : FVec Ideal S4x2x2816x1024 .f32) : FVec Ideal S4x2048x1024 .f32 := (Host.dotGeneral dot_S4x2048x2816_S2816x1024_S4x2048x1024_2_0_01_1_n_n none (mulf (mulf (extractStridedSlice S4x2048x2816 ![0, 0, 0] GB slices_S4x2048x5632_S4x2048x2816_0_0_0) (Host.divf (broadcastInDim S4x2048x2816 ![] bcast_S_S4x2048x2816 (constant S_ .f32 0x3F800000#32)) (addf (broadcastInDim S4x2048x2816 ![] bcast_S_S4x2048x2816 (constant S_ .f32 0x3F800000#32)) (Host.exp (Host.negf (extractStridedSlice S4x2048x2816 ![0, 0, 0] GB slices_S4x2048x5632_S4x2048x2816_0_0_0)))))) (extractStridedSlice S4x2048x2816 ![0, 0, 2816] GB slices_S4x2048x5632_S4x2048x2816_0_0_2816)) (shapeCast _ (extractStridedSlice S1x1x2816x1024 ![3, 1, 0, 0] A5 slices_S4x2x2816x1024_S1x1x2816x1024_3_1_0_0) shapeCasts_S1x1x2816x1024_S2816x1024))

/-- The samples's result. -/
def OB (XB SB : FVec Ideal S4x2048x1024 .f32) (A1 : FVec Ideal S8x1x9216 .f32) (A3 : FVec Ideal S4x3x1024 .f32) : FVec Ideal S4x2048x1024 .f32 := (addf XB (mulf (broadcastInDim S4x2048x1024 ![0, 1, 2] bcast_S4x1x1024_S4x2048x1024_0_1_2 (mulf (broadcastInDim S4x1x1024 ![] bcast_S_S4x1x1024 (constant S_ .f32 0x3F000000#32)) (extractStridedSlice S4x1x1024 ![0, 0, 8192] (extractStridedSlice S4x1x9216 ![1, 0, 0] A1 slices_S8x1x9216_S4x1x9216_1_0_0) slices_S4x1x9216_S4x1x1024_0_0_8192))) (mulf (mulf SB (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf SB SB) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ (extractStridedSlice S1x1x1024 ![3, 2, 0] A3 slices_S4x3x1024_S1x1x1024_3_2_0) shapeCasts_S1x1x1024_S1024))))))

theorem HB_at (X : FVec Ideal S4x2048x1024 .f32) (A1 : FVec Ideal S8x1x9216 .f32) (A2 : FVec Ideal S4x3x1024 .f32) (p : Fin 4) (q : Fin 2048) (k : Fin 1024) :
    HB X A1 A2 (ix3 p q k) = hid (fun k => X (ix3 p q k)) (fun k => A2 (ix3 3 2 k)) (fun k => A1 (ix3 ⟨1 + p, by omega⟩ 0 ⟨7168 + k, by omega⟩)) (fun k => A1 (ix3 ⟨1 + p, by omega⟩ 0 ⟨6144 + k, by omega⟩)) k := by
  pointwise [HB, hid, rinv]

theorem GB_at (H : FVec Ideal S4x2048x1024 .f32) (A4 : FVec Ideal S4x2x1024x5632 .f32) (p : Fin 4) (q : Fin 2048) (j : Fin 5632) :
    GB H A4 (ix3 p q j) = ∑ k : Fin 1024, H (ix3 p q k) * A4 (ix4 3 1 k j) := by
  pointwise [GB]

theorem SB_at (G : FVec Ideal S4x2048x5632 .f32) (A5 : FVec Ideal S4x2x2816x1024 .f32) (p : Fin 4) (q : Fin 2048) (j : Fin 1024) :
    SB G A5 (ix3 p q j) = outRow (fun j => G (ix3 p q ⟨j, by omega⟩) * Ideal.logistic (G (ix3 p q ⟨j, by omega⟩)) * G (ix3 p q ⟨2816 + j, by omega⟩)) (fun k j => A5 (ix4 3 1 k j)) j := by
  pointwise [SB, outRow, Ideal.logistic]

theorem OB_at (X S : FVec Ideal S4x2048x1024 .f32) (A1 : FVec Ideal S8x1x9216 .f32) (A3 : FVec Ideal S4x3x1024 .f32) (p : Fin 4) (q : Fin 2048) (j : Fin 1024) :
    OB X S A1 A3 (ix3 p q j) = outv (fun k => X (ix3 p q k)) (fun k => A1 (ix3 ⟨1 + p, by omega⟩ 0 ⟨8192 + k, by omega⟩)) (fun k => A3 (ix3 3 2 k)) (fun k => S (ix3 p q k)) j := by
  pointwise [OB, outv, rinv]

theorem rowB (X : FVec Ideal S4x2048x1024 .f32) (A1 : FVec Ideal S8x1x9216 .f32) (A2 : FVec Ideal S4x3x1024 .f32) (A3 : FVec Ideal S4x3x1024 .f32) (A4 : FVec Ideal S4x2x1024x5632 .f32) (A5 : FVec Ideal S4x2x2816x1024 .f32) (p : Fin 4) (q : Fin 2048) (j : Fin 1024) :
    OB X (SB (GB (HB X A1 A2) A4) A5) A1 A3 (ix3 p q j) =
      rowOut (fun k => X (ix3 p q k)) (fun k => A1 (ix3 ⟨1 + p, by omega⟩ 0 k)) (fun k => A2 (ix3 3 2 k)) (fun k => A3 (ix3 3 2 k)) (fun k j => A4 (ix4 3 1 k j)) (fun k j => A5 (ix4 3 1 k j)) j := by
  rw [OB_at]; simp only [SB_at, GB_at, HB_at]; rfl

/-- The reference's two results. -/
def refP (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) : FVec Ideal S32x256x1024 .f32 :=
  OA (XA A0) (SA (GA (HA (XA A0) A1 A2) A4) A5) A1 A3
def refS (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) : FVec Ideal S4x2048x1024 .f32 :=
  OB (XB A0) (SB (GB (HB (XB A0) A1 A2) A4) A5) A1 A3

theorem refP_at (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) (p : Fin 32) (q : Fin 256) (j : Fin 1024) :
    refP A0 A1 A2 A3 A4 A5 (ix3 p q j) = Gp A0 A1 A2 A3 A4 A5 ⟨p * 256 + q, by omega⟩ j := by
  refine (rowA _ A1 A2 A3 A4 A5 p q j).trans ?_
  unfold Gp
  congr 1
  funext k
  pointwise [XA]

theorem refS_at (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) (p : Fin 4) (q : Fin 2048) (j : Fin 1024) :
    refS A0 A1 A2 A3 A4 A5 (ix3 p q j) = Gs A0 A1 A2 A3 A4 A5 ⟨p * 2048 + q, by omega⟩ j := by
  refine (rowB _ A1 A2 A3 A4 A5 p q j).trans ?_
  unfold Gs
  have e : (⟨1 + ((⟨p * 2048 + q, by omega⟩ : Fin 8192) : ℕ) / 2048, by omega⟩ : Fin 8) = ⟨1 + p, by omega⟩ := Fin.ext (by show 1 + (p * 2048 + q : ℕ) / 2048 = 1 + p; omega)
  rw [e]
  congr 1
  funext k
  pointwise [XB]

end Cert.Reference5Ideal.Value
end
-- ==== Proof.FfsC.lean ====
module

public import proofs.«01_k».proof.Proof.FfsA
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Kernel5Ideal.Split

variable (m : (ℓ : Loc nD τ sig) → Buf (Elt Ideal) ℓ)

/-- Where each window's block lies at a grid point. -/
theorem idx : ∀ t : Fin cfg0.N, win0_0.index t = ![t.val, 0] ∧ win0_1.index t = ![if t.val < 16 then 0 else 1 + (t.val - 16) / 4, 0, 0] ∧ win0_2.index t = ![0, 0] ∧
    win0_3.index t = ![0, 0] ∧ win0_4.index t = ![3, 1, 0, 0] ∧ win0_5.index t = ![3, 1, 0, 0] ∧ win0_6.index t = ![min t.val 15, 0] ∧ win0_7.index t = ![t.val - 16, 0] ∧ t.val < 32 :=
  (by decide +kernel : ∀ t : Fin grid0.N, _)

theorem lt32 (t : Fin cfg0.N) : t.val < 32 := (idx t).2.2.2.2.2.2.2.2

theorem blk0 (c : Dev nD) (t : Fin cfg0.N) (r : Fin 512) (k : Fin 1024) : iblk m c 0 t (ix2 r k) = m ((c.tc : Thread nD τ).loc main_arg0) (ix2 ⟨t.val * 512 + r, by have := lt32 t; omega⟩ k) := by
  blk_ext [iblk, V, V0, idx t]

theorem blk1 (c : Dev nD) (t : Fin cfg0.N) (k : Fin 9216) : iblk m c 1 t (ix3 0 0 k) = m ((c.tc : Thread nD τ).loc main_arg1) (ix3 ⟨if t.val < 16 then 0 else 1 + (t.val - 16) / 4, by have := lt32 t; split <;> omega⟩ 0 k) := by
  blk_ext [iblk, V, V0, idx t]

theorem blk2 (c : Dev nD) (t : Fin cfg0.N) (k : Fin 1024) : iblk m c 2 t (ix2 0 k) = m ((c.tc : Thread nD τ).loc main_arg2) (ix3 3 2 k) := by
  trans V m c main_v2 (ix2 0 k)
  · blk_ext [iblk, idx t]
  · simp only [V, V0, List.flatten_cons, List.flatten_nil, List.append_nil]; entry_read; pointwise

theorem blk3 (c : Dev nD) (t : Fin cfg0.N) (k : Fin 1024) : iblk m c 3 t (ix2 0 k) = m ((c.tc : Thread nD τ).loc main_arg3) (ix3 3 2 k) := by
  trans V m c main_v5 (ix2 0 k)
  · blk_ext [iblk, idx t]
  · simp only [V, V0, List.flatten_cons, List.flatten_nil, List.append_nil]; entry_read; pointwise

theorem blk4 (c : Dev nD) (t : Fin cfg0.N) (k : Fin 1024) (j : Fin 5632) : iblk m c 4 t (ix4 0 0 k j) = m ((c.tc : Thread nD τ).loc main_arg4) (ix4 3 1 k j) := by
  blk_ext [iblk, V, V0, idx t]

theorem blk5 (c : Dev nD) (t : Fin cfg0.N) (k : Fin 2816) (j : Fin 1024) : iblk m c 5 t (ix4 0 0 k j) = m ((c.tc : Thread nD τ).loc main_arg5) (ix4 3 1 k j) := by
  trans V m c main_v6 (ix4 3 1 k j)
  · blk_ext [iblk, idx t]
  · simp only [V, V0, List.flatten_cons, List.flatten_nil, List.append_nil]; entry_read; pointwise

/-- The two result arrays, two-dimensional. -/
def arrP (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) : FVec Ideal S8192x1024 .f32 :=
  fun y => Gp A0 A1 A2 A3 A4 A5 (y 0) (y 1)
def arrS (A0 : FVec Ideal S16384x1024 .f32) (A1 : FVec Ideal S8x1x9216 .f32) (A2 A3 : FVec Ideal S4x3x1024 .f32) (A4 : FVec Ideal S4x2x1024x5632 .f32) (A5 : FVec Ideal S4x2x2816x1024 .f32) : FVec Ideal S8192x1024 .f32 :=
  fun y => Gs A0 A1 A2 A3 A4 A5 (y 0) (y 1)

/-- A prompt point's block of the first result. -/
theorem prompt_at (c : Dev nD) (t : Fin cfg0.N) (h : t.val < 16) (r : Fin 512) (j : Fin 1024) : outA m c t h (ix2 r j) =
    arrP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 ⟨t.val * 512 + r, by omega⟩ j) := by
  rw [prompt_tile]
  show rowOut (fun k => iblk m c 0 t (ix2 r k)) (fun k => iblk m c 1 t (ix3 0 0 k)) (fun k => iblk m c 2 t (ix2 0 k)) (fun k => iblk m c 3 t (ix2 0 k)) (fun k j => iblk m c 4 t (ix4 0 0 k j)) (fun k j => iblk m c 5 t (ix4 0 0 k j)) j = _
  simp only [blk0, blk1, blk2, blk3, blk4, blk5, if_pos h]
  rfl

/-- A sample point's block of the second result. -/
theorem sample_at (c : Dev nD) (t : Fin cfg0.N) (h : ¬t.val < 16) (r : Fin 512) (j : Fin 1024) : outB m c t h (ix2 r j) =
    arrS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 ⟨(t.val - 16) * 512 + r, by have := lt32 t; omega⟩ j) := by
  rw [sample_tile]
  show rowOut (fun k => iblk m c 0 t (ix2 r k)) (fun k => iblk m c 1 t (ix3 0 0 k)) (fun k => iblk m c 2 t (ix2 0 k)) (fun k => iblk m c 3 t (ix2 0 k)) (fun k j => iblk m c 4 t (ix4 0 0 k j)) (fun k j => iblk m c 5 t (ix4 0 0 k j)) j = _
  simp only [blk0, blk1, blk2, blk3, blk4, blk5, if_neg h]
  have hb := lt32 t
  show _ = Gs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨(t.val - 16) * 512 + r, by omega⟩ j
  unfold Gs
  have e0 : (⟨t.val * 512 + r, by omega⟩ : Fin 16384) = ⟨8192 + ((⟨(t.val - 16) * 512 + r, by omega⟩ : Fin 8192) : ℕ), by omega⟩ := Fin.ext (by show t.val * 512 + (r : ℕ) = 8192 + ((t.val - 16) * 512 + r); omega)
  have e1 : (⟨1 + (t.val - 16) / 4, by omega⟩ : Fin 8) = ⟨1 + ((⟨(t.val - 16) * 512 + r, by omega⟩ : Fin 8192) : ℕ) / 2048, by omega⟩ := Fin.ext (by show 1 + (t.val - 16) / 4 = 1 + ((t.val - 16) * 512 + (r : ℕ)) / 2048; omega)
  rw [e0, e1]

/-- The two result arrays after the run. -/
theorem final6 (c : Dev nD) : (dats m 0 c).arrAt 6 (cfgs 0).N = arrP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [aft6]
  refine (congrArg (o6 m c t) (show y = ix2 (y 0) (y 1) from funext fun a => by fin_cases a <;> rfl)).trans ((prompt_at m c _ _ (y 0) (y 1)).trans (congrArg _ ?_))
  blk_ext [idx t]

theorem final7 (c : Dev nD) : (dats m 0 c).arrAt 7 (cfgs 0).N = arrS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  have h : ¬t.val < 16 := of_decide_eq_true ((flush7 t).symm.trans hf)
  blk_simp
  rw [aft7, o7_eq m c t h]
  refine (congrArg (outB m c t h) (show y = ix2 (y 0) (y 1) from funext fun a => by fin_cases a <;> rfl)).trans ((sample_at m c t h (y 0) (y 1)).trans (congrArg _ ?_))
  blk_ext [idx t]

end Cert.Kernel5Ideal.Value
end
-- ==== Proof.FfsP.lean ====
module

public import proofs.«01_k».proof.Defs
public import proofs.«01_k».proof.Proof.FfsB
public import proofs.«01_k».proof.Proof.FfsC
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The two results of the kernel, three-dimensional. -/
def splitP (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S32x256x1024 .f32 :=
  shapeCast Cert.Kernel5Ideal.S32x256x1024 (Cert.Kernel5Ideal.Value.arrP (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) Cert.Kernel5Ideal.Facts₀.shapeCasts_S8192x1024_S32x256x1024
def splitS (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S4x2048x1024 .f32 :=
  shapeCast Cert.Kernel5Ideal.S4x2048x1024 (Cert.Kernel5Ideal.Value.arrS (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) Cert.Kernel5Ideal.Facts₀.shapeCasts_S8192x1024_S4x2048x1024

theorem tail8 (m : (ℓ : Loc Cert.Kernel5Ideal.nD Cert.Kernel5Ideal.τ Cert.Kernel5Ideal.sig) → Buf (Elt Ideal) ℓ) (c : Dev Cert.Kernel5Ideal.nD) :
    Pipeline.afterTail₀ Cert.Kernel5Ideal.cfgs (Cert.Kernel5Ideal.Split.dats m) 0 (Cert.Kernel5Ideal.Gen.V0 m) [Cert.Kernel5Ideal.Gen.hostOps1] c Cert.Kernel5Ideal.main_v8 = splitP m c := by
  unfold Pipeline.afterTail₀ splitP
  simp only [List.flatten_cons, List.flatten_nil, List.append_nil]
  after_results
  rw [← Cert.Kernel5Ideal.Value.final6 m c]
  exact congrArg (fun A => shapeCast Cert.Kernel5Ideal.S32x256x1024 A Cert.Kernel5Ideal.Facts₀.shapeCasts_S8192x1024_S32x256x1024) (Pipeline.withArrays_arr Cert.Kernel5Ideal.spec0 (by decide +kernel) c _ _ 6)

theorem tail9 (m : (ℓ : Loc Cert.Kernel5Ideal.nD Cert.Kernel5Ideal.τ Cert.Kernel5Ideal.sig) → Buf (Elt Ideal) ℓ) (c : Dev Cert.Kernel5Ideal.nD) :
    Pipeline.afterTail₀ Cert.Kernel5Ideal.cfgs (Cert.Kernel5Ideal.Split.dats m) 0 (Cert.Kernel5Ideal.Gen.V0 m) [Cert.Kernel5Ideal.Gen.hostOps1] c Cert.Kernel5Ideal.main_v9 = splitS m c := by
  unfold Pipeline.afterTail₀ splitS
  simp only [List.flatten_cons, List.flatten_nil, List.append_nil]
  after_results
  rw [← Cert.Kernel5Ideal.Value.final7 m c]
  exact congrArg (fun A => shapeCast Cert.Kernel5Ideal.S4x2048x1024 A Cert.Kernel5Ideal.Facts₀.shapeCasts_S8192x1024_S4x2048x1024) (Pipeline.withArrays_arr Cert.Kernel5Ideal.spec0 (by decide +kernel) c _ _ 7)

/-- The kernel's results, and its arguments unchanged. -/
theorem launch_split (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v8) = splitP m c ∧ r.2.mem ((c.tc : Thread Cert.Kernel5Ideal.nD Cert.Kernel5Ideal.τ).loc Cert.Kernel5Ideal.main_v9) = splitS m c ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)) :=
  (θ_run _ _ _).mono (fun r h c => ⟨((h.1 c).2 Cert.Kernel5Ideal.main_v8 (Pipeline.mem_restRefs_of Cert.Kernel5Ideal.main_v8 (by decide) (by decide))).trans (tail8 m c),
    ((h.1 c).2 Cert.Kernel5Ideal.main_v9 (Pipeline.mem_restRefs_of Cert.Kernel5Ideal.main_v9 (by decide) (by decide))).trans (tail9 m c), h.2.1 c⟩)
    (θ_run_and (Cert.Kernel5Ideal.Split.run_main m g) (Cert.Kernel5Ideal.Split.frame m g))

set_option maxHeartbeats 8000000 in
/-- The reference's results, and its arguments unchanged. -/
theorem halves_run (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => ∀ c : Dev Cert.Reference5Ideal.nD,
      r.2.mem ((c.tc : Thread Cert.Reference5Ideal.nD Cert.Reference5Ideal.τ).loc Cert.Reference5Ideal.main_v59) = Cert.Reference5Ideal.Value.refP (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_v113) = Cert.Reference5Ideal.Value.refS (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)) := by
  hlo_run
  all_goals rfl

theorem frame_ffns : Cert.quiescent_Reference5Ideal (hReference5Ideal := Cert.Reference5Ideal.Gen.facts) := fun m g _ =>
  (θ_run _ _ _).mono (fun r h => ⟨fun c => (h c).2.2, sem_eq_zero_of_no_sems (by decide) _⟩) (halves_run m g)

/-- The two sides' results agree. -/
theorem same_P (m : (ℓ : Loc Cert.Kernel5Ideal.nD Cert.Kernel5Ideal.τ Cert.Kernel5Ideal.sig) → Buf (Elt Ideal) ℓ) (c : Dev Cert.Kernel5Ideal.nD) : Cert.Reference5Ideal.Value.refP (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) = splitP m c := by
  funext y
  rw [show y = ix3 (y 0) (y 1) (y 2) from funext fun a => by fin_cases a <;> rfl]
  refine (Cert.Reference5Ideal.Value.refP_at _ _ _ _ _ _ (y 0) (y 1) (y 2)).trans ?_
  unfold splitP
  pointwise
  rfl
theorem same_S (m : (ℓ : Loc Cert.Kernel5Ideal.nD Cert.Kernel5Ideal.τ Cert.Kernel5Ideal.sig) → Buf (Elt Ideal) ℓ) (c : Dev Cert.Kernel5Ideal.nD) : Cert.Reference5Ideal.Value.refS (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) = splitS m c := by
  funext y
  rw [show y = ix3 (y 0) (y 1) (y 2) from funext fun a => by fin_cases a <;> rfl]
  refine (Cert.Reference5Ideal.Value.refS_at _ _ _ _ _ _ (y 0) (y 1) (y 2)).trans ?_
  unfold splitS
  pointwise
  rfl

theorem algebraic_ffns : Cert.algebraic_Kernel5Ideal_Reference5Ideal (hKernel5Ideal := Cert.Kernel5Ideal.Gen.facts) (hReference5Ideal := Cert.Reference5Ideal.Gen.facts) := fun m g m' g' _ hagree =>
  ⟨splitP m, splitS m, launch_split m g, (θ_run _ _ _).mono (fun r h c => by
    obtain ⟨h0, h1, h2, h3, h4, h5⟩ := hagree c
    obtain ⟨r0, r1, k⟩ := h c
    refine ⟨r0.trans ?_, r1.trans ?_, k⟩
    · rw [h0, h1, h2, h3, h4, h5]; exact same_P m c
    · rw [h0, h1, h2, h3, h4, h5]; exact same_S m c) (halves_run m' g')⟩

end Cert.Proof
end
-- ==== Proof.RowB.lean ====
module

public import proofs.«01_k».proof.Proof.FfnA
public import proofs.«01_k».proof.Reference7Ideal
public import proofs.«01_k».proof.Proof.Gen.Reference7Ideal

@[expose] public section

set_option maxRecDepth 100000

noncomputable section

open Idealize.ShloMosaic Idealize.ShloMosaic.TcCoe Idealize.SL.Sem

namespace Cert.Reference7Ideal.Rows

open Cert.Reference7Ideal Cert.Reference7Ideal.Gen
open Cert.Kernel2Ideal.Value (rinv hid act outRow outv)

/-- A sublayer's residual row: its result is normalised, scaled by its gain and by `w` times its gate, and added to its input. -/
def outw (w : BitVec 32) (x gate gq o : Fin 1024 → EReal) (j : Fin 1024) : EReal :=
  x j + Ideal.ofBits .f32 w * gate j * (o j * rinv o * gq j)

/-- The prompt's rows, normalised and modulated. -/
def PreA (X : FVec Ideal S32x256x1024 .f32) (g : FVec Ideal S1x1x1024 .f32) (sc sh : FVec Ideal S1x1x1024 .f32) : FVec Ideal S32x256x1024 .f32 := addf (mulf (mulf (mulf X (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf X X) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1x1024_S1024)))) (broadcastInDim S32x256x1024 ![0, 1, 2] bcast_S1x1x1024_S32x256x1024_0_1_2 (addf (broadcastInDim S1x1x1024 ![] bcast_S_S1x1x1024 (constant S_ .f32 0x3F800000#32)) sc))) (broadcastInDim S32x256x1024 ![0, 1, 2] bcast_S1x1x1024_S32x256x1024_0_1_2 sh)

/-- Their gate and up columns. -/
def GateA (H : FVec Ideal S32x256x1024 .f32) (W : FVec Ideal S1x1x1024x5632 .f32) : FVec Ideal S32x256x5632 .f32 := Host.dotGeneral dot_S32x256x1024_S1024x5632_S32x256x5632_2_0_01_1_n_n none H (shapeCast _ W shapeCasts_S1x1x1024x5632_S1024x5632)

/-- Their feed-forward rows. -/
def SwiA (G : FVec Ideal S32x256x5632 .f32) (W : FVec Ideal S1x1x2816x1024 .f32) : FVec Ideal S32x256x1024 .f32 := Host.dotGeneral dot_S32x256x2816_S2816x1024_S32x256x1024_2_0_01_1_n_n none (mulf (mulf (extractStridedSlice S32x256x2816 ![0, 0, 0] G slices_S32x256x5632_S32x256x2816_0_0_0) (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf (extractStridedSlice S32x256x2816 ![0, 0, 0] G slices_S32x256x5632_S32x256x2816_0_0_0)))))) (extractStridedSlice S32x256x2816 ![0, 0, 2816] G slices_S32x256x5632_S32x256x2816_0_0_2816)) (shapeCast _ W shapeCasts_S1x1x2816x1024_S2816x1024)

/-- A sublayer's result added to its rows. -/
def ResA (X S : FVec Ideal S32x256x1024 .f32) (w : BitVec 32) (gate : FVec Ideal S1x1x1024 .f32) (g : FVec Ideal S1x1x1024 .f32) : FVec Ideal S32x256x1024 .f32 := addf X (mulf (broadcastInDim S32x256x1024 ![0, 1, 2] bcast_S1x1x1024_S32x256x1024_0_1_2 (mulf (broadcastInDim S1x1x1024 ![] bcast_S_S1x1x1024 (constant S_ .f32 w)) gate)) (mulf (mulf S (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf S S) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1x1024_S1024)))))

/-- The feed-forward sublayer. -/
def FfA (X : FVec Ideal S32x256x1024 .f32) (sh sc gate : FVec Ideal S1x1x1024 .f32) (g gq : FVec Ideal S1x1x1024 .f32) (W : FVec Ideal S1x1x1024x5632 .f32) (Wo : FVec Ideal S1x1x2816x1024 .f32) : FVec Ideal S32x256x1024 .f32 :=
  ResA X (SwiA (GateA (PreA X g sc sh) W) Wo) 0x3F000000#32 gate gq

theorem PreA_at (X : FVec Ideal S32x256x1024 .f32) (g : FVec Ideal S1x1x1024 .f32) (sc sh : FVec Ideal S1x1x1024 .f32) (p : Fin 32) (q : Fin 256) (k : Fin 1024) :
    PreA X g sc sh (ix3 p q k) = hid (fun k => X (ix3 p q k)) (fun k => g (ix3 0 0 k)) (fun k => sc (ix3 0 0 k)) (fun k => sh (ix3 0 0 k)) k := by
  pointwise [PreA, hid, rinv]

theorem GateA_at (H : FVec Ideal S32x256x1024 .f32) (W : FVec Ideal S1x1x1024x5632 .f32) (p : Fin 32) (q : Fin 256) (j : Fin 5632) :
    GateA H W (ix3 p q j) = ∑ k : Fin 1024, H (ix3 p q k) * W (ix4 0 0 k j) := by
  pointwise [GateA]

theorem SwiA_at (G : FVec Ideal S32x256x5632 .f32) (W : FVec Ideal S1x1x2816x1024 .f32) (p : Fin 32) (q : Fin 256) (j : Fin 1024) :
    SwiA G W (ix3 p q j) = outRow (fun j => G (ix3 p q ⟨j, by omega⟩) * Ideal.logistic (G (ix3 p q ⟨j, by omega⟩)) * G (ix3 p q ⟨2816 + j, by omega⟩)) (fun k j => W (ix4 0 0 k j)) j := by
  pointwise [SwiA, outRow, Ideal.logistic]

theorem ResA_at (X S : FVec Ideal S32x256x1024 .f32) (w : BitVec 32) (gate : FVec Ideal S1x1x1024 .f32) (g : FVec Ideal S1x1x1024 .f32) (p : Fin 32) (q : Fin 256) (j : Fin 1024) :
    ResA X S w gate g (ix3 p q j) = outw w (fun k => X (ix3 p q k)) (fun k => gate (ix3 0 0 k)) (fun k => g (ix3 0 0 k)) (fun k => S (ix3 p q k)) j := by
  pointwise [ResA, outw, rinv]

theorem FfA_at (X : FVec Ideal S32x256x1024 .f32) (sh sc gate : FVec Ideal S1x1x1024 .f32) (g gq : FVec Ideal S1x1x1024 .f32) (W : FVec Ideal S1x1x1024x5632 .f32) (Wo : FVec Ideal S1x1x2816x1024 .f32) (p : Fin 32) (q : Fin 256) (j : Fin 1024) :
    FfA X sh sc gate g gq W Wo (ix3 p q j) =
      outv (fun k => X (ix3 p q k)) (fun k => gate (ix3 0 0 k)) (fun k => gq (ix3 0 0 k)) (outRow (act (hid (fun k => X (ix3 p q k)) (fun k => g (ix3 0 0 k)) (fun k => sc (ix3 0 0 k)) (fun k => sh (ix3 0 0 k))) (fun k j => W (ix4 0 0 k j))) (fun k j => Wo (ix4 0 0 k j))) j := by
  unfold FfA
  rw [ResA_at]; simp only [SwiA_at, GateA_at, PreA_at]; rfl

/-- The samples' rows, normalised and modulated. -/
def PreB (X : FVec Ideal S4x2048x1024 .f32) (g : FVec Ideal S1x1x1024 .f32) (sc sh : FVec Ideal S4x1x1024 .f32) : FVec Ideal S4x2048x1024 .f32 := addf (mulf (mulf (mulf X (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf X X) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ g shapeCasts_S1x1x1024_S1024)))) (broadcastInDim S4x2048x1024 ![0, 1, 2] bcast_S4x1x1024_S4x2048x1024_0_1_2 (addf (broadcastInDim S4x1x1024 ![] bcast_S_S4x1x1024 (constant S_ .f32 0x3F800000#32)) sc))) (broadcastInDim S4x2048x1024 ![0, 1, 2] bcast_S4x1x1024_S4x2048x1024_0_1_2 sh)

/-- Their gate and up columns. -/
def GateB (H : FVec Ideal S4x2048x1024 .f32) (W : FVec Ideal S1x1x1024x5632 .f32) : FVec Ideal S4x2048x5632 .f32 := Host.dotGeneral dot_S4x2048x1024_S1024x5632_S4x2048x5632_2_0_01_1_n_n none H (shapeCast _ W shapeCasts_S1x1x1024x5632_S1024x5632)

/-- Their feed-forward rows. -/
def SwiB (G : FVec Ideal S4x2048x5632 .f32) (W : FVec Ideal S1x1x2816x1024 .f32) : FVec Ideal S4x2048x1024 .f32 := Host.dotGeneral dot_S4x2048x2816_S2816x1024_S4x2048x1024_2_0_01_1_n_n none (mulf (mulf (extractStridedSlice S4x2048x2816 ![0, 0, 0] G slices_S4x2048x5632_S4x2048x2816_0_0_0) (Host.divf (broadcastInDim S4x2048x2816 ![] bcast_S_S4x2048x2816 (constant S_ .f32 0x3F800000#32)) (addf (broadcastInDim S4x2048x2816 ![] bcast_S_S4x2048x2816 (constant S_ .f32 0x3F800000#32)) (Host.exp (Host.negf (extractStridedSlice S4x2048x2816 ![0, 0, 0] G slices_S4x2048x5632_S4x2048x2816_0_0_0)))))) (extractStridedSlice S4x2048x2816 ![0, 0, 2816] G slices_S4x2048x5632_S4x2048x2816_0_0_2816)) (shapeCast _ W shapeCasts_S1x1x2816x1024_S2816x1024)

/-- A sublayer's result added to its rows. -/
def ResB (X S : FVec Ideal S4x2048x1024 .f32) (w : BitVec 32) (gate : FVec Ideal S4x1x1024 .f32) (g : FVec Ideal S1x1x1024 .f32) : FVec Ideal S4x2048x1024 .f32 := addf X (mulf (broadcastInDim S4x2048x1024 ![0, 1, 2] bcast_S4x1x1024_S4x2048x1024_0_1_2 (mulf (broadcastInDim S4x1x1024 ![] bcast_S_S4x1x1024 (constant S_ .f32 w)) gate)) (mulf (mulf S (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf S S) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ g shapeCasts_S1x1x1024_S1024)))))

/-- The feed-forward sublayer. -/
def FfB (X : FVec Ideal S4x2048x1024 .f32) (sh sc gate : FVec Ideal S4x1x1024 .f32) (g gq : FVec Ideal S1x1x1024 .f32) (W : FVec Ideal S1x1x1024x5632 .f32) (Wo : FVec Ideal S1x1x2816x1024 .f32) : FVec Ideal S4x2048x1024 .f32 :=
  ResB X (SwiB (GateB (PreB X g sc sh) W) Wo) 0x3F000000#32 gate gq

theorem PreB_at (X : FVec Ideal S4x2048x1024 .f32) (g : FVec Ideal S1x1x1024 .f32) (sc sh : FVec Ideal S4x1x1024 .f32) (p : Fin 4) (q : Fin 2048) (k : Fin 1024) :
    PreB X g sc sh (ix3 p q k) = hid (fun k => X (ix3 p q k)) (fun k => g (ix3 0 0 k)) (fun k => sc (ix3 p 0 k)) (fun k => sh (ix3 p 0 k)) k := by
  pointwise [PreB, hid, rinv]

theorem GateB_at (H : FVec Ideal S4x2048x1024 .f32) (W : FVec Ideal S1x1x1024x5632 .f32) (p : Fin 4) (q : Fin 2048) (j : Fin 5632) :
    GateB H W (ix3 p q j) = ∑ k : Fin 1024, H (ix3 p q k) * W (ix4 0 0 k j) := by
  pointwise [GateB]

theorem SwiB_at (G : FVec Ideal S4x2048x5632 .f32) (W : FVec Ideal S1x1x2816x1024 .f32) (p : Fin 4) (q : Fin 2048) (j : Fin 1024) :
    SwiB G W (ix3 p q j) = outRow (fun j => G (ix3 p q ⟨j, by omega⟩) * Ideal.logistic (G (ix3 p q ⟨j, by omega⟩)) * G (ix3 p q ⟨2816 + j, by omega⟩)) (fun k j => W (ix4 0 0 k j)) j := by
  pointwise [SwiB, outRow, Ideal.logistic]

theorem ResB_at (X S : FVec Ideal S4x2048x1024 .f32) (w : BitVec 32) (gate : FVec Ideal S4x1x1024 .f32) (g : FVec Ideal S1x1x1024 .f32) (p : Fin 4) (q : Fin 2048) (j : Fin 1024) :
    ResB X S w gate g (ix3 p q j) = outw w (fun k => X (ix3 p q k)) (fun k => gate (ix3 p 0 k)) (fun k => g (ix3 0 0 k)) (fun k => S (ix3 p q k)) j := by
  pointwise [ResB, outw, rinv]

theorem FfB_at (X : FVec Ideal S4x2048x1024 .f32) (sh sc gate : FVec Ideal S4x1x1024 .f32) (g gq : FVec Ideal S1x1x1024 .f32) (W : FVec Ideal S1x1x1024x5632 .f32) (Wo : FVec Ideal S1x1x2816x1024 .f32) (p : Fin 4) (q : Fin 2048) (j : Fin 1024) :
    FfB X sh sc gate g gq W Wo (ix3 p q j) =
      outv (fun k => X (ix3 p q k)) (fun k => gate (ix3 p 0 k)) (fun k => gq (ix3 0 0 k)) (outRow (act (hid (fun k => X (ix3 p q k)) (fun k => g (ix3 0 0 k)) (fun k => sc (ix3 p 0 k)) (fun k => sh (ix3 p 0 k))) (fun k j => W (ix4 0 0 k j))) (fun k j => Wo (ix4 0 0 k j))) j := by
  unfold FfB
  rw [ResB_at]; simp only [SwiB_at, GateB_at, PreB_at]; rfl

end Cert.Reference7Ideal.Rows
end
-- ==== Proof.FusA.lean ====
module

public import proofs.«01_k».proof.Proof.FfnA
public import proofs.«01_k».proof.Proof.Gen.Kernel6Ideal.Frame
public import Idealize.ShloMosaic.Lib.Pipeline.ValueKit
public import Idealize.ShloMosaic.Lib.Pipeline.ReadBack
public import Idealize.ShloMosaic.Lib.Pointwise

@[expose] public section

set_option maxRecDepth 100000

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen
open Cert.Kernel2Ideal.Value (rinv hid act outRow outv)

variable (m : (ℓ : Loc nD τ sig) → Buf (Elt Ideal) ℓ)

/-- Whether a grid point works on the prompt's rows. -/
abbrev isP (i : grid0.Coords) : BitVec 1 := Scalar.cmpi .slt (BitVec.ofNat 32 (i 0).val) 16#32

/-- The mixer's rows of a tile: of the prompt or of the samples. -/
def pick (i : grid0.Coords) (A B : FVec Ideal S512x512 .f32) : FVec Ideal S512x512 .f32 := fun y => Scalar.select (isP i) (A y) (B y)

/-- The mixer's output projection of a row, its two halves one after the other. -/
def mix (a b : Fin 512 → EReal) (w : Fin 1024 → Fin 1024 → EReal) (j : Fin 1024) : EReal :=
  (∑ k : Fin 512, a k * w ⟨k, by omega⟩ j) + ∑ k : Fin 512, b k * w ⟨512 + k, by omega⟩ j

/-- The row between the mixer and the feed-forward. -/
def mid (x gate gq o : Fin 1024 → EReal) (j : Fin 1024) : EReal := x j + gate j * (o j * rinv o * gq j)

/-- The rows of a tile between the mixer and the feed-forward. -/
def Gmid (X0 : FVec Ideal S512x1024 .f32) (OA OB : FVec Ideal S512x512 .f32) (X5 : FVec Ideal S1x1024x1024 .bf16) (X6 : FVec Ideal S1x1024 .f32) (X7 : FVec Ideal S1x1x9216 .f32) : FVec Ideal S512x1024 .f32 :=
  fun y => mid (fun k => X0 (ix2 (y 0) k)) (fun k => X7 (ix3 0 0 ⟨5120 + k, by omega⟩)) (fun k => X6 (ix2 0 k)) (mix (fun k => OA (ix2 (y 0) k)) (fun k => OB (ix2 (y 0) k)) (fun k j => X5 (ix3 0 k j))) (y 1)

theorem mixed_at (i : grid0.Coords) (a a' b b' : FVec Ideal S256x512 .f32) (w1 w2 : FVec Ideal S1x512x1024 .bf16) (r : Fin 256) (j : Fin 1024) :
    k0_pay6 (F := Ideal) i a a' b b' w1 w2 (ix2 r j) =
      (∑ k : Fin 512, Scalar.select (isP i) (a (ix2 r k)) (a' (ix2 r k)) * w1 (ix3 0 k j)) + ∑ k : Fin 512, Scalar.select (isP i) (b (ix2 r k)) (b' (ix2 r k)) * w2 (ix3 0 k j) := by
  pointwise [k0_pay6]

/-- The rows of the first half between the mixer and the feed-forward, at an entry. -/
theorem mid0_row (i : grid0.Coords) (X0 : FVec Ideal S512x1024 .f32) (OA OB : FVec Ideal S512x512 .f32) (X5 : FVec Ideal S1x1024x1024 .bf16) (X6 : FVec Ideal S1x1024 .f32) (X7 : FVec Ideal S1x1x9216 .f32)
    (x0 : FVec Ideal S256x1024 .f32) (a a' b b' : FVec Ideal S256x512 .f32) (w1 w2 : FVec Ideal S1x512x1024 .bf16) (r : Fin 256) (R : Fin 512)
    (hx : ∀ k, x0 (ix2 r k) = X0 (ix2 R k)) (ha : ∀ k, Scalar.select (isP i) (a (ix2 r k)) (a' (ix2 r k)) = OA (ix2 R k)) (hb : ∀ k, Scalar.select (isP i) (b (ix2 r k)) (b' (ix2 r k)) = OB (ix2 R k))
    (h1 : ∀ (k : Fin 512) (j : Fin 1024), w1 (ix3 0 k j) = X5 (ix3 0 ⟨k, by omega⟩ j)) (h2 : ∀ (k : Fin 512) (j : Fin 1024), w2 (ix3 0 k j) = X5 (ix3 0 ⟨512 + k, by omega⟩ j)) (j : Fin 1024) :
    k0_pay10 (F := Ideal) x0 (k0_pay6 i a a' b b' w1 w2) (k0_pay7 X7) (k0_pay8 X6) (k0_pay9 i a a' b b' w1 w2) (FloatOps.ofBits FTy.f32 0x44800000#32) (ix2 r j) = Gmid X0 OA OB X5 X6 X7 (ix2 R j) := by
  have e : k0_pay10 (F := Ideal) x0 (k0_pay6 i a a' b b' w1 w2) (k0_pay7 X7) (k0_pay8 X6) (k0_pay9 i a a' b b' w1 w2) (FloatOps.ofBits FTy.f32 0x44800000#32) (ix2 r j) =
      mid (fun k => x0 (ix2 r k)) (fun k => X7 (ix3 0 0 ⟨5120 + k, by omega⟩)) (fun k => X6 (ix2 0 k)) (fun k => k0_pay6 (F := Ideal) i a a' b b' w1 w2 (ix2 r k)) j := by
    pointwise [k0_pay10, k0_pay9, k0_pay8, k0_pay7, mid, rinv]
  rw [e]; simp only [mixed_at, hx, ha, hb, h1, h2]; rfl

/-- The second half's rows are computed as the first half's. -/
theorem mid1_eq (i : grid0.Coords) (X6 : FVec Ideal S1x1024 .f32) (X7 : FVec Ideal S1x1x9216 .f32)
    (x0 : FVec Ideal S256x1024 .f32) (a a' b b' : FVec Ideal S256x512 .f32) (w1 w2 : FVec Ideal S1x512x1024 .bf16) :
    k0_pay13 (F := Ideal) (isP i) x0 a a' b b' w1 w2 X7 X6 =
      k0_pay10 (F := Ideal) x0 (k0_pay6 i a a' b b' w1 w2) (k0_pay7 X7) (k0_pay8 X6) (k0_pay9 i a a' b b' w1 w2) (FloatOps.ofBits FTy.f32 0x44800000#32) := rfl

theorem pay11_at (x0 v21 : FVec Ideal S256x1024 .f32) (v24 v26 : FVec Ideal S1x1024 .f32) (v29 : FVec Ideal S256x1 .f32) (e : Ideal .f32) (r : Fin 256) (j : Fin 1024) :
    k0_pay11 (F := Ideal) x0 v21 v24 v26 v29 e (ix2 r j) = k0_pay10 (F := Ideal) x0 v21 v24 v26 v29 e (ix2 r j) := by
  pointwise [k0_pay11]

theorem pay14_at (v : BitVec 1) (x0 : FVec Ideal S256x1024 .f32) (a a' b b' : FVec Ideal S256x512 .f32) (w1 w2 : FVec Ideal S1x512x1024 .bf16) (X7 : FVec Ideal S1x1x9216 .f32) (X6 : FVec Ideal S1x1024 .f32) (r : Fin 256) (j : Fin 1024) :
    k0_pay14 (F := Ideal) v x0 a a' b b' w1 w2 X7 X6 (ix2 r j) = k0_pay13 (F := Ideal) v x0 a a' b b' w1 w2 X7 X6 (ix2 r j) := by
  pointwise [k0_pay14]

/-- The hidden row of the first half of a tile, at an entry. -/
theorem h0_row (Y : FVec Ideal S512x1024 .f32) (X7 : FVec Ideal S1x1x9216 .f32) (X8 : FVec Ideal S1x1024 .f32)
    (x0 v21 : FVec Ideal S256x1024 .f32) (v24 v26 : FVec Ideal S1x1024 .f32) (v29 : FVec Ideal S256x1 .f32) (e : Ideal .f32) (r : Fin 256) (R : Fin 512)
    (hm : ∀ k, k0_pay10 (F := Ideal) x0 v21 v24 v26 v29 e (ix2 r k) = Y (ix2 R k)) (k : Fin 1024) :
    k0_pay12 (F := Ideal) (k0_pay3 X7) (k0_pay4 X7) x0 v21 v24 v26 v29 e X8 (ix2 r k) = hid (fun k => Y (ix2 R k)) (fun k => X8 (ix2 0 k)) (fun k => X7 (ix3 0 0 ⟨7168 + k, by omega⟩)) (fun k => X7 (ix3 0 0 ⟨6144 + k, by omega⟩)) k := by
  simp only [← hm]
  pointwise [k0_pay12, k0_pay4, k0_pay3, k0_pay2, hid, rinv]

/-- The hidden row of the second half of a tile, at an entry. -/
theorem h1_row (Y : FVec Ideal S512x1024 .f32) (X7 : FVec Ideal S1x1x9216 .f32) (X8 : FVec Ideal S1x1024 .f32) (z : FVec Ideal S256x1024 .f32) (r : Fin 256) (R : Fin 512)
    (hm : ∀ k, z (ix2 r k) = Y (ix2 R k)) (k : Fin 1024) :
    k0_pay15 (F := Ideal) (k0_pay3 X7) (k0_pay4 X7) z X8 (ix2 r k) = hid (fun k => Y (ix2 R k)) (fun k => X8 (ix2 0 k)) (fun k => X7 (ix3 0 0 ⟨7168 + k, by omega⟩)) (fun k => X7 (ix3 0 0 ⟨6144 + k, by omega⟩)) k := by
  simp only [← hm]
  pointwise [k0_pay15, k0_pay4, k0_pay3, k0_pay2, hid, rinv]

/-- The activations of a whole tile. -/
def Gact (Y : FVec Ideal S512x1024 .f32) (X7 : FVec Ideal S1x1x9216 .f32) (X8 : FVec Ideal S1x1024 .f32) (X10 : FVec Ideal S1x1x1024x5632 .f32) : FVec Ideal S512x2816 .bf16 :=
  fun y => act (hid (fun k => Y (ix2 (y 0) k)) (fun k => X8 (ix2 0 k)) (fun k => X7 (ix3 0 0 ⟨7168 + k, by omega⟩)) (fun k => X7 (ix3 0 0 ⟨6144 + k, by omega⟩)))
    (fun k j => X10 (ix4 0 0 k j)) (y 1)

/-- One row of the feed-forward sublayer, from its input row, its modulation row, the two gains and the two weight matrices. -/
def rowOut (x : Fin 1024 → EReal) (mo : Fin 9216 → EReal) (gp gq : Fin 1024 → EReal) (w : Fin 1024 → Fin 5632 → EReal) (wo : Fin 2816 → Fin 1024 → EReal) (j : Fin 1024) : EReal :=
  outv x (fun k => mo ⟨8192 + k, by omega⟩) gq (outRow (act (hid x gp (fun k => mo ⟨7168 + k, by omega⟩) (fun k => mo ⟨6144 + k, by omega⟩)) w) wo) j

/-- The result of a whole tile. -/
def Gout (Y : FVec Ideal S512x1024 .f32) (X7 : FVec Ideal S1x1x9216 .f32) (X8 X9 : FVec Ideal S1x1024 .f32) (X10 : FVec Ideal S1x1x1024x5632 .f32) (X11 : FVec Ideal S1x1x2816x1024 .bf16) : FVec Ideal S512x1024 .f32 :=
  fun y => rowOut (fun k => Y (ix2 (y 0) k)) (fun k => X7 (ix3 0 0 k)) (fun k => X8 (ix2 0 k)) (fun k => X9 (ix2 0 k)) (fun k j => X10 (ix4 0 0 k j)) (fun k j => X11 (ix4 0 0 k j)) (y 1)

/-- A piece of activations is the block of `Gact` it is stored at. -/
theorem tile_eq (Y : FVec Ideal S512x1024 .f32) (X7 : FVec Ideal S1x1x9216 .f32) (X8 : FVec Ideal S1x1024 .f32) (X10 : FVec Ideal S1x1x1024x5632 .f32)
    (wg wu : FVec Ideal S1x1x1024x256 .f32) (H : FVec Ideal S256x1024 .bf16) (r j : Fin 256) (y : S512x2816.Idx)
    (hH : ∀ k, H (ix2 r k) = hid (fun k => Y (ix2 (y 0) k)) (fun k => X8 (ix2 0 k)) (fun k => X7 (ix3 0 0 ⟨7168 + k, by omega⟩)) (fun k => X7 (ix3 0 0 ⟨6144 + k, by omega⟩)) k)
    (hg : ∀ k, wg (ix4 0 0 k j) = X10 (ix4 0 0 k ⟨(y 1 : ℕ), by have : (y 1 : ℕ) < 2816 := (y 1).isLt; omega⟩))
    (hu : ∀ k, wu (ix4 0 0 k j) = X10 (ix4 0 0 k ⟨2816 + (y 1 : ℕ), by have : (y 1 : ℕ) < 2816 := (y 1).isLt; omega⟩)) :
    k0_pay20 (F := Ideal) (k0_pay16 wg) (k0_pay17 wu) H H (ix2 r j) = Gact Y X7 X8 X10 y := by
  have e : k0_pay20 (F := Ideal) (k0_pay16 wg) (k0_pay17 wu) H H (ix2 r j) = (∑ k : Fin 1024, H (ix2 r k) * wg (ix4 0 0 k j)) * Ideal.logistic (∑ k : Fin 1024, H (ix2 r k) * wg (ix4 0 0 k j)) * (∑ k : Fin 1024, H (ix2 r k) * wu (ix4 0 0 k j)) := by
    pointwise [k0_pay20, k0_pay16, k0_pay17]
  rw [e]; simp only [hH, hg, hu]; rfl

/-- A piece of the result is the block of `Gout` it is stored at. -/
theorem out_eq (Y : FVec Ideal S512x1024 .f32) (X7 : FVec Ideal S1x1x9216 .f32) (X8 X9 : FVec Ideal S1x1024 .f32) (X10 : FVec Ideal S1x1x1024x5632 .f32) (X11 : FVec Ideal S1x1x2816x1024 .bf16)
    (z : FVec Ideal S256x1024 .f32) (A : FVec Ideal S256x2816 .bf16) (r : Fin 256) (j : Fin 1024) (y : S512x1024.Idx) (hj : j = y 1)
    (hx : ∀ k, z (ix2 r k) = Y (ix2 (y 0) k)) (hA : ∀ k, A (ix2 r k) = Gact Y X7 X8 X10 (ix2 (y 0) k)) :
    k0_pay1 (F := Ideal) z (k0_pay73 (k0_pay5 X7)) (k0_pay74 A X11 X9) (ix2 r j) = Gout Y X7 X8 X9 X10 X11 y := by
  have e : k0_pay1 (F := Ideal) z (k0_pay73 (k0_pay5 X7)) (k0_pay74 A X11 X9) (ix2 r j) =
      outv (fun k => z (ix2 r k)) (fun k => X7 (ix3 0 0 ⟨8192 + k, by omega⟩)) (fun k => X9 (ix2 0 k)) (outRow (fun k => A (ix2 r k)) (fun k j => X11 (ix4 0 0 k j))) j := by
    pointwise [k0_pay1, k0_pay73, k0_pay74, k0_pay5, k0_pay2, outv, rinv, outRow]
  rw [e]; simp only [hx, hA]; subst hj; rfl

/-- Pieces of `G` that tile a buffer leave it at `G`. -/
theorem canon_of {S : Shape} {e : EltTy} (G : S.Idx → Elt Ideal e) (z : Fin S.rank → Nat) (L : List (View.Piece (Elt Ideal) S e))
    (hL : View.Piece.tiledL L z = true) (hp : View.PiecesOf G L) : View.canon L = G :=
  funext fun y => View.canon_apply_of_pieces _ L hp.mem y (View.cover_of_tiledL L _ hL y)

/-- A selection of two entries that agree with the two entries of another. -/
theorem pick_congr (v : BitVec 1) {a b a' b' : EReal} (h : a = a') (h' : b = b') : Scalar.select v a b = Scalar.select v a' b' := by rw [h, h']

/-- A point's rows between the mixer and the feed-forward. -/
def midAt (c : Dev nD) (t : Fin cfg0.N) : FVec Ideal S512x1024 .f32 :=
  Gmid (iblk m c 0 t) (pick (grid0.coords t) (iblk m c 1 t) (iblk m c 2 t)) (pick (grid0.coords t) (iblk m c 3 t) (iblk m c 4 t)) (iblk m c 5 t) (iblk m c 6 t) (iblk m c 7 t)

set_option maxHeartbeats 4000000 in
/-- What a point leaves in the output. -/
theorem point (c : Dev nD) (t : Fin cfg0.N) : outsAt0 m c t = Gout (midAt m c t) (iblk m c 7 t) (iblk m c 8 t) (iblk m c 9 t) (iblk m c 10 t) (iblk m c 11 t) := by
  have e1 : ∀ L B, scM0_1.view.readCov (Val := Elt Ideal) L B = _ := fun L B => View.readCov_eq_canon' (Val := Elt Ideal) scM0_1.view L B
  unfold outsAt0
  frame_open
  simp (disch := decide) only [↓ e1, ↓ View.readCov_skip, ↓ View.readCov_cons_toLoadRect, View.read_writes_junk_eq_canon, View.readAt_eq_ld, View.ld_unit_lit',
        Memref.IsWhole.read_unread]
  rw [canon_of (S := S512x2816) (e := .bf16) (Gact (midAt m c t) (iblk m c 7 t) (iblk m c 8 t) (iblk m c 10 t)) S256x256.size]
  rotate_left
  · sl_kernel_rfl
  · dsimp only [View.PiecesOf]
    refine ⟨?_, ?_, ?_, ?_, ?_, ?_, ?_, ?_, ?_, ?_, ?_, ?_, ?_, ?_, ?_, ?_, ?_, ?_, ?_, ?_, ?_, ?_, trivial⟩
    all_goals (intro x; refine tile_eq _ _ _ _ _ _ _ (x 0) (x 1) _ ?_ ?_ ?_)
    all_goals intro k
    all_goals first
      | (refine h0_row _ _ _ _ _ _ _ _ _ _ _ ?_ k; intro k; refine mid0_row (grid0.coords t) _ _ _ _ _ _ _ _ _ _ _ _ _ _ _ ?_ ?_ ?_ ?_ ?_ k)
      | (refine h1_row _ _ _ _ _ _ ?_ k; intro k; refine mid0_row (grid0.coords t) _ _ _ _ _ _ _ _ _ _ _ _ _ _ _ ?_ ?_ ?_ ?_ ?_ k)
      | skip
    all_goals try intro k
    all_goals try intro j
    all_goals try refine pick_congr _ ?_ ?_
    all_goals (refine View.ld_unit_apply_of _ _ _ _ _ _ fun a => ?_)
    all_goals (fin_cases a <;> simp [ValueKit.rect_emb_unit_val] <;> omega)
  · apply canon_of (S := S512x1024) (e := .f32) _ S256x1024.size
    · sl_kernel_rfl
    · dsimp only [View.PiecesOf]
      refine ⟨?_, ?_, trivial⟩
      all_goals (intro x; refine (congrArg _ (show x = ix2 (x 0) (x 1) from funext fun a => by fin_cases a <;> rfl)).trans (out_eq _ _ _ _ _ _ _ _ (x 0) (x 1) _ ?_ (fun k => ?_) (fun k => ?_)))
      all_goals first
        | (refine (pay11_at _ _ _ _ _ _ _ k).trans (mid0_row (grid0.coords t) _ _ _ _ _ _ _ _ _ _ _ _ _ _ _ ?_ ?_ ?_ ?_ ?_ k))
        | (refine (pay14_at _ _ _ _ _ _ _ _ _ _ _ k).trans (mid0_row (grid0.coords t) _ _ _ _ _ _ _ _ _ _ _ _ _ _ _ ?_ ?_ ?_ ?_ ?_ k))
        | (refine congrArg (Gact _ _ _ _) (funext fun a => Fin.ext ?_); fin_cases a <;> simp [ValueKit.rect_emb_unit_val, LoadRect.idx]; done)
        | (apply Fin.ext; simp [ValueKit.rect_emb_unit_val]; done)
      all_goals try intro k
      all_goals try intro j
      all_goals try refine pick_congr _ ?_ ?_
      all_goals (refine View.ld_unit_apply_of _ _ _ _ _ _ fun a => ?_)
      all_goals (fin_cases a <;> simp [ValueKit.rect_emb_unit_val])

end Cert.Kernel6Ideal.Value
end
-- ==== Proof.FusC.lean ====
module

public import proofs.«01_k».proof.Proof.FusA
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen
open Cert.Kernel2Ideal.Value (rinv hid act outRow outv mrow)

variable (m : (ℓ : Loc nD τ sig) → Buf (Elt Ideal) ℓ)

/-- A row of the mixer's result: of the prompt, then of the samples. -/
def rowOf (A B : FVec Ideal S8192x512 .f32) (i : Fin 16384) (k : Fin 512) : EReal :=
  if h : (i : ℕ) < 8192 then A (ix2 ⟨i, h⟩ k) else B (ix2 ⟨i - 8192, by omega⟩ k)

/-- A row between the mixer and the feed-forward, from its input row, its modulation row, the gain, the mixer's two rows and the projection. -/
def midRow (x : Fin 1024 → EReal) (mo : Fin 9216 → EReal) (g : Fin 1024 → EReal) (a b : Fin 512 → EReal) (w : Fin 1024 → Fin 1024 → EReal) : Fin 1024 → EReal :=
  mid x (fun k => mo ⟨5120 + k, by omega⟩) g (mix a b w)

/-- The two sublayers' result. -/
def Gfin (A0 : FVec Ideal S16384x1024 .f32) (A1 A2 A3 A4 : FVec Ideal S8192x512 .f32) (M : FVec Ideal S8x1x9216 .f32) (NP NQ : FVec Ideal S4x3x1024 .f32) (W : FVec Ideal S4x2x1024x5632 .f32) (Wo : FVec Ideal S4x2x2816x1024 .f32) (Wm : FVec Ideal S2x1024x1024 .f32) : FVec Ideal S16384x1024 .f32 :=
  fun y => rowOut (midRow (fun k => A0 (ix2 (y 0) k)) (fun k => M (ix3 (mrow (y 0)) 0 k)) (fun k => NQ (ix3 2 1 k)) (rowOf A1 A2 (y 0)) (rowOf A3 A4 (y 0)) (fun k j => Wm (ix3 1 k j)))
    (fun k => M (ix3 (mrow (y 0)) 0 k)) (fun k => NP (ix3 2 2 k)) (fun k => NQ (ix3 2 2 k)) (fun k j => W (ix4 2 1 k j)) (fun k j => Wo (ix4 2 1 k j)) (y 1)

/-- Where each window's block lies at a grid point. -/
theorem idx : ∀ t : Fin cfg0.N, win0_0.index t = ![t.val, 0] ∧ win0_1.index t = ![min t.val 15, 0] ∧ win0_2.index t = ![t.val - 16, 0] ∧ win0_3.index t = ![min t.val 15, 0] ∧ win0_4.index t = ![t.val - 16, 0] ∧
    win0_5.index t = ![1, 0, 0] ∧ win0_6.index t = ![0, 0] ∧ win0_7.index t = ![if t.val < 16 then 0 else 1 + (t.val - 16) / 4, 0, 0] ∧ win0_8.index t = ![0, 0] ∧
    win0_9.index t = ![0, 0] ∧ win0_10.index t = ![2, 1, 0, 0] ∧ win0_11.index t = ![2, 1, 0, 0] ∧ win0_12.index t = ![t.val, 0] ∧ t.val < 32 ∧ isP (grid0.coords t) = (if t.val < 16 then 1 else 0) :=
  (by decide +kernel : ∀ t : Fin grid0.N, _)

theorem lt32 (t : Fin cfg0.N) : t.val < 32 := (idx t).2.2.2.2.2.2.2.2.2.2.2.2.2.1

theorem isP_eq (t : Fin cfg0.N) : isP (grid0.coords t) = (if t.val < 16 then 1 else 0) := (idx t).2.2.2.2.2.2.2.2.2.2.2.2.2.2

abbrev rowIx (t : Fin cfg0.N) (r : Fin 512) : Fin 16384 := ⟨t.val * 512 + r, by have := lt32 t; omega⟩

theorem blk0 (c : Dev nD) (t : Fin cfg0.N) (r : Fin 512) (k : Fin 1024) : iblk m c 0 t (ix2 r k) = m ((c.tc : Thread nD τ).loc main_arg0) (ix2 (rowIx t r) k) := by
  blk_ext [iblk, V, idx t]

theorem blk1 (c : Dev nD) (t : Fin cfg0.N) (h : t.val < 16) (r : Fin 512) (k : Fin 512) : iblk m c 1 t (ix2 r k) = m ((c.tc : Thread nD τ).loc main_arg1) (ix2 ⟨t.val * 512 + r, by omega⟩ k) := by
  have e : min t.val 15 = t.val := by omega
  blk_ext [iblk, V, idx t, e]

theorem blk2 (c : Dev nD) (t : Fin cfg0.N) (h : ¬t.val < 16) (r : Fin 512) (k : Fin 512) : iblk m c 2 t (ix2 r k) = m ((c.tc : Thread nD τ).loc main_arg2) (ix2 ⟨t.val * 512 + r - 8192, by have := lt32 t; omega⟩ k) := by
  have h32 := lt32 t
  blk_ext [iblk, V, idx t]

theorem blk3 (c : Dev nD) (t : Fin cfg0.N) (h : t.val < 16) (r : Fin 512) (k : Fin 512) : iblk m c 3 t (ix2 r k) = m ((c.tc : Thread nD τ).loc main_arg3) (ix2 ⟨t.val * 512 + r, by omega⟩ k) := by
  have e : min t.val 15 = t.val := by omega
  blk_ext [iblk, V, idx t, e]

theorem blk4 (c : Dev nD) (t : Fin cfg0.N) (h : ¬t.val < 16) (r : Fin 512) (k : Fin 512) : iblk m c 4 t (ix2 r k) = m ((c.tc : Thread nD τ).loc main_arg4) (ix2 ⟨t.val * 512 + r - 8192, by have := lt32 t; omega⟩ k) := by
  have h32 := lt32 t
  blk_ext [iblk, V, idx t]

/-- The rows of a tile are the mixer's first. -/
theorem pick_at (c : Dev nD) (t : Fin cfg0.N) (r : Fin 512) (k : Fin 512) : pick (grid0.coords t) (iblk m c 1 t) (iblk m c 2 t) (ix2 r k) =
    rowOf (m ((c.tc : Thread nD τ).loc main_arg1)) (m ((c.tc : Thread nD τ).loc main_arg2)) (rowIx t r) k := by
  have h32 := lt32 t
  unfold pick rowOf
  rw [isP_eq]
  by_cases h : t.val < 16
  · rw [if_pos h, dif_pos (show t.val * 512 + r.val < 8192 by omega)]
    exact (ValueIdx.select_one _ _).trans (blk1 m c t h r k)
  · rw [if_neg h, dif_neg (show ¬t.val * 512 + r.val < 8192 by omega)]
    exact (ValueIdx.select_zero _ _).trans (blk2 m c t h r k)

/-- The rows of a tile are the mixer's second. -/
theorem pick_at' (c : Dev nD) (t : Fin cfg0.N) (r : Fin 512) (k : Fin 512) : pick (grid0.coords t) (iblk m c 3 t) (iblk m c 4 t) (ix2 r k) =
    rowOf (m ((c.tc : Thread nD τ).loc main_arg3)) (m ((c.tc : Thread nD τ).loc main_arg4)) (rowIx t r) k := by
  have h32 := lt32 t
  unfold pick rowOf
  rw [isP_eq]
  by_cases h : t.val < 16
  · rw [if_pos h, dif_pos (show t.val * 512 + r.val < 8192 by omega)]
    exact (ValueIdx.select_one _ _).trans (blk3 m c t h r k)
  · rw [if_neg h, dif_neg (show ¬t.val * 512 + r.val < 8192 by omega)]
    exact (ValueIdx.select_zero _ _).trans (blk4 m c t h r k)

theorem blk5 (c : Dev nD) (t : Fin cfg0.N) (k j : Fin 1024) : iblk m c 5 t (ix3 0 k j) = m ((c.tc : Thread nD τ).loc main_arg10) (ix3 1 k j) := by
  trans V m c main_v0 (ix3 1 k j)
  · blk_ext [iblk, idx t]
  · entry_read; pointwise

theorem blk6 (c : Dev nD) (t : Fin cfg0.N) (k : Fin 1024) : iblk m c 6 t (ix2 0 k) = m ((c.tc : Thread nD τ).loc main_arg7) (ix3 2 1 k) := by
  trans V m c main_v3 (ix2 0 k)
  · blk_ext [iblk, idx t]
  · entry_read; pointwise

theorem blk7 (c : Dev nD) (t : Fin cfg0.N) (r : Fin 512) (k : Fin 9216) : iblk m c 7 t (ix3 0 0 k) = m ((c.tc : Thread nD τ).loc main_arg5) (ix3 (mrow (rowIx t r)) 0 k) := by
  have h32 := lt32 t
  have h : mrow (rowIx t r) = ⟨if t.val < 16 then 0 else 1 + (t.val - 16) / 4, by split <;> omega⟩ := by
    unfold mrow rowIx
    apply Fin.ext
    split <;> rename_i h <;> simp only at h ⊢ <;> split <;> simp <;> omega
  rw [h]
  blk_ext [iblk, V, idx t]

theorem blk8 (c : Dev nD) (t : Fin cfg0.N) (k : Fin 1024) : iblk m c 8 t (ix2 0 k) = m ((c.tc : Thread nD τ).loc main_arg6) (ix3 2 2 k) := by
  trans V m c main_v6 (ix2 0 k)
  · blk_ext [iblk, idx t]
  · entry_read; pointwise

theorem blk9 (c : Dev nD) (t : Fin cfg0.N) (k : Fin 1024) : iblk m c 9 t (ix2 0 k) = m ((c.tc : Thread nD τ).loc main_arg7) (ix3 2 2 k) := by
  trans V m c main_v9 (ix2 0 k)
  · blk_ext [iblk, idx t]
  · entry_read; pointwise

theorem blk10 (c : Dev nD) (t : Fin cfg0.N) (k : Fin 1024) (j : Fin 5632) : iblk m c 10 t (ix4 0 0 k j) = m ((c.tc : Thread nD τ).loc main_arg8) (ix4 2 1 k j) := by
  blk_ext [iblk, V, idx t]

theorem blk11 (c : Dev nD) (t : Fin cfg0.N) (k : Fin 2816) (j : Fin 1024) : iblk m c 11 t (ix4 0 0 k j) = m ((c.tc : Thread nD τ).loc main_arg9) (ix4 2 1 k j) := by
  trans V m c main_v10 (ix4 2 1 k j)
  · blk_ext [iblk, idx t]
  · entry_read; pointwise

theorem Gout_row (Y : FVec Ideal S512x1024 .f32) (X1 : FVec Ideal S1x1x9216 .f32) (X2 X3 : FVec Ideal S1x1024 .f32) (X4 : FVec Ideal S1x1x1024x5632 .f32) (X5 : FVec Ideal S1x1x2816x1024 .bf16) (r : Fin 512) (j : Fin 1024) :
    Gout Y X1 X2 X3 X4 X5 (ix2 r j) = rowOut (fun k => Y (ix2 r k)) (fun k => X1 (ix3 0 0 k)) (fun k => X2 (ix2 0 k)) (fun k => X3 (ix2 0 k)) (fun k j => X4 (ix4 0 0 k j)) (fun k j => X5 (ix4 0 0 k j)) j := rfl

theorem midAt_row (c : Dev nD) (t : Fin cfg0.N) (r : Fin 512) (j : Fin 1024) :
    midAt m c t (ix2 r j) = midRow (fun k => iblk m c 0 t (ix2 r k)) (fun k => iblk m c 7 t (ix3 0 0 k)) (fun k => iblk m c 6 t (ix2 0 k)) (fun k => pick (grid0.coords t) (iblk m c 1 t) (iblk m c 2 t) (ix2 r k))
      (fun k => pick (grid0.coords t) (iblk m c 3 t) (iblk m c 4 t) (ix2 r k)) (fun k j => iblk m c 5 t (ix3 0 k j)) j := rfl

/-- The result, from the arrays the launch begins with. -/
def res (c : Dev nD) : FVec Ideal S16384x1024 .f32 :=
  Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- A point's block of the result array. -/
theorem point_at (c : Dev nD) (t : Fin cfg0.N) (r : Fin 512) (j : Fin 1024) : outsAt0 m c t (ix2 r j) = res m c (ix2 (rowIx t r) j) := by
  rw [point]
  refine (Gout_row _ _ _ _ _ _ r j).trans ?_
  simp only [midAt_row, pick_at, pick_at', blk0, blk5, blk6, blk7 m c t r, blk8, blk9, blk10, blk11]
  rfl

/-- The result array after the run. -/
theorem final (c : Dev nD) : (dats m 0 c).arrAt 12 (cfgs 0).N = res m c := by
  refine (dats m 0 c).arrAt_eq_of_covers 12 _ (by decide +kernel) fun t _ y => ?_
  blk_simp
  rw [after0_12]
  refine (congrArg (outsAt0 m c t) (show y = ix2 (y 0) (y 1) from funext fun a => by fin_cases a <;> rfl)).trans ((point_at m c t (y 0) (y 1)).trans (congrArg _ ?_))
  blk_ext [idx t]

end Cert.Kernel6Ideal.Value
end
-- ==== Proof.FusB.lean ====
module

public import proofs.«01_k».proof.Proof.RowB
public import proofs.«01_k».proof.Proof.FusC
public import proofs.«01_k».proof.Reference6Ideal
public import proofs.«01_k».proof.Proof.Gen.Reference6Ideal

@[expose] public section

set_option maxRecDepth 100000

noncomputable section

open Idealize.ShloMosaic Idealize.ShloMosaic.TcCoe Idealize.SL.Sem

namespace Cert.Reference6Ideal.Value

open Cert.Reference6Ideal Cert.Reference6Ideal.Gen
open Cert.Reference7Ideal.Rows (outw ResA ResB FfA FfB ResA_at ResB_at FfA_at FfB_at)
open Cert.Kernel2Ideal.Value (rinv hid act outRow outv mrow)
open Cert.Kernel6Ideal.Value (Gfin rowOf mix mid midRow rowOut)

/-- The prompt's modulation rows, and the samples'. -/
abbrev modA (M : FVec Ideal S8x1x9216 .f32) := extractStridedSlice S1x1x9216 ![0, 0, 0] M slices_S8x1x9216_S1x1x9216_0_0_0
abbrev modB (M : FVec Ideal S8x1x9216 .f32) := extractStridedSlice S4x1x9216 ![1, 0, 0] M slices_S8x1x9216_S4x1x9216_1_0_0

/-- The prompt's rows, and the samples'. -/
def xA (A0 : FVec Ideal S16384x1024 .f32) : FVec Ideal S32x256x1024 .f32 := shapeCast _ (extractStridedSlice S8192x1024 ![0, 0] A0 slices_S16384x1024_S8192x1024_0_0) shapeCasts_S8192x1024_S32x256x1024
def xB (A0 : FVec Ideal S16384x1024 .f32) : FVec Ideal S4x2048x1024 .f32 := shapeCast _ (extractStridedSlice S8192x1024 ![8192, 0] A0 slices_S16384x1024_S8192x1024_8192_0) shapeCasts_S8192x1024_S4x2048x1024

/-- The mixer's two results side by side. -/
def catA (a b : FVec Ideal S8192x512 .f32) : FVec Ideal S32x256x1024 .f32 := concatenate S32x256x1024 2 [⟨S32x256x512, shapeCast _ a shapeCasts_S8192x512_S32x256x512⟩, ⟨S32x256x512, shapeCast _ b shapeCasts_S8192x512_S32x256x512⟩] concatenates_S32x256x512_S32x256x512_S32x256x1024_d2
def catB (a b : FVec Ideal S8192x512 .f32) : FVec Ideal S4x2048x1024 .f32 := concatenate S4x2048x1024 2 [⟨S4x2048x512, shapeCast _ a shapeCasts_S8192x512_S4x2048x512⟩, ⟨S4x2048x512, shapeCast _ b shapeCasts_S8192x512_S4x2048x512⟩] concatenates_S4x2048x512_S4x2048x512_S4x2048x1024_d2

/-- Their projection. -/
def mixA (C : FVec Ideal S32x256x1024 .f32) (Wm : FVec Ideal S2x1024x1024 .f32) : FVec Ideal S32x256x1024 .f32 := Host.dotGeneral dot_S32x256x1024_S1024x1024_S32x256x1024_2_0_01_1_n_n none C (shapeCast _ (extractStridedSlice S1x1024x1024 ![1, 0, 0] Wm slices_S2x1024x1024_S1x1024x1024_1_0_0) shapeCasts_S1x1024x1024_S1024x1024)
def mixB (C : FVec Ideal S4x2048x1024 .f32) (Wm : FVec Ideal S2x1024x1024 .f32) : FVec Ideal S4x2048x1024 .f32 := Host.dotGeneral dot_S4x2048x1024_S1024x1024_S4x2048x1024_2_0_01_1_n_n none C (shapeCast _ (extractStridedSlice S1x1024x1024 ![1, 0, 0] Wm slices_S2x1024x1024_S1x1024x1024_1_0_0) shapeCasts_S1x1024x1024_S1024x1024)

theorem xA_at (A0 : FVec Ideal S16384x1024 .f32) (i : Fin 16384) (h : (i : ℕ) < 8192) (k : Fin 1024) : xA A0 (ix3 ⟨i / 256, by omega⟩ ⟨i % 256, by omega⟩ k) = A0 (ix2 i k) := by
  pointwise [xA]
  exact congrArg (fun r => A0 (ix2 r k)) (Fin.ext (show (i : ℕ) / 256 * 256 + i % 256 = i by omega))

theorem xB_at (A0 : FVec Ideal S16384x1024 .f32) (i : Fin 16384) (h : ¬(i : ℕ) < 8192) (k : Fin 1024) : xB A0 (ix3 ⟨(i - 8192) / 2048, by omega⟩ ⟨(i - 8192) % 2048, by omega⟩ k) = A0 (ix2 i k) := by
  pointwise [xB]
  exact congrArg (fun r => A0 (ix2 r k)) (Fin.ext (show 8192 + (((i : ℕ) - 8192) / 2048 * 2048 + (i - 8192) % 2048) = i by omega))

theorem catA_at (a b : FVec Ideal S8192x512 .f32) (p : Fin 32) (q : Fin 256) (k : Fin 1024) :
    catA a b (ix3 p q k) = if h : (k : ℕ) < 512 then a (ix2 ⟨p * 256 + q, by omega⟩ ⟨k, h⟩) else b (ix2 ⟨p * 256 + q, by omega⟩ ⟨k - 512, by omega⟩) := by
  pointwise [catA]

theorem catB_at (a b : FVec Ideal S8192x512 .f32) (p : Fin 4) (q : Fin 2048) (k : Fin 1024) :
    catB a b (ix3 p q k) = if h : (k : ℕ) < 512 then a (ix2 ⟨p * 2048 + q, by omega⟩ ⟨k, h⟩) else b (ix2 ⟨p * 2048 + q, by omega⟩ ⟨k - 512, by omega⟩) := by
  pointwise [catB]

/-- A sum over two halves. -/
theorem sum_halves (a b : Fin 512 → EReal) (w : Fin 1024 → Fin 1024 → EReal) (j : Fin 1024) :
    (∑ k : Fin 1024, (if h : (k : ℕ) < 512 then a ⟨k, h⟩ else b ⟨k - 512, by omega⟩) * w k j) = mix a b w j := by
  refine (Fin.sum_univ_add (a := 512) (b := 512) _).trans ?_
  refine congrArg₂ (· + ·) (Finset.sum_congr rfl fun k _ => ?_) (Finset.sum_congr rfl fun k _ => ?_)
  · exact congrArg (· * w ⟨k, by omega⟩ j) (dif_pos k.isLt)
  · refine congrArg (· * w ⟨512 + k, by omega⟩ j) ((dif_neg (show ¬(512 + (k : ℕ)) < 512 by omega)).trans (congrArg b (Fin.ext ?_)))
    show 512 + (k : ℕ) - 512 = k
    omega

theorem mixA_at (a b : FVec Ideal S8192x512 .f32) (Wm : FVec Ideal S2x1024x1024 .f32) (p : Fin 32) (q : Fin 256) (j : Fin 1024) :
    mixA (catA a b) Wm (ix3 p q j) = mix (fun k => a (ix2 ⟨p * 256 + q, by omega⟩ k)) (fun k => b (ix2 ⟨p * 256 + q, by omega⟩ k)) (fun k j => Wm (ix3 1 k j)) j := by
  have e : mixA (catA a b) Wm (ix3 p q j) = ∑ k : Fin 1024, catA a b (ix3 p q k) * Wm (ix3 1 k j) := by pointwise [mixA]
  rw [e]; simp only [catA_at]
  exact sum_halves (fun k => a (ix2 ⟨p * 256 + q, by omega⟩ k)) (fun k => b (ix2 ⟨p * 256 + q, by omega⟩ k)) (fun k j => Wm (ix3 1 k j)) j

theorem mixB_at (a b : FVec Ideal S8192x512 .f32) (Wm : FVec Ideal S2x1024x1024 .f32) (p : Fin 4) (q : Fin 2048) (j : Fin 1024) :
    mixB (catB a b) Wm (ix3 p q j) = mix (fun k => a (ix2 ⟨p * 2048 + q, by omega⟩ k)) (fun k => b (ix2 ⟨p * 2048 + q, by omega⟩ k)) (fun k j => Wm (ix3 1 k j)) j := by
  have e : mixB (catB a b) Wm (ix3 p q j) = ∑ k : Fin 1024, catB a b (ix3 p q k) * Wm (ix3 1 k j) := by pointwise [mixB]
  rw [e]; simp only [catB_at]
  exact sum_halves (fun k => a (ix2 ⟨p * 2048 + q, by omega⟩ k)) (fun k => b (ix2 ⟨p * 2048 + q, by omega⟩ k)) (fun k j => Wm (ix3 1 k j)) j

/-- A residual row of full weight. -/
theorem outw_one (x gate g o : Fin 1024 → EReal) : outw 0x3F800000#32 x gate g o = mid x gate g o := by
  funext j
  pointwise [outw, mid]

/-- The prompt's rows between the mixer and the feed-forward, and the samples'. -/
def midA (X S : FVec Ideal S32x256x1024 .f32) (M : FVec Ideal S8x1x9216 .f32) (NQ : FVec Ideal S4x3x1024 .f32) : FVec Ideal S32x256x1024 .f32 :=
  ResA X S 0x3F800000#32 (extractStridedSlice S1x1x1024 ![0, 0, 5120] (modA M) slices_S1x1x9216_S1x1x1024_0_0_5120) (extractStridedSlice S1x1x1024 ![2, 1, 0] NQ slices_S4x3x1024_S1x1x1024_2_1_0)
def midB (X S : FVec Ideal S4x2048x1024 .f32) (M : FVec Ideal S8x1x9216 .f32) (NQ : FVec Ideal S4x3x1024 .f32) : FVec Ideal S4x2048x1024 .f32 :=
  ResB X S 0x3F800000#32 (extractStridedSlice S4x1x1024 ![0, 0, 5120] (modB M) slices_S4x1x9216_S4x1x1024_0_0_5120) (extractStridedSlice S1x1x1024 ![2, 1, 0] NQ slices_S4x3x1024_S1x1x1024_2_1_0)

theorem midA_at (X S : FVec Ideal S32x256x1024 .f32) (M : FVec Ideal S8x1x9216 .f32) (NQ : FVec Ideal S4x3x1024 .f32) (p : Fin 32) (q : Fin 256) (j : Fin 1024) :
    midA X S M NQ (ix3 p q j) = mid (fun k => X (ix3 p q k)) (fun k => M (ix3 0 0 ⟨5120 + k, by omega⟩)) (fun k => NQ (ix3 2 1 k)) (fun k => S (ix3 p q k)) j := by
  unfold midA
  rw [ResA_at, outw_one]
  pointwise [mid]

theorem midB_at (X S : FVec Ideal S4x2048x1024 .f32) (M : FVec Ideal S8x1x9216 .f32) (NQ : FVec Ideal S4x3x1024 .f32) (p : Fin 4) (q : Fin 2048) (j : Fin 1024) :
    midB X S M NQ (ix3 p q j) = mid (fun k => X (ix3 p q k)) (fun k => M (ix3 ⟨1 + p, by omega⟩ 0 ⟨5120 + k, by omega⟩)) (fun k => NQ (ix3 2 1 k)) (fun k => S (ix3 p q k)) j := by
  unfold midB
  rw [ResB_at, outw_one]
  pointwise [mid]

/-- The prompt's result, and the samples'. -/
def resA (X : FVec Ideal S32x256x1024 .f32) (M : FVec Ideal S8x1x9216 .f32) (NP NQ : FVec Ideal S4x3x1024 .f32) (W : FVec Ideal S4x2x1024x5632 .f32) (Wo : FVec Ideal S4x2x2816x1024 .f32) : FVec Ideal S32x256x1024 .f32 :=
  FfA X (extractStridedSlice S1x1x1024 ![0, 0, 6144] (modA M) slices_S1x1x9216_S1x1x1024_0_0_6144) (extractStridedSlice S1x1x1024 ![0, 0, 7168] (modA M) slices_S1x1x9216_S1x1x1024_0_0_7168) (extractStridedSlice S1x1x1024 ![0, 0, 8192] (modA M) slices_S1x1x9216_S1x1x1024_0_0_8192)
    (extractStridedSlice S1x1x1024 ![2, 2, 0] NP slices_S4x3x1024_S1x1x1024_2_2_0) (extractStridedSlice S1x1x1024 ![2, 2, 0] NQ slices_S4x3x1024_S1x1x1024_2_2_0)
    (extractStridedSlice S1x1x1024x5632 ![2, 1, 0, 0] W slices_S4x2x1024x5632_S1x1x1024x5632_2_1_0_0) (extractStridedSlice S1x1x2816x1024 ![2, 1, 0, 0] Wo slices_S4x2x2816x1024_S1x1x2816x1024_2_1_0_0)
def resB (X : FVec Ideal S4x2048x1024 .f32) (M : FVec Ideal S8x1x9216 .f32) (NP NQ : FVec Ideal S4x3x1024 .f32) (W : FVec Ideal S4x2x1024x5632 .f32) (Wo : FVec Ideal S4x2x2816x1024 .f32) : FVec Ideal S4x2048x1024 .f32 :=
  FfB X (extractStridedSlice S4x1x1024 ![0, 0, 6144] (modB M) slices_S4x1x9216_S4x1x1024_0_0_6144) (extractStridedSlice S4x1x1024 ![0, 0, 7168] (modB M) slices_S4x1x9216_S4x1x1024_0_0_7168) (extractStridedSlice S4x1x1024 ![0, 0, 8192] (modB M) slices_S4x1x9216_S4x1x1024_0_0_8192)
    (extractStridedSlice S1x1x1024 ![2, 2, 0] NP slices_S4x3x1024_S1x1x1024_2_2_0) (extractStridedSlice S1x1x1024 ![2, 2, 0] NQ slices_S4x3x1024_S1x1x1024_2_2_0)
    (extractStridedSlice S1x1x1024x5632 ![2, 1, 0, 0] W slices_S4x2x1024x5632_S1x1x1024x5632_2_1_0_0) (extractStridedSlice S1x1x2816x1024 ![2, 1, 0, 0] Wo slices_S4x2x2816x1024_S1x1x2816x1024_2_1_0_0)

theorem resA_at (X : FVec Ideal S32x256x1024 .f32) (M : FVec Ideal S8x1x9216 .f32) (NP NQ : FVec Ideal S4x3x1024 .f32) (W : FVec Ideal S4x2x1024x5632 .f32) (Wo : FVec Ideal S4x2x2816x1024 .f32) (p : Fin 32) (q : Fin 256) (j : Fin 1024) :
    resA X M NP NQ W Wo (ix3 p q j) = rowOut (fun k => X (ix3 p q k)) (fun k => M (ix3 0 0 k)) (fun k => NP (ix3 2 2 k)) (fun k => NQ (ix3 2 2 k)) (fun k j => W (ix4 2 1 k j)) (fun k j => Wo (ix4 2 1 k j)) j := by
  unfold resA
  rw [FfA_at]
  pointwise [rowOut]

theorem resB_at (X : FVec Ideal S4x2048x1024 .f32) (M : FVec Ideal S8x1x9216 .f32) (NP NQ : FVec Ideal S4x3x1024 .f32) (W : FVec Ideal S4x2x1024x5632 .f32) (Wo : FVec Ideal S4x2x2816x1024 .f32) (p : Fin 4) (q : Fin 2048) (j : Fin 1024) :
    resB X M NP NQ W Wo (ix3 p q j) = rowOut (fun k => X (ix3 p q k)) (fun k => M (ix3 ⟨1 + p, by omega⟩ 0 k)) (fun k => NP (ix3 2 2 k)) (fun k => NQ (ix3 2 2 k)) (fun k j => W (ix4 2 1 k j)) (fun k j => Wo (ix4 2 1 k j)) j := by
  unfold resB
  rw [FfB_at]
  pointwise [rowOut]

/-- The reference's result. -/
def whole (A0 : FVec Ideal S16384x1024 .f32) (A1 A2 A3 A4 : FVec Ideal S8192x512 .f32) (M : FVec Ideal S8x1x9216 .f32) (NP NQ : FVec Ideal S4x3x1024 .f32) (W : FVec Ideal S4x2x1024x5632 .f32) (Wo : FVec Ideal S4x2x2816x1024 .f32) (Wm : FVec Ideal S2x1024x1024 .f32) : FVec Ideal S16384x1024 .f32 :=
  concatenate S16384x1024 0 [⟨S8192x1024, shapeCast _ (resA (midA (xA A0) (mixA (catA A1 A3) Wm) M NQ) M NP NQ W Wo) shapeCasts_S32x256x1024_S8192x1024⟩,
    ⟨S8192x1024, shapeCast _ (resB (midB (xB A0) (mixB (catB A2 A4) Wm) M NQ) M NP NQ W Wo) shapeCasts_S4x2048x1024_S8192x1024⟩] concatenates_S8192x1024_S8192x1024_S16384x1024_d0

theorem whole_eq (A0 : FVec Ideal S16384x1024 .f32) (A1 A2 A3 A4 : FVec Ideal S8192x512 .f32) (M : FVec Ideal S8x1x9216 .f32) (NP NQ : FVec Ideal S4x3x1024 .f32) (W : FVec Ideal S4x2x1024x5632 .f32) (Wo : FVec Ideal S4x2x2816x1024 .f32) (Wm : FVec Ideal S2x1024x1024 .f32) :
    whole A0 A1 A2 A3 A4 M NP NQ W Wo Wm = Gfin A0 A1 A2 A3 A4 M NP NQ W Wo Wm := by
  funext y
  obtain ⟨i, j, rfl⟩ : ∃ (i : Fin 16384) (j : Fin 1024), y = ix2 i j := ⟨y 0, y 1, funext fun a => by fin_cases a <;> rfl⟩
  unfold whole
  show _ = rowOut (midRow (fun k => A0 (ix2 i k)) (fun k => M (ix3 (mrow i) 0 k)) _ (rowOf A1 A2 i) (rowOf A3 A4 i) _) (fun k => M (ix3 (mrow i) 0 k)) _ _ _ _ j
  by_cases h : (i : ℕ) < 8192
  · trans resA (midA (xA A0) (mixA (catA A1 A3) Wm) M NQ) M NP NQ W Wo (ix3 ⟨i / 256, by omega⟩ ⟨i % 256, by omega⟩ j)
    · pointwise
      rw [dif_pos h]
    · have e (A B : FVec Ideal S8192x512 .f32) : rowOf A B i = fun k => A (ix2 ⟨(i : ℕ) / 256 * 256 + i % 256, by omega⟩ k) := by
        funext k
        refine (dif_pos h).trans (congrArg (fun r => A (ix2 r k)) (Fin.ext ?_))
        show (i : ℕ) = i / 256 * 256 + i % 256
        omega
      rw [resA_at, show mrow i = 0 from dif_pos h, e, e]
      simp only [midA_at, mixA_at, xA_at A0 i h]
      rfl
  · trans resB (midB (xB A0) (mixB (catB A2 A4) Wm) M NQ) M NP NQ W Wo (ix3 ⟨(i - 8192) / 2048, by omega⟩ ⟨(i - 8192) % 2048, by omega⟩ j)
    · pointwise
      rw [dif_neg h]
    · have e (A B : FVec Ideal S8192x512 .f32) : rowOf A B i = fun k => B (ix2 ⟨((i : ℕ) - 8192) / 2048 * 2048 + (i - 8192) % 2048, by omega⟩ k) := by
        funext k
        refine (dif_neg h).trans (congrArg (fun r => B (ix2 r k)) (Fin.ext ?_))
        show (i : ℕ) - 8192 = (i - 8192) / 2048 * 2048 + (i - 8192) % 2048
        omega
      rw [resB_at, show mrow i = ⟨1 + (i - 8192) / 2048, by omega⟩ from dif_neg h, e, e]
      simp only [midB_at, mixB_at, xB_at A0 i h]
      rfl

end Cert.Reference6Ideal.Value
end
-- ==== Proof.FusP.lean ====
module

public import proofs.«01_k».proof.Defs
public import proofs.«01_k».proof.Proof.FusB
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem

namespace Cert.Reference6Ideal.Value

open Cert.Reference6Ideal Cert.Reference6Ideal.Gen

set_option maxHeartbeats 8000000 in
/-- The reference's result, and its arguments unchanged. -/
theorem whole_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v170) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  hlo_run
  all_goals rfl

end Cert.Reference6Ideal.Value

namespace Cert.Proof

theorem frame_fuse : Cert.quiescent_Reference6Ideal (hReference6Ideal := Cert.Reference6Ideal.Gen.facts) := fun m g _ =>
  (θ_run _ _ _).mono (fun r h => ⟨fun c => (h c).2, sem_eq_zero_of_no_sems (by decide) _⟩) (Cert.Reference6Ideal.Value.whole_run m g)

theorem algebraic_fuse : Cert.algebraic_Kernel6Ideal_Reference6Ideal (hKernel6Ideal := Cert.Kernel6Ideal.Gen.facts) (hReference6Ideal := Cert.Reference6Ideal.Gen.facts) := by
  pair_intro
  · run_from Cert.Kernel6Ideal.Gen.run_main m g
  · run_from Cert.Reference6Ideal.Value.whole_run m' g'
    obtain ⟨h0, h1, h2, h3, h4, h5, h6, h7, h8, h9, h10⟩ := hagree c
    refine Eq.trans ?_ (Cert.Kernel6Ideal.Value.final m c).symm
    refine Eq.trans ?_ (Cert.Reference6Ideal.Value.whole_eq _ _ _ _ _ _ _ _ _ _ _)
    rw [← h0, ← h1, ← h2, ← h3, ← h4, ← h5, ← h6, ← h7, ← h8, ← h9, ← h10]

end Cert.Proof
end
-- ==== Proof.HedA.lean ====
module

public import proofs.«01_k».proof.Proof.FfnA
public import proofs.«01_k».proof.Proof.Gen.Kernel7Ideal.Frame
public import Idealize.ShloMosaic.Lib.Pipeline.ValueKit
public import Idealize.ShloMosaic.Lib.Pipeline.ReadBack
public import Idealize.ShloMosaic.Lib.Pointwise

@[expose] public section

set_option maxRecDepth 100000

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen
open Cert.Kernel2Ideal.Value (rinv hid act outRow outv rowOut)

variable (m : (ℓ : Loc nD τ sig) → Buf (Elt Ideal) ℓ)

/-- Whether a grid point works on the prompt's rows. -/
abbrev isP (i : grid0.Coords) : BitVec 1 := Scalar.cmpi .slt (BitVec.ofNat 32 (i 0).val) 16#32

/-- The rows of a tile: of the prompt or of the samples. -/
def pick (i : grid0.Coords) (A B : FVec Ideal S512x1024 .f32) : FVec Ideal S512x1024 .f32 := fun y => Scalar.select (isP i) (A y) (B y)

/-- The hidden row of the first half of a tile, at an entry. -/
theorem h0_row (i : grid0.Coords) (X0 : FVec Ideal S512x1024 .f32) (X1 : FVec Ideal S1x1x9216 .f32) (a b : FVec Ideal S256x1024 .f32) (X2 : FVec Ideal S1x1024 .f32) (r : Fin 256) (R : Fin 512)
    (hx : ∀ k, Scalar.select (isP i) (a (ix2 r k)) (b (ix2 r k)) = X0 (ix2 R k)) (k : Fin 1024) :
    k0_pay6 (F := Ideal) i X1 a b X2 (ix2 r k) = hid (fun k => X0 (ix2 R k)) (fun k => X2 (ix2 0 k)) (fun k => X1 (ix3 0 0 ⟨1024 + k, by omega⟩)) (fun k => X1 (ix3 0 0 ⟨k, by omega⟩)) k := by
  simp only [← hx]
  pointwise [k0_pay6, k0_pay4, k0_pay3, k0_pay2, hid, rinv]

/-- The hidden row of the second half of a tile, at an entry. -/
theorem h1_row (i : grid0.Coords) (X0 : FVec Ideal S512x1024 .f32) (X1 : FVec Ideal S1x1x9216 .f32) (a b : FVec Ideal S256x1024 .f32) (X2 : FVec Ideal S1x1024 .f32) (r : Fin 256) (R : Fin 512)
    (hx : ∀ k, Scalar.select (isP i) (a (ix2 r k)) (b (ix2 r k)) = X0 (ix2 R k)) (k : Fin 1024) :
    k0_pay8 (F := Ideal) (isP i) (k0_pay3 X1) (k0_pay4 X1) (k0_pay7 a) b X2 (ix2 r k) = hid (fun k => X0 (ix2 R k)) (fun k => X2 (ix2 0 k)) (fun k => X1 (ix3 0 0 ⟨1024 + k, by omega⟩)) (fun k => X1 (ix3 0 0 ⟨k, by omega⟩)) k := by
  simp only [← hx]
  pointwise [k0_pay8, k0_pay7, k0_pay4, k0_pay3, k0_pay2, hid, rinv]

/-- The activations of a whole tile. -/
def Gact (X0 : FVec Ideal S512x1024 .f32) (X1 : FVec Ideal S1x1x9216 .f32) (X2 : FVec Ideal S1x1024 .f32) (X4 : FVec Ideal S1x1x1024x5632 .f32) : FVec Ideal S512x2816 .bf16 :=
  fun y => act (hid (fun k => X0 (ix2 (y 0) k)) (fun k => X2 (ix2 0 k)) (fun k => X1 (ix3 0 0 ⟨1024 + k, by omega⟩)) (fun k => X1 (ix3 0 0 ⟨k, by omega⟩)))
    (fun k j => X4 (ix4 0 0 k j)) (y 1)

/-- The result of a whole tile. -/
def Gout (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16) : FVec Ideal S512x1024 .f32 :=
  fun y => rowOut (fun k => X0 (ix2 (y 0) k)) (fun k => X1 (ix3 0 0 k)) (fun k => X2 (ix2 0 k)) (fun k => X3 (ix2 0 k)) (fun k j => X4 (ix4 0 0 k j)) (fun k j => X5 (ix4 0 0 k j)) (y 1)

/-- A piece of activations is the block of `Gact` it is stored at. -/
theorem tile_eq (X0 : FVec Ideal S512x1024 .f32) (X1 : FVec Ideal S1x1x9216 .f32) (X2 : FVec Ideal S1x1024 .f32) (X4 : FVec Ideal S1x1x1024x5632 .f32)
    (wg wu : FVec Ideal S1x1x1024x256 .f32) (H : FVec Ideal S256x1024 .bf16) (r j : Fin 256) (y : S512x2816.Idx)
    (hH : ∀ k, H (ix2 r k) = hid (fun k => X0 (ix2 (y 0) k)) (fun k => X2 (ix2 0 k)) (fun k => X1 (ix3 0 0 ⟨1024 + k, by omega⟩)) (fun k => X1 (ix3 0 0 ⟨k, by omega⟩)) k)
    (hg : ∀ k, wg (ix4 0 0 k j) = X4 (ix4 0 0 k ⟨(y 1 : ℕ), by have : (y 1 : ℕ) < 2816 := (y 1).isLt; omega⟩))
    (hu : ∀ k, wu (ix4 0 0 k j) = X4 (ix4 0 0 k ⟨2816 + (y 1 : ℕ), by have : (y 1 : ℕ) < 2816 := (y 1).isLt; omega⟩)) :
    k0_pay15 (F := Ideal) (k0_pay9 wg) (k0_pay10 wu) H H (ix2 r j) = Gact X0 X1 X2 X4 y := by
  have e : k0_pay15 (F := Ideal) (k0_pay9 wg) (k0_pay10 wu) H H (ix2 r j) = (∑ k : Fin 1024, H (ix2 r k) * wg (ix4 0 0 k j)) * Ideal.logistic (∑ k : Fin 1024, H (ix2 r k) * wg (ix4 0 0 k j)) * (∑ k : Fin 1024, H (ix2 r k) * wu (ix4 0 0 k j)) := by
    pointwise [k0_pay15, k0_pay9, k0_pay10]
  rw [e]; simp only [hH, hg, hu]; rfl

/-- A piece of the result is the block of `Gout` it is stored at. -/
theorem out_eq (i : grid0.Coords) (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16)
    (a b : FVec Ideal S256x1024 .f32) (A : FVec Ideal S256x2816 .bf16) (r : Fin 256) (j : Fin 1024) (y : S512x1024.Idx) (hj : j = y 1)
    (hx : ∀ k, Scalar.select (isP i) (a (ix2 r k)) (b (ix2 r k)) = X0 (ix2 (y 0) k)) (hA : ∀ k, A (ix2 r k) = Gact X0 X1 X2 X4 (ix2 (y 0) k)) :
    k0_pay1 (F := Ideal) (k0_pay70 (isP i) a b) (k0_pay71 (k0_pay5 X1)) (k0_pay72 A X5 X3) (ix2 r j) = Gout X0 X1 X2 X3 X4 X5 y := by
  have e : k0_pay1 (F := Ideal) (k0_pay70 (isP i) a b) (k0_pay71 (k0_pay5 X1)) (k0_pay72 A X5 X3) (ix2 r j) =
      outv (fun k => Scalar.select (isP i) (a (ix2 r k)) (b (ix2 r k))) (fun k => X1 (ix3 0 0 ⟨2048 + k, by omega⟩)) (fun k => X3 (ix2 0 k))
      (outRow (fun k => A (ix2 r k)) (fun k j => X5 (ix4 0 0 k j))) j := by
    pointwise [k0_pay1, k0_pay70, k0_pay71, k0_pay72, k0_pay5, k0_pay2, outv, rinv, outRow]
  rw [e]; simp only [hx, hA]; subst hj; rfl

/-- Pieces of `G` that tile a buffer leave it at `G`. -/
theorem canon_of {S : Shape} {e : EltTy} (G : S.Idx → Elt Ideal e) (z : Fin S.rank → Nat) (L : List (View.Piece (Elt Ideal) S e))
    (hL : View.Piece.tiledL L z = true) (hp : View.PiecesOf G L) : View.canon L = G :=
  funext fun y => View.canon_apply_of_pieces _ L hp.mem y (View.cover_of_tiledL L _ hL y)

/-- A selection of two entries that agree with the two entries of another. -/
theorem pick_congr (v : BitVec 1) {a b a' b' : EReal} (h : a = a') (h' : b = b') : Scalar.select v a b = Scalar.select v a' b' := by rw [h, h']

set_option maxHeartbeats 2000000 in
/-- What a point leaves in the output. -/
theorem point (c : Dev nD) (t : Fin cfg0.N) : outsAt0 m c t = Gout (pick (grid0.coords t) (iblk m c 0 t) (iblk m c 1 t)) (iblk m c 2 t) (iblk m c 3 t) (iblk m c 4 t) (iblk m c 5 t) (iblk m c 6 t) := by
  have e1 : ∀ L B, scM0_1.view.readCov (Val := Elt Ideal) L B = _ := fun L B => View.readCov_eq_canon' (Val := Elt Ideal) scM0_1.view L B
  unfold outsAt0
  frame_open
  simp (disch := decide) only [↓ e1, ↓ View.readCov_skip, ↓ View.readCov_cons_toLoadRect, View.read_writes_junk_eq_canon, View.readAt_eq_ld, View.ld_unit_lit',
        Memref.IsWhole.read_unread]
  rw [canon_of (S := S512x2816) (e := .bf16) (Gact (pick (grid0.coords t) (iblk m c 0 t) (iblk m c 1 t)) (iblk m c 2 t) (iblk m c 3 t) (iblk m c 5 t)) S256x256.size]
  rotate_left
  · sl_kernel_rfl
  · dsimp only [View.PiecesOf]
    refine ⟨?_, ?_, ?_, ?_, ?_, ?_, ?_, ?_, ?_, ?_, ?_, ?_, ?_, ?_, ?_, ?_, ?_, ?_, ?_, ?_, ?_, ?_, trivial⟩
    all_goals (intro x; refine tile_eq _ _ _ _ _ _ _ (x 0) (x 1) _ ?_ ?_ ?_)
    all_goals intro k
    all_goals first | refine h0_row _ _ _ _ _ _ _ _ ?_ k; intro k; refine pick_congr _ ?_ ?_ | refine h1_row _ _ _ _ _ _ _ _ ?_ k; intro k; refine pick_congr _ ?_ ?_ | skip
    all_goals (refine View.ld_unit_apply_of _ _ _ _ _ _ fun a => ?_)
    all_goals (fin_cases a <;> simp [ValueKit.rect_emb_unit_val] <;> omega)
  · apply canon_of (S := S512x1024) (e := .f32) _ S256x1024.size
    · sl_kernel_rfl
    · dsimp only [View.PiecesOf]
      refine ⟨?_, ?_, trivial⟩
      all_goals (intro x; refine (congrArg _ (show x = ix2 (x 0) (x 1) from funext fun a => by fin_cases a <;> rfl)).trans (out_eq (grid0.coords t) _ _ _ _ _ _ _ _ _ (x 0) (x 1) _ ?_ (fun k => ?_) (fun k => ?_)))
      all_goals first
        | (refine pick_congr _ ?_ ?_ <;> (refine View.ld_unit_apply_of _ _ _ _ _ _ fun a => ?_; fin_cases a <;> simp [ValueKit.rect_emb_unit_val]))
        | (refine congrArg (Gact _ _ _ _) (funext fun a => Fin.ext ?_); fin_cases a <;> simp [ValueKit.rect_emb_unit_val, LoadRect.idx])
        | (apply Fin.ext; simp [ValueKit.rect_emb_unit_val])

end Cert.Kernel7Ideal.Value
end
-- ==== Proof.HedC.lean ====
module

public import proofs.«01_k».proof.Proof.HedA
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen
open Cert.Kernel2Ideal.Value (rinv hid act outRow outv rowOut mrow)

variable (m : (ℓ : Loc nD τ sig) → Buf (Elt Ideal) ℓ)

/-- A row of the input: of the prompt, then of the samples. -/
def rowIn (A0 : FVec Ideal S32x256x1024 .f32) (A1 : FVec Ideal S4x2048x1024 .f32) (i : Fin 16384) (k : Fin 1024) : EReal :=
  if h : (i : ℕ) < 8192 then A0 (ix3 ⟨i / 256, by omega⟩ ⟨i % 256, by omega⟩ k) else A1 (ix3 ⟨(i - 8192) / 2048, by omega⟩ ⟨(i - 8192) % 2048, by omega⟩ k)

/-- The sublayer's result. -/
def Gfin (A0 : FVec Ideal S32x256x1024 .f32) (A1 : FVec Ideal S4x2048x1024 .f32) (M : FVec Ideal S8x1x9216 .f32) (NP NQ : FVec Ideal S4x3x1024 .f32) (W : FVec Ideal S4x2x1024x5632 .f32) (Wo : FVec Ideal S4x2x2816x1024 .f32) : FVec Ideal S16384x1024 .f32 :=
  fun y => rowOut (rowIn A0 A1 (y 0)) (fun k => M (ix3 (mrow (y 0)) 0 k)) (fun k => NP (ix3 0 0 k)) (fun k => NQ (ix3 0 0 k)) (fun k j => W (ix4 0 0 k j)) (fun k j => Wo (ix4 0 0 k j)) (y 1)

/-- Where each window's block lies at a grid point. -/
theorem idx : ∀ t : Fin cfg0.N, win0_0.index t = ![min t.val 15, 0] ∧ win0_1.index t = ![t.val - 16, 0] ∧ win0_2.index t = ![if t.val < 16 then 0 else 1 + (t.val - 16) / 4, 0, 0] ∧ win0_3.index t = ![0, 0] ∧
    win0_4.index t = ![0, 0] ∧ win0_5.index t = ![0, 0, 0, 0] ∧ win0_6.index t = ![0, 0, 0, 0] ∧ win0_7.index t = ![t.val, 0] ∧ t.val < 32 ∧ isP (grid0.coords t) = (if t.val < 16 then 1 else 0) :=
  (by decide +kernel : ∀ t : Fin grid0.N, _)

theorem lt32 (t : Fin cfg0.N) : t.val < 32 := (idx t).2.2.2.2.2.2.2.2.1

theorem isP_eq (t : Fin cfg0.N) : isP (grid0.coords t) = (if t.val < 16 then 1 else 0) := (idx t).2.2.2.2.2.2.2.2.2

abbrev rowIx (t : Fin cfg0.N) (r : Fin 512) : Fin 16384 := ⟨t.val * 512 + r, by have := lt32 t; omega⟩

theorem blk0 (c : Dev nD) (t : Fin cfg0.N) (h : t.val < 16) (r : Fin 512) (k : Fin 1024) : iblk m c 0 t (ix2 r k) = m ((c.tc : Thread nD τ).loc main_arg0) (ix3 ⟨(t.val * 512 + r) / 256, by omega⟩ ⟨(t.val * 512 + r) % 256, by omega⟩ k) := by
  trans V m c main_v0 (ix2 ⟨t.val * 512 + r, by omega⟩ k)
  · have e : min t.val 15 = t.val := by omega
    blk_ext [iblk, idx t, e]
  · entry_read; pointwise

theorem blk1 (c : Dev nD) (t : Fin cfg0.N) (h : ¬t.val < 16) (r : Fin 512) (k : Fin 1024) : iblk m c 1 t (ix2 r k) = m ((c.tc : Thread nD τ).loc main_arg1) (ix3 ⟨(t.val * 512 + r - 8192) / 2048, by have := lt32 t; omega⟩ ⟨(t.val * 512 + r - 8192) % 2048, by omega⟩ k) := by
  have h32 := lt32 t
  trans V m c main_v1 (ix2 ⟨t.val * 512 + r - 8192, by omega⟩ k)
  · blk_ext [iblk, idx t]
  · entry_read; pointwise

/-- The rows of a tile are the input's. -/
theorem pick_at (c : Dev nD) (t : Fin cfg0.N) (r : Fin 512) (k : Fin 1024) : pick (grid0.coords t) (iblk m c 0 t) (iblk m c 1 t) (ix2 r k) =
    rowIn (m ((c.tc : Thread nD τ).loc main_arg0)) (m ((c.tc : Thread nD τ).loc main_arg1)) (rowIx t r) k := by
  have h32 := lt32 t
  unfold pick rowIn
  rw [isP_eq]
  by_cases h : t.val < 16
  · rw [if_pos h, dif_pos (show t.val * 512 + r.val < 8192 by omega)]
    exact (ValueIdx.select_one _ _).trans (blk0 m c t h r k)
  · rw [if_neg h, dif_neg (show ¬t.val * 512 + r.val < 8192 by omega)]
    exact (ValueIdx.select_zero _ _).trans (blk1 m c t h r k)

theorem blk2 (c : Dev nD) (t : Fin cfg0.N) (r : Fin 512) (k : Fin 9216) : iblk m c 2 t (ix3 0 0 k) = m ((c.tc : Thread nD τ).loc main_arg2) (ix3 (mrow (rowIx t r)) 0 k) := by
  have h32 := lt32 t
  have h : mrow (rowIx t r) = ⟨if t.val < 16 then 0 else 1 + (t.val - 16) / 4, by split <;> omega⟩ := by
    unfold mrow rowIx
    apply Fin.ext
    split <;> rename_i h <;> simp only at h ⊢ <;> split <;> simp <;> omega
  rw [h]
  blk_ext [iblk, V, idx t]

theorem blk3 (c : Dev nD) (t : Fin cfg0.N) (k : Fin 1024) : iblk m c 3 t (ix2 0 k) = m ((c.tc : Thread nD τ).loc main_arg3) (ix3 0 0 k) := by
  trans V m c main_v4 (ix2 0 k)
  · blk_ext [iblk, idx t]
  · entry_read; pointwise

theorem blk4 (c : Dev nD) (t : Fin cfg0.N) (k : Fin 1024) : iblk m c 4 t (ix2 0 k) = m ((c.tc : Thread nD τ).loc main_arg4) (ix3 0 0 k) := by
  trans V m c main_v7 (ix2 0 k)
  · blk_ext [iblk, idx t]
  · entry_read; pointwise

theorem blk5 (c : Dev nD) (t : Fin cfg0.N) (k : Fin 1024) (j : Fin 5632) : iblk m c 5 t (ix4 0 0 k j) = m ((c.tc : Thread nD τ).loc main_arg5) (ix4 0 0 k j) := by
  blk_ext [iblk, V, idx t]

theorem blk6 (c : Dev nD) (t : Fin cfg0.N) (k : Fin 2816) (j : Fin 1024) : iblk m c 6 t (ix4 0 0 k j) = m ((c.tc : Thread nD τ).loc main_arg6) (ix4 0 0 k j) := by
  trans V m c main_v8 (ix4 0 0 k j)
  · blk_ext [iblk, idx t]
  · entry_read; pointwise

theorem Gout_row (X0 : FVec Ideal S512x1024 .f32) (X1 : FVec Ideal S1x1x9216 .f32) (X2 X3 : FVec Ideal S1x1024 .f32) (X4 : FVec Ideal S1x1x1024x5632 .f32) (X5 : FVec Ideal S1x1x2816x1024 .bf16) (r : Fin 512) (j : Fin 1024) :
    Gout X0 X1 X2 X3 X4 X5 (ix2 r j) = rowOut (fun k => X0 (ix2 r k)) (fun k => X1 (ix3 0 0 k)) (fun k => X2 (ix2 0 k)) (fun k => X3 (ix2 0 k)) (fun k j => X4 (ix4 0 0 k j)) (fun k j => X5 (ix4 0 0 k j)) j := rfl

/-- The result, from the arrays the launch begins with. -/
def res (c : Dev nD) : FVec Ideal S16384x1024 .f32 :=
  Gfin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- A point's block of the result array. -/
theorem point_at (c : Dev nD) (t : Fin cfg0.N) (r : Fin 512) (j : Fin 1024) : outsAt0 m c t (ix2 r j) = res m c (ix2 (rowIx t r) j) := by
  rw [point]
  refine (Gout_row _ _ _ _ _ _ r j).trans ?_
  simp only [pick_at, blk2 m c t r, blk3, blk4, blk5, blk6]
  rfl

/-- The result array after the run. -/
theorem final (c : Dev nD) : (dats m 0 c).arrAt 7 (cfgs 0).N = res m c := by
  refine (dats m 0 c).arrAt_eq_of_covers 7 _ (by decide +kernel) fun t _ y => ?_
  blk_simp
  rw [after0_7]
  refine (congrArg (outsAt0 m c t) (show y = ix2 (y 0) (y 1) from funext fun a => by fin_cases a <;> rfl)).trans ((point_at m c t (y 0) (y 1)).trans (congrArg _ ?_))
  blk_ext [idx t]

end Cert.Kernel7Ideal.Value
end
-- ==== Proof.HedB.lean ====
module

public import proofs.«01_k».proof.Proof.RowB
public import proofs.«01_k».proof.Proof.HedC

@[expose] public section

set_option maxRecDepth 100000

noncomputable section

open Idealize.ShloMosaic Idealize.ShloMosaic.TcCoe Idealize.SL.Sem

namespace Cert.Reference7Ideal.Value

open Cert.Reference7Ideal Cert.Reference7Ideal.Gen Cert.Reference7Ideal.Rows
open Cert.Kernel2Ideal.Value (rinv hid act outRow outv rowOut mrow)
open Cert.Kernel7Ideal.Value (Gfin rowIn)

/-- The prompt's modulation columns from `o` on, and the samples'. -/
abbrev modA (M : FVec Ideal S8x1x9216 .f32) := extractStridedSlice S1x1x9216 ![0, 0, 0] M slices_S8x1x9216_S1x1x9216_0_0_0
abbrev modB (M : FVec Ideal S8x1x9216 .f32) := extractStridedSlice S4x1x9216 ![1, 0, 0] M slices_S8x1x9216_S4x1x9216_1_0_0

/-- The prompt's result and the samples'. -/
def resA (A0 : FVec Ideal S32x256x1024 .f32) (M : FVec Ideal S8x1x9216 .f32) (NP NQ : FVec Ideal S4x3x1024 .f32) (W : FVec Ideal S4x2x1024x5632 .f32) (Wo : FVec Ideal S4x2x2816x1024 .f32) : FVec Ideal S32x256x1024 .f32 :=
  FfA A0 (extractStridedSlice S1x1x1024 ![0, 0, 0] (modA M) slices_S1x1x9216_S1x1x1024_0_0_0) (extractStridedSlice S1x1x1024 ![0, 0, 1024] (modA M) slices_S1x1x9216_S1x1x1024_0_0_1024) (extractStridedSlice S1x1x1024 ![0, 0, 2048] (modA M) slices_S1x1x9216_S1x1x1024_0_0_2048)
    (extractStridedSlice S1x1x1024 ![0, 0, 0] NP slices_S4x3x1024_S1x1x1024_0_0_0) (extractStridedSlice S1x1x1024 ![0, 0, 0] NQ slices_S4x3x1024_S1x1x1024_0_0_0)
    (extractStridedSlice S1x1x1024x5632 ![0, 0, 0, 0] W slices_S4x2x1024x5632_S1x1x1024x5632_0_0_0_0) (extractStridedSlice S1x1x2816x1024 ![0, 0, 0, 0] Wo slices_S4x2x2816x1024_S1x1x2816x1024_0_0_0_0)
def resB (A1 : FVec Ideal S4x2048x1024 .f32) (M : FVec Ideal S8x1x9216 .f32) (NP NQ : FVec Ideal S4x3x1024 .f32) (W : FVec Ideal S4x2x1024x5632 .f32) (Wo : FVec Ideal S4x2x2816x1024 .f32) : FVec Ideal S4x2048x1024 .f32 :=
  FfB A1 (extractStridedSlice S4x1x1024 ![0, 0, 0] (modB M) slices_S4x1x9216_S4x1x1024_0_0_0) (extractStridedSlice S4x1x1024 ![0, 0, 1024] (modB M) slices_S4x1x9216_S4x1x1024_0_0_1024) (extractStridedSlice S4x1x1024 ![0, 0, 2048] (modB M) slices_S4x1x9216_S4x1x1024_0_0_2048)
    (extractStridedSlice S1x1x1024 ![0, 0, 0] NP slices_S4x3x1024_S1x1x1024_0_0_0) (extractStridedSlice S1x1x1024 ![0, 0, 0] NQ slices_S4x3x1024_S1x1x1024_0_0_0)
    (extractStridedSlice S1x1x1024x5632 ![0, 0, 0, 0] W slices_S4x2x1024x5632_S1x1x1024x5632_0_0_0_0) (extractStridedSlice S1x1x2816x1024 ![0, 0, 0, 0] Wo slices_S4x2x2816x1024_S1x1x2816x1024_0_0_0_0)

theorem resA_at (A0 : FVec Ideal S32x256x1024 .f32) (M : FVec Ideal S8x1x9216 .f32) (NP NQ : FVec Ideal S4x3x1024 .f32) (W : FVec Ideal S4x2x1024x5632 .f32) (Wo : FVec Ideal S4x2x2816x1024 .f32) (p : Fin 32) (q : Fin 256) (j : Fin 1024) :
    resA A0 M NP NQ W Wo (ix3 p q j) = rowOut (fun k => A0 (ix3 p q k)) (fun k => M (ix3 0 0 k)) (fun k => NP (ix3 0 0 k)) (fun k => NQ (ix3 0 0 k)) (fun k j => W (ix4 0 0 k j)) (fun k j => Wo (ix4 0 0 k j)) j := by
  unfold resA
  rw [FfA_at]
  pointwise [rowOut]

theorem resB_at (A1 : FVec Ideal S4x2048x1024 .f32) (M : FVec Ideal S8x1x9216 .f32) (NP NQ : FVec Ideal S4x3x1024 .f32) (W : FVec Ideal S4x2x1024x5632 .f32) (Wo : FVec Ideal S4x2x2816x1024 .f32) (p : Fin 4) (q : Fin 2048) (j : Fin 1024) :
    resB A1 M NP NQ W Wo (ix3 p q j) = rowOut (fun k => A1 (ix3 p q k)) (fun k => M (ix3 ⟨1 + p, by omega⟩ 0 k)) (fun k => NP (ix3 0 0 k)) (fun k => NQ (ix3 0 0 k)) (fun k j => W (ix4 0 0 k j)) (fun k j => Wo (ix4 0 0 k j)) j := by
  unfold resB
  rw [FfB_at]
  pointwise [rowOut]

/-- The reference's result. -/
def whole (A0 : FVec Ideal S32x256x1024 .f32) (A1 : FVec Ideal S4x2048x1024 .f32) (M : FVec Ideal S8x1x9216 .f32) (NP NQ : FVec Ideal S4x3x1024 .f32) (W : FVec Ideal S4x2x1024x5632 .f32) (Wo : FVec Ideal S4x2x2816x1024 .f32) : FVec Ideal S16384x1024 .f32 :=
  concatenate S16384x1024 0 [⟨S8192x1024, shapeCast _ (resA A0 M NP NQ W Wo) shapeCasts_S32x256x1024_S8192x1024⟩, ⟨S8192x1024, shapeCast _ (resB A1 M NP NQ W Wo) shapeCasts_S4x2048x1024_S8192x1024⟩] concatenates_S8192x1024_S8192x1024_S16384x1024_d0

theorem whole_eq (A0 : FVec Ideal S32x256x1024 .f32) (A1 : FVec Ideal S4x2048x1024 .f32) (M : FVec Ideal S8x1x9216 .f32) (NP NQ : FVec Ideal S4x3x1024 .f32) (W : FVec Ideal S4x2x1024x5632 .f32) (Wo : FVec Ideal S4x2x2816x1024 .f32) :
    whole A0 A1 M NP NQ W Wo = Gfin A0 A1 M NP NQ W Wo := by
  funext y
  obtain ⟨i, j, rfl⟩ : ∃ (i : Fin 16384) (j : Fin 1024), y = ix2 i j := ⟨y 0, y 1, funext fun a => by fin_cases a <;> rfl⟩
  unfold whole
  show _ = rowOut (rowIn A0 A1 i) (fun k => M (ix3 (mrow i) 0 k)) _ _ _ _ j
  by_cases h : (i : ℕ) < 8192
  · trans resA A0 M NP NQ W Wo (ix3 ⟨i / 256, by omega⟩ ⟨i % 256, by omega⟩ j)
    · pointwise
      rw [dif_pos h]
    · rw [resA_at, show mrow i = 0 from dif_pos h, show rowIn A0 A1 i = _ from funext fun k => dif_pos h]
  · trans resB A1 M NP NQ W Wo (ix3 ⟨(i - 8192) / 2048, by omega⟩ ⟨(i - 8192) % 2048, by omega⟩ j)
    · pointwise
      rw [dif_neg h]
    · rw [resB_at, show mrow i = ⟨1 + (i - 8192) / 2048, by omega⟩ from dif_neg h, show rowIn A0 A1 i = _ from funext fun k => dif_neg h]

end Cert.Reference7Ideal.Value
end
-- ==== Proof.HedP.lean ====
module

public import proofs.«01_k».proof.Defs
public import proofs.«01_k».proof.Proof.HedB
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem

namespace Cert.Reference7Ideal.Value

open Cert.Reference7Ideal Cert.Reference7Ideal.Gen

set_option maxHeartbeats 8000000 in
/-- The reference's result, and its arguments unchanged. -/
theorem whole_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v112) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  all_goals rfl

end Cert.Reference7Ideal.Value

namespace Cert.Proof

theorem frame_head : Cert.quiescent_Reference7Ideal (hReference7Ideal := Cert.Reference7Ideal.Gen.facts) := fun m g _ =>
  (θ_run _ _ _).mono (fun r h => ⟨fun c => (h c).2, sem_eq_zero_of_no_sems (by decide) _⟩) (Cert.Reference7Ideal.Value.whole_run m g)

theorem algebraic_head : Cert.algebraic_Kernel7Ideal_Reference7Ideal (hKernel7Ideal := Cert.Kernel7Ideal.Gen.facts) (hReference7Ideal := Cert.Reference7Ideal.Gen.facts) := by
  pair_intro
  · run_from Cert.Kernel7Ideal.Gen.run_main m g
  · run_from Cert.Reference7Ideal.Value.whole_run m' g'
    obtain ⟨h0, h1, h2, h3, h4, h5, h6⟩ := hagree c
    refine Eq.trans ?_ (Cert.Kernel7Ideal.Value.final m c).symm
    refine Eq.trans ?_ (Cert.Reference7Ideal.Value.whole_eq _ _ _ _ _ _ _)
    rw [← h0, ← h1, ← h2, ← h3, ← h4, ← h5, ← h6]

end Cert.Proof
end
-- ==== Proof.lean ====
module

public import proofs.«01_k».proof.Defs
public import proofs.«01_k».proof.Proof.Gen.Kernel.Frame
public import proofs.«01_k».proof.Proof.CtxP
public import proofs.«01_k».proof.Proof.Gen.Kernel2.Frame
public import proofs.«01_k».proof.Proof.FfnP
public import proofs.«01_k».proof.Proof.Gen.Kernel3.Frame
public import proofs.«01_k».proof.Proof.InpP
public import proofs.«01_k».proof.Proof.Gen.Kernel4.Frame
public import proofs.«01_k».proof.Proof.CnvP
public import proofs.«01_k».proof.Proof.FfsK
public import proofs.«01_k».proof.Proof.FfsP
public import proofs.«01_k».proof.Proof.Gen.Kernel6.Frame
public import proofs.«01_k».proof.Proof.FusP
public import proofs.«01_k».proof.Proof.Gen.Kernel7.Frame
public import proofs.«01_k».proof.Proof.HedP

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_ctx,
  frame_ctx_finite,
  fun m ρ _ => Cert.Kernel2.Gen.frame m ρ,
  fun m ρ _ => Cert.Kernel2Ideal.Gen.frame m ρ,
  frame_ffn,
  fun m ρ _ => Cert.Kernel3.Gen.frame m ρ,
  fun m ρ _ => Cert.Kernel3Ideal.Gen.frame m ρ,
  frame_inproj,
  fun m ρ _ => Cert.Kernel4.Gen.frame m ρ,
  fun m ρ _ => Cert.Kernel4Ideal.Gen.frame m ρ,
  frame_conv,
  frame_split,
  fun m ρ _ => Cert.Kernel5Ideal.Split.frame m ρ,
  frame_ffns,
  fun m ρ _ => Cert.Kernel6.Gen.frame m ρ,
  fun m ρ _ => Cert.Kernel6Ideal.Gen.frame m ρ,
  frame_fuse,
  fun m ρ _ => Cert.Kernel7.Gen.frame m ρ,
  fun m ρ _ => Cert.Kernel7Ideal.Gen.frame m ρ,
  frame_head,
  trivial,
  algebraic_ctx,
  trivial,
  algebraic_ffn,
  trivial,
  algebraic_inproj,
  trivial,
  algebraic_conv,
  trivial,
  algebraic_ffns,
  trivial,
  algebraic_fuse,
  trivial,
  algebraic_head⟩

end Cert.Proof

end
